-- ==== Defs.lean ====
def Pre_KernelIdeal [hPre_positive_definite : Cert.Pre_positive_definite.Facts] (m : (ℓ : Loc Cert.KernelIdeal.nD Cert.KernelIdeal.τ Cert.KernelIdeal.sig) → Buf (Elt Ideal) ℓ) : Prop :=
  ∀ c : Dev Cert.KernelIdeal.nD,
    (Cert.Pre_positive_definite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_positive_definite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_positive_definite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_positive_definite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_positive_definite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal [hPre_positive_definite : Cert.Pre_positive_definite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positive_definite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_positive_definite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_positive_definite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_positive_definite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_positive_definite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def quiescent_KernelIdeal [hKernelIdeal : Cert.KernelIdeal.Facts] [hPre_positive_definite : Cert.Pre_positive_definite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] [hPre_positive_definite : Cert.Pre_positive_definite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def algebraic_KernelIdeal_ReferenceIdeal [hKernelIdeal : Cert.KernelIdeal.Facts] [hReferenceIdeal : Cert.ReferenceIdeal.Facts] [hPre_positive_definite : Cert.Pre_positive_definite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v194) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernelIdeal : Cert.KernelIdeal.Facts) (hReferenceIdeal : Cert.ReferenceIdeal.Facts) (hPre_positive_definite : Cert.Pre_positive_definite.Facts),
    quiescent_KernelIdeal (hKernelIdeal := hKernelIdeal) (hPre_positive_definite := hPre_positive_definite)
    ∧ quiescent_ReferenceIdeal (hReferenceIdeal := hReferenceIdeal) (hPre_positive_definite := hPre_positive_definite)
    ∧ algebraic_KernelIdeal_ReferenceIdeal (hKernelIdeal := hKernelIdeal) (hReferenceIdeal := hReferenceIdeal) (hPre_positive_definite := hPre_positive_definite)
-- ==== Pre_positive_definite.lean ====
abbrev S1024x128 : Shape := ⟨2, ![1024, 128]⟩
abbrev S1024x128x128 : Shape := ⟨3, ![1024, 128, 128]⟩
abbrev S1024 : Shape := ⟨1, ![1024]⟩
abbrev S_ : Shape := ⟨0, ![]⟩

class Facts : Prop where
  bcast_S_S1024 : S_.BroadcastsInDim S1024 (![] : Fin 0 → Fin S1024.rank)
  bcast_S_S1024x128x128 : S_.BroadcastsInDim S1024x128x128 (![] : Fin 0 → Fin S1024x128x128.rank)
  dot_S1024x128x128_S1024x128x128_S1024x128x128_2_2_1_1_0_0_wf : DotDims.WF S1024x128x128 S1024x128x128 S1024x128x128 [2] [2] [1] [1] [0] [0]

variable [Facts]

def dot_S1024x128x128_S1024x128x128_S1024x128x128_2_2_1_1_0_0 : DotDims S1024x128x128 S1024x128x128 S1024x128x128 where
  lhsContracting := [2]
  rhsContracting := [2]
  lhsNonContracting := [1]
  rhsNonContracting := [1]
  lhsBatch := [0]
  rhsBatch := [0]
  wf := dot_S1024x128x128_S1024x128x128_S1024x128x128_2_2_1_1_0_0_wf
def fn {F : FTy → Type} [FloatOps F] (main_arg0 : FVec F S1024x128 .f32) (main_arg1 : FVec F S1024x128x128 .f32) (main_arg2 : FVec F S1024 .f32) (main_arg3 : IVec S_ 32) (main_arg4 : FVec F S1024x128x128 .f32) : IVec S1024 1 × IVec S1024x128x128 1 × IVec S1024x128x128 1 × IVec S1024x128x128 1 × IVec S1024x128x128 1 :=
  let main_v0 : IVec S1024x128x128 32 := iotaInDim S1024x128x128 32 1
  let main_v1 : IVec S1024x128x128 32 := iotaInDim S1024x128x128 32 2
  let main_cst : FVec F S_ .f32 := constant S_ .f32 0x00000000#32
  let main_v2 : FVec F S1024 .f32 := broadcastInDim S1024 ![] bcast_S_S1024 main_cst
  let main_v3 : IVec S1024 1 := cmpf .oge main_arg2 main_v2
  let main_v4 : FVec F S1024x128x128 .f32 := Host.absf main_arg4
  let main_cst_0 : FVec F S_ .f32 := constant S_ .f32 0x7F800000#32
  let main_v5 : FVec F S1024x128x128 .f32 := broadcastInDim S1024x128x128 ![] bcast_S_S1024x128x128 main_cst_0
  let main_v6 : IVec S1024x128x128 1 := cmpf .olt main_v4 main_v5
  let main_v7 : IVec S1024x128x128 1 := cmpi .sge main_v0 main_v1
  let main_cst_1 : FVec F S_ .f32 := constant S_ .f32 0x00000000#32
  let main_v8 : FVec F S1024x128x128 .f32 := broadcastInDim S1024x128x128 ![] bcast_S_S1024x128x128 main_cst_1
  let main_v9 : IVec S1024x128x128 1 := cmpf .oeq main_arg4 main_v8
  let main_v10 : IVec S1024x128x128 1 := ori main_v7 main_v9
  let main_v11 : IVec S1024x128x128 1 := cmpi .ne main_v0 main_v1
  let main_cst_2 : FVec F S_ .f32 := constant S_ .f32 0x00000000#32
  let main_v12 : FVec F S1024x128x128 .f32 := broadcastInDim S1024x128x128 ![] bcast_S_S1024x128x128 main_cst_2
  let main_v13 : IVec S1024x128x128 1 := cmpf .ogt main_arg4 main_v12
  let main_v14 : IVec S1024x128x128 1 := ori main_v11 main_v13
  let main_v15 : FVec F S1024x128x128 .f32 := (fun l r => Host.dotGeneral dot_S1024x128x128_S1024x128x128_S1024x128x128_2_2_1_1_0_0 none l r) main_arg4 main_arg4
  let main_v16 : IVec S1024x128x128 1 := cmpf .oeq main_arg1 main_v15
  (main_v3, main_v6, main_v10, main_v14, main_v16)
-- ==== KernelIdeal.lean ====
abbrev S1024x128 : Shape := ⟨2, ![1024, 128]⟩
abbrev S1024x128x128 : Shape := ⟨3, ![1024, 128, 128]⟩
abbrev S1024 : Shape := ⟨1, ![1024]⟩
abbrev S_ : Shape := ⟨0, ![]⟩
abbrev S1 : Shape := ⟨1, ![1]⟩
abbrev S8x128 : Shape := ⟨2, ![8, 128]⟩
abbrev S1x128 : Shape := ⟨2, ![1, 128]⟩
abbrev S128x128 : Shape := ⟨2, ![128, 128]⟩
abbrev S1x8x128 : Shape := ⟨3, ![1, 8, 128]⟩
abbrev S1x1x1 : Shape := ⟨3, ![1, 1, 1]⟩
abbrev S8x1 : Shape := ⟨2, ![8, 1]⟩
abbrev S1x1 : Shape := ⟨2, ![1, 1]⟩
abbrev S7x1 : Shape := ⟨2, ![7, 1]⟩
abbrev S2x1 : Shape := ⟨2, ![2, 1]⟩
abbrev S6x1 : Shape := ⟨2, ![6, 1]⟩
abbrev S4x1 : Shape := ⟨2, ![4, 1]⟩
abbrev S1x128x128 : Shape := ⟨3, ![1, 128, 128]⟩
abbrev S17x1 : Shape := ⟨2, ![17, 1]⟩
abbrev S1x16 : Shape := ⟨2, ![1, 16]⟩
abbrev S128x16 : Shape := ⟨2, ![128, 16]⟩
abbrev S16x128 : Shape := ⟨2, ![16, 128]⟩
abbrev S17x128 : Shape := ⟨2, ![17, 128]⟩
abbrev S17x16 : Shape := ⟨2, ![17, 16]⟩
abbrev S128 : Shape := ⟨1, ![128]⟩

abbrev nBuf : Space → Nat
  | .hbm => 9
  | .vmem => 4
  | .smem => 1
  | _ => 0

abbrev bufTy : (tb : Table) → Fin (tcTables nBuf tb) → BufTy
  | .hbm, ⟨0, _⟩ => ⟨S1024x128, .f32⟩
  | .hbm, ⟨1, _⟩ => ⟨S1024x128x128, .f32⟩
  | .hbm, ⟨2, _⟩ => ⟨S1024, .f32⟩
  | .hbm, ⟨3, _⟩ => ⟨S_, .i32⟩
  | .hbm, ⟨4, _⟩ => ⟨S1024x128x128, .f32⟩
  | .hbm, ⟨5, _⟩ => ⟨S1, .i32⟩
  | .hbm, ⟨6, _⟩ => ⟨S8x128, .f32⟩
  | .hbm, ⟨7, _⟩ => ⟨S1x128, .f32⟩
  | .hbm, ⟨8, _⟩ => ⟨S128, .f32⟩
  | .local _ .vmem, ⟨0, _⟩ => ⟨S8x128, .f32⟩
  | .local _ .vmem, ⟨1, _⟩ => ⟨S1x128, .f32⟩
  | .local _ .vmem, ⟨2, _⟩ => ⟨S128x128, .f32⟩
  | .local _ .vmem, ⟨3, _⟩ => ⟨S1x128, .f32⟩
  | .local _ .smem, ⟨0, _⟩ => ⟨S1, .i32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

def k0_off1 (v406 : BitVec 32) : Fin 3 → Nat :=
  let c0_i32_148 : BitVec 32 := 0#32
  let c0_i32_149 : BitVec 32 := 0#32
  ![v406.toNat, 0, 0]

def k0_off2 (v406 : BitVec 32) : Fin 2 → Nat :=
  let c0_i32_150 : BitVec 32 := 0#32
  ![v406.toNat, 0]

def k0_chk1 (v406 : BitVec 32) : Prop :=
  (∀ a, (k0_off1 v406) a + S1x128x128.size a ≤ S1024x128x128.size a) ∧
  (∀ a, (k0_off2 v406) a + S1x128.size a ≤ S1024x128.size a)
theorem k0_off1_inb : ∀ (v406 : BitVec 32) (k0_hw1 : k0_chk1 v406), ∀ a, (k0_off1 v406) a + S1x128x128.size a ≤ S1024x128x128.size a := fun v406 k0_hw1 => k0_hw1.1
theorem k0_off2_inb : ∀ (v406 : BitVec 32) (k0_hw1 : k0_chk1 v406), ∀ a, (k0_off2 v406) a + S1x128.size a ≤ S1024x128.size a := fun v406 k0_hw1 => k0_hw1.2

@[reducible] def k0_t1_loop : Scf.Loop 32 :=
  let c0_i32_232 : BitVec 32 := 0#32
  let c8_i32_233 : BitVec 32 := 8#32
  let v677 : BitVec 32 := Scalar.addi c0_i32_232 c8_i32_233
  let c1_i32_234 : BitVec 32 := 1#32
  ⟨c0_i32_232, v677, c1_i32_234⟩
def k0_off3 (k0_t1 : Fin k0_t1_loop.trips) : Fin 2 → Nat :=
  let c16_i32_240 : BitVec 32 := 16#32
  let c0_i32_232 : BitVec 32 := 0#32
  let c1_i32_234 : BitVec 32 := 1#32
  let arg9 : BitVec 32 := Scf.iv c0_i32_232 c1_i32_234 k0_t1
  let v682 : BitVec 32 := Scalar.muli c16_i32_240 arg9
  let v683 : Index := Scalar.indexCast v682
  let c0_241 : Index := 0#32
  ![v683.toNat, 0]
abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x128 : Shape := ⟨2, ![1024, 128]⟩
abbrev S1024x128x128 : Shape := ⟨3, ![1024, 128, 128]⟩
abbrev S1024 : Shape := ⟨1, ![1024]⟩
abbrev S_ : Shape := ⟨0, ![]⟩
abbrev S1 : Shape := ⟨1, ![1]⟩
abbrev S2 : Shape := ⟨1, ![2]⟩
abbrev S2x1 : Shape := ⟨2, ![2, 1]⟩
abbrev S2x2 : Shape := ⟨2, ![2, 2]⟩
abbrev S1x2 : Shape := ⟨2, ![1, 2]⟩
abbrev S128 : Shape := ⟨1, ![128]⟩
abbrev S1x128 : Shape := ⟨2, ![1, 128]⟩
abbrev S1x128x128 : Shape := ⟨3, ![1, 128, 128]⟩
abbrev S128x128 : Shape := ⟨2, ![128, 128]⟩
abbrev S128x1 : Shape := ⟨2, ![128, 1]⟩

abbrev nBuf : Space → Nat
  | .hbm => 973
  | .vmem => 0
  | .smem => 0
  | _ => 0

abbrev hbmTy0_0 (i : Nat) : BufTy := match i % 128 with
  | 0 => ⟨S1024x128, .f32⟩
  | 1 => ⟨S1024x128x128, .f32⟩
  | 2 => ⟨S1024, .f32⟩
  | 3 => ⟨S_, .i32⟩
  | 4 => ⟨S1024x128x128, .f32⟩
  | 5 => ⟨S_, .i32⟩
  | 6 => ⟨S_, .i32⟩
  | 7 => ⟨S_, .i32⟩
  | 8 => ⟨S1, .i32⟩
  | 9 => ⟨S_, .i32⟩
  | 10 => ⟨S_, .i32⟩
  | 11 => ⟨S_, .i32⟩
  | 12 => ⟨S1, .i32⟩
  | 13 => ⟨S2, .i32⟩
  | 14 => ⟨S_, .f32⟩
  | 15 => ⟨S_, .f32⟩
  | 16 => ⟨S1024, .f32⟩
  | 17 => ⟨S1024, .f32⟩
  | 18 => ⟨S1, .i32⟩
  | 19 => ⟨S_, .i32⟩
  | 20 => ⟨S1, .i32⟩
  | 21 => ⟨S_, .i32⟩
  | 22 => ⟨S2, .i64⟩
  | 23 => ⟨S_, .i64⟩
  | 24 => ⟨S2, .i64⟩
  | 25 => ⟨S2, .i64⟩
  | 26 => ⟨S_, .i64⟩
  | 27 => ⟨S2, .i64⟩
  | 28 => ⟨S2, .i64⟩
  | 29 => ⟨S2, .i32⟩
  | 30 => ⟨S2, .i32⟩
  | 31 => ⟨S_, .i32⟩
  | 32 => ⟨S_, .i32⟩
  | 33 => ⟨S_, .i32⟩
  | 34 => ⟨S2, .i32⟩
  | 35 => ⟨S2, .i32⟩
  | 36 => ⟨S2, .i32⟩
  | 37 => ⟨S2, .i32⟩
  | 38 => ⟨S2, .i32⟩
  | 39 => ⟨S_, .i32⟩
  | 40 => ⟨S2, .i32⟩
  | 41 => ⟨S2, .i32⟩
  | 42 => ⟨S_, .i32⟩
  | 43 => ⟨S2, .i32⟩
  | 44 => ⟨S2, .i32⟩
  | 45 => ⟨S2, .i32⟩
  | 46 => ⟨S2, .i32⟩
  | 47 => ⟨S2, .i32⟩
  | 48 => ⟨S_, .i32⟩
  | 49 => ⟨S2, .i32⟩
  | 50 => ⟨S2, .i32⟩
  | 51 => ⟨S_, .i32⟩
  | 52 => ⟨S2, .i32⟩
  | 53 => ⟨S2, .i32⟩
  | 54 => ⟨S2, .i32⟩
  | 55 => ⟨S2, .i32⟩
  | 56 => ⟨S2, .i32⟩
  | 57 => ⟨S_, .i32⟩
  | 58 => ⟨S2, .i32⟩
  | 59 => ⟨S2, .i32⟩
  | 60 => ⟨S_, .i32⟩
  | 61 => ⟨S2, .i32⟩
  | 62 => ⟨S2, .i32⟩
  | 63 => ⟨S2, .i32⟩
  | 64 => ⟨S2, .i32⟩
  | 65 => ⟨S2, .i32⟩
  | 66 => ⟨S_, .i32⟩
  | 67 => ⟨S2, .i32⟩
  | 68 => ⟨S2, .i32⟩
  | 69 => ⟨S_, .i32⟩
  | 70 => ⟨S2, .i32⟩
  | 71 => ⟨S2, .i32⟩
  | 72 => ⟨S2, .i32⟩
  | 73 => ⟨S2, .i32⟩
  | 74 => ⟨S2, .i32⟩
  | 75 => ⟨S2, .i32⟩
  | 76 => ⟨S2, .i32⟩
  | 77 => ⟨S2, .i32⟩
  | 78 => ⟨S_, .i32⟩
  | 79 => ⟨S2, .i32⟩
  | 80 => ⟨S2, .i32⟩
  | 81 => ⟨S2, .i32⟩
  | 82 => ⟨S_, .i32⟩
  | 83 => ⟨S2, .i32⟩
  | 84 => ⟨S2, .i32⟩
  | 85 => ⟨S_, .i32⟩
  | 86 => ⟨S2, .i32⟩
  | 87 => ⟨S2, .i32⟩
  | 88 => ⟨S2, .i32⟩
  | 89 => ⟨S2, .i32⟩
  | 90 => ⟨S2, .i32⟩
  | 91 => ⟨S_, .i32⟩
  | 92 => ⟨S2, .i32⟩
  | 93 => ⟨S2, .i32⟩
  | 94 => ⟨S_, .i32⟩
  | 95 => ⟨S2, .i32⟩
  | 96 => ⟨S2, .i32⟩
  | 97 => ⟨S2, .i32⟩
  | 98 => ⟨S2, .i32⟩
  | 99 => ⟨S2, .i32⟩
  | 100 => ⟨S_, .i32⟩
  | 101 => ⟨S2, .i32⟩
  | 102 => ⟨S2, .i32⟩
  | 103 => ⟨S_, .i32⟩
  | 104 => ⟨S2, .i32⟩
  | 105 => ⟨S2, .i32⟩
  | 106 => ⟨S2, .i32⟩
  | 107 => ⟨S2, .i32⟩
  | 108 => ⟨S2, .i32⟩
  | 109 => ⟨S_, .i32⟩
  | 110 => ⟨S2, .i32⟩
  | 111 => ⟨S2, .i32⟩
  | 112 => ⟨S_, .i32⟩
  | 113 => ⟨S2, .i32⟩
  | 114 => ⟨S2, .i32⟩
  | 115 => ⟨S2, .i32⟩
  | 116 => ⟨S2, .i32⟩
  | 117 => ⟨S2, .i32⟩
  | 118 => ⟨S2, .i32⟩
  | 119 => ⟨S2, .i32⟩
  | 120 => ⟨S2, .i32⟩
  | 121 => ⟨S_, .i32⟩
  | 122 => ⟨S2, .i32⟩
  | 123 => ⟨S2, .i32⟩
  | 124 => ⟨S2, .i32⟩
  | 125 => ⟨S_, .i32⟩
  | 126 => ⟨S2, .i32⟩
  | 127 => ⟨S2, .i32⟩
  | _ => ⟨S1024x128, .f32⟩

abbrev hbmTy0_1 (i : Nat) : BufTy := match i % 128 with
  | 0 => ⟨S_, .i32⟩
  | 1 => ⟨S2, .i32⟩
  | 2 => ⟨S2, .i32⟩
  | 3 => ⟨S2, .i32⟩
  | 4 => ⟨S2, .i32⟩
  | 5 => ⟨S2, .i32⟩
  | 6 => ⟨S_, .i32⟩
  | 7 => ⟨S2, .i32⟩
  | 8 => ⟨S2, .i32⟩
  | 9 => ⟨S_, .i32⟩
  | 10 => ⟨S2, .i32⟩
  | 11 => ⟨S2, .i32⟩
  | 12 => ⟨S2, .i32⟩
  | 13 => ⟨S2, .i32⟩
  | 14 => ⟨S2, .i32⟩
  | 15 => ⟨S_, .i32⟩
  | 16 => ⟨S2, .i32⟩
  | 17 => ⟨S2, .i32⟩
  | 18 => ⟨S_, .i32⟩
  | 19 => ⟨S2, .i32⟩
  | 20 => ⟨S2, .i32⟩
  | 21 => ⟨S2, .i32⟩
  | 22 => ⟨S2, .i32⟩
  | 23 => ⟨S2, .i32⟩
  | 24 => ⟨S_, .i32⟩
  | 25 => ⟨S2, .i32⟩
  | 26 => ⟨S2, .i32⟩
  | 27 => ⟨S_, .i32⟩
  | 28 => ⟨S2, .i32⟩
  | 29 => ⟨S2, .i32⟩
  | 30 => ⟨S2, .i32⟩
  | 31 => ⟨S2, .i32⟩
  | 32 => ⟨S2, .i32⟩
  | 33 => ⟨S2, .i32⟩
  | 34 => ⟨S2, .i32⟩
  | 35 => ⟨S2, .i32⟩
  | 36 => ⟨S_, .i32⟩
  | 37 => ⟨S2, .i32⟩
  | 38 => ⟨S2, .i32⟩
  | 39 => ⟨S2, .i32⟩
  | 40 => ⟨S_, .i32⟩
  | 41 => ⟨S2, .i32⟩
  | 42 => ⟨S2, .i32⟩
  | 43 => ⟨S_, .i32⟩
  | 44 => ⟨S2, .i32⟩
  | 45 => ⟨S2, .i32⟩
  | 46 => ⟨S2, .i32⟩
  | 47 => ⟨S2, .i32⟩
  | 48 => ⟨S2, .i32⟩
  | 49 => ⟨S_, .i32⟩
  | 50 => ⟨S2, .i32⟩
  | 51 => ⟨S2, .i32⟩
  | 52 => ⟨S_, .i32⟩
  | 53 => ⟨S2, .i32⟩
  | 54 => ⟨S2, .i32⟩
  | 55 => ⟨S2, .i32⟩
  | 56 => ⟨S2, .i32⟩
  | 57 => ⟨S2, .i32⟩
  | 58 => ⟨S_, .i32⟩
  | 59 => ⟨S2, .i32⟩
  | 60 => ⟨S2, .i32⟩
  | 61 => ⟨S_, .i32⟩
  | 62 => ⟨S2, .i32⟩
  | 63 => ⟨S2, .i32⟩
  | 64 => ⟨S2, .i32⟩
  | 65 => ⟨S2, .i32⟩
  | 66 => ⟨S2, .i32⟩
  | 67 => ⟨S_, .i32⟩
  | 68 => ⟨S2, .i32⟩
  | 69 => ⟨S2, .i32⟩
  | 70 => ⟨S_, .i32⟩
  | 71 => ⟨S2, .i32⟩
  | 72 => ⟨S2, .i32⟩
  | 73 => ⟨S2, .i32⟩
  | 74 => ⟨S2, .i32⟩
  | 75 => ⟨S2, .i32⟩
  | 76 => ⟨S2, .i32⟩
  | 77 => ⟨S2, .i32⟩
  | 78 => ⟨S2, .i32⟩
  | 79 => ⟨S_, .i32⟩
  | 80 => ⟨S2, .i32⟩
  | 81 => ⟨S2, .i32⟩
  | 82 => ⟨S2, .i32⟩
  | 83 => ⟨S_, .i32⟩
  | 84 => ⟨S2, .i32⟩
  | 85 => ⟨S2, .i32⟩
  | 86 => ⟨S_, .i32⟩
  | 87 => ⟨S2, .i32⟩
  | 88 => ⟨S2, .i32⟩
  | 89 => ⟨S2, .i32⟩
  | 90 => ⟨S2, .i32⟩
  | 91 => ⟨S2, .i32⟩
  | 92 => ⟨S_, .i32⟩
  | 93 => ⟨S2, .i32⟩
  | 94 => ⟨S2, .i32⟩
  | 95 => ⟨S_, .i32⟩
  | 96 => ⟨S2, .i32⟩
  | 97 => ⟨S2, .i32⟩
  | 98 => ⟨S2, .i32⟩
  | 99 => ⟨S2, .i32⟩
  | 100 => ⟨S2, .i32⟩
  | 101 => ⟨S_, .i32⟩
  | 102 => ⟨S2, .i32⟩
  | 103 => ⟨S2, .i32⟩
  | 104 => ⟨S_, .i32⟩
  | 105 => ⟨S2, .i32⟩
  | 106 => ⟨S2, .i32⟩
  | 107 => ⟨S2, .i32⟩
  | 108 => ⟨S2, .i32⟩
  | 109 => ⟨S2, .i32⟩
  | 110 => ⟨S_, .i32⟩
  | 111 => ⟨S2, .i32⟩
  | 112 => ⟨S2, .i32⟩
  | 113 => ⟨S_, .i32⟩
  | 114 => ⟨S2, .i32⟩
  | 115 => ⟨S2, .i32⟩
  | 116 => ⟨S2, .i32⟩
  | 117 => ⟨S2, .i32⟩
  | 118 => ⟨S2, .i32⟩
  | 119 => ⟨S2, .i32⟩
  | 120 => ⟨S2, .i32⟩
  | 121 => ⟨S2, .i32⟩
  | 122 => ⟨S_, .i32⟩
  | 123 => ⟨S2, .i32⟩
  | 124 => ⟨S2, .i32⟩
  | 125 => ⟨S2x1, .i32⟩
  | 126 => ⟨S2x1, .i32⟩
  | 127 => ⟨S2x2, .i32⟩
  | _ => ⟨S1024x128, .f32⟩

abbrev hbmTy0_2 (i : Nat) : BufTy := match i % 128 with
  | 0 => ⟨S1x2, .i32⟩
  | 1 => ⟨S2, .i32⟩
  | 2 => ⟨S1x2, .i32⟩
  | 3 => ⟨S2, .i32⟩
  | 4 => ⟨S_, .f32⟩
  | 5 => ⟨S_, .f32⟩
  | 6 => ⟨S1024, .f32⟩
  | 7 => ⟨S1, .f32⟩
  | 8 => ⟨S_, .f32⟩
  | 9 => ⟨S1, .i32⟩
  | 10 => ⟨S_, .i32⟩
  | 11 => ⟨S1, .i32⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S_, .i32⟩
  | 37 => ⟨S_, .i32⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S_, .i32⟩
  | 45 => ⟨S_, .i32⟩
  | 46 => ⟨S_, .i32⟩
  | 47 => ⟨S_, .i32⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S_, .i32⟩
  | 55 => ⟨S_, .i32⟩
  | 56 => ⟨S_, .i32⟩
  | 57 => ⟨S_, .i32⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S_, .i32⟩
  | 66 => ⟨S_, .i32⟩
  | 67 => ⟨S_, .i32⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S_, .i32⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S_, .i32⟩
  | 84 => ⟨S_, .i32⟩
  | 85 => ⟨S_, .i32⟩
  | 86 => ⟨S_, .i32⟩
  | 87 => ⟨S_, .i32⟩
  | 88 => ⟨S_, .i32⟩
  | 89 => ⟨S_, .i32⟩
  | 90 => ⟨S_, .i32⟩
  | 91 => ⟨S_, .i32⟩
  | 92 => ⟨S_, .i32⟩
  | 93 => ⟨S_, .i32⟩
  | 94 => ⟨S_, .i32⟩
  | 95 => ⟨S_, .i32⟩
  | 96 => ⟨S_, .i32⟩
  | 97 => ⟨S_, .i32⟩
  | 98 => ⟨S_, .i32⟩
  | 99 => ⟨S_, .i32⟩
  | 100 => ⟨S_, .i32⟩
  | 101 => ⟨S_, .i32⟩
  | 102 => ⟨S_, .i32⟩
  | 103 => ⟨S_, .i32⟩
  | 104 => ⟨S_, .i32⟩
  | 105 => ⟨S_, .i32⟩
  | 106 => ⟨S_, .i32⟩
  | 107 => ⟨S_, .i32⟩
  | 108 => ⟨S_, .i32⟩
  | 109 => ⟨S_, .i32⟩
  | 110 => ⟨S_, .i32⟩
  | 111 => ⟨S_, .i32⟩
  | 112 => ⟨S_, .i32⟩
  | 113 => ⟨S_, .i32⟩
  | 114 => ⟨S_, .i32⟩
  | 115 => ⟨S_, .i32⟩
  | 116 => ⟨S_, .i32⟩
  | 117 => ⟨S_, .i32⟩
  | 118 => ⟨S_, .i32⟩
  | 119 => ⟨S_, .i32⟩
  | 120 => ⟨S_, .i32⟩
  | 121 => ⟨S_, .i32⟩
  | 122 => ⟨S_, .i32⟩
  | 123 => ⟨S_, .i32⟩
  | 124 => ⟨S_, .i32⟩
  | 125 => ⟨S_, .i32⟩
  | 126 => ⟨S_, .i32⟩
  | 127 => ⟨S_, .i32⟩
  | _ => ⟨S1024x128, .f32⟩

abbrev hbmTy0_3 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S_, .i32⟩
  | 37 => ⟨S_, .i32⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S_, .i32⟩
  | 45 => ⟨S_, .i32⟩
  | 46 => ⟨S_, .i32⟩
  | 47 => ⟨S_, .i32⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S_, .i32⟩
  | 55 => ⟨S_, .i32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S1024, .f32⟩
  | 63 => ⟨S1024, .i1⟩
  | 64 => ⟨S1024, .i32⟩
  | 65 => ⟨S_, .i32⟩
  | 66 => ⟨S_, .i32⟩
  | 67 => ⟨S1, .i32⟩
  | 68 => ⟨S_, .i32⟩
  | 69 => ⟨S1, .i32⟩
  | 70 => ⟨S_, .i32⟩
  | 71 => ⟨S128, .i64⟩
  | 72 => ⟨S_, .i64⟩
  | 73 => ⟨S128, .i64⟩
  | 74 => ⟨S128, .i64⟩
  | 75 => ⟨S_, .i64⟩
  | 76 => ⟨S128, .i64⟩
  | 77 => ⟨S128, .i64⟩
  | 78 => ⟨S128, .i32⟩
  | 79 => ⟨S128, .i32⟩
  | 80 => ⟨S_, .i32⟩
  | 81 => ⟨S_, .i32⟩
  | 82 => ⟨S_, .i32⟩
  | 83 => ⟨S128, .i32⟩
  | 84 => ⟨S128, .i32⟩
  | 85 => ⟨S128, .i32⟩
  | 86 => ⟨S128, .i32⟩
  | 87 => ⟨S128, .i32⟩
  | 88 => ⟨S_, .i32⟩
  | 89 => ⟨S128, .i32⟩
  | 90 => ⟨S128, .i32⟩
  | 91 => ⟨S_, .i32⟩
  | 92 => ⟨S128, .i32⟩
  | 93 => ⟨S128, .i32⟩
  | 94 => ⟨S128, .i32⟩
  | 95 => ⟨S128, .i32⟩
  | 96 => ⟨S128, .i32⟩
  | 97 => ⟨S_, .i32⟩
  | 98 => ⟨S128, .i32⟩
  | 99 => ⟨S128, .i32⟩
  | 100 => ⟨S_, .i32⟩
  | 101 => ⟨S128, .i32⟩
  | 102 => ⟨S128, .i32⟩
  | 103 => ⟨S128, .i32⟩
  | 104 => ⟨S128, .i32⟩
  | 105 => ⟨S128, .i32⟩
  | 106 => ⟨S_, .i32⟩
  | 107 => ⟨S128, .i32⟩
  | 108 => ⟨S128, .i32⟩
  | 109 => ⟨S_, .i32⟩
  | 110 => ⟨S128, .i32⟩
  | 111 => ⟨S128, .i32⟩
  | 112 => ⟨S128, .i32⟩
  | 113 => ⟨S128, .i32⟩
  | 114 => ⟨S128, .i32⟩
  | 115 => ⟨S_, .i32⟩
  | 116 => ⟨S128, .i32⟩
  | 117 => ⟨S128, .i32⟩
  | 118 => ⟨S_, .i32⟩
  | 119 => ⟨S128, .i32⟩
  | 120 => ⟨S128, .i32⟩
  | 121 => ⟨S128, .i32⟩
  | 122 => ⟨S128, .i32⟩
  | 123 => ⟨S128, .i32⟩
  | 124 => ⟨S128, .i32⟩
  | 125 => ⟨S128, .i32⟩
  | 126 => ⟨S128, .i32⟩
  | 127 => ⟨S_, .i32⟩
  | _ => ⟨S1024x128, .f32⟩

abbrev hbmTy0_4 (i : Nat) : BufTy := match i % 128 with
  | 0 => ⟨S128, .i32⟩
  | 1 => ⟨S128, .i32⟩
  | 2 => ⟨S128, .i32⟩
  | 3 => ⟨S_, .i32⟩
  | 4 => ⟨S128, .i32⟩
  | 5 => ⟨S128, .i32⟩
  | 6 => ⟨S_, .i32⟩
  | 7 => ⟨S128, .i32⟩
  | 8 => ⟨S128, .i32⟩
  | 9 => ⟨S128, .i32⟩
  | 10 => ⟨S128, .i32⟩
  | 11 => ⟨S128, .i32⟩
  | 12 => ⟨S_, .i32⟩
  | 13 => ⟨S128, .i32⟩
  | 14 => ⟨S128, .i32⟩
  | 15 => ⟨S_, .i32⟩
  | 16 => ⟨S128, .i32⟩
  | 17 => ⟨S128, .i32⟩
  | 18 => ⟨S128, .i32⟩
  | 19 => ⟨S128, .i32⟩
  | 20 => ⟨S128, .i32⟩
  | 21 => ⟨S_, .i32⟩
  | 22 => ⟨S128, .i32⟩
  | 23 => ⟨S128, .i32⟩
  | 24 => ⟨S_, .i32⟩
  | 25 => ⟨S128, .i32⟩
  | 26 => ⟨S128, .i32⟩
  | 27 => ⟨S128, .i32⟩
  | 28 => ⟨S128, .i32⟩
  | 29 => ⟨S128, .i32⟩
  | 30 => ⟨S_, .i32⟩
  | 31 => ⟨S128, .i32⟩
  | 32 => ⟨S128, .i32⟩
  | 33 => ⟨S_, .i32⟩
  | 34 => ⟨S128, .i32⟩
  | 35 => ⟨S128, .i32⟩
  | 36 => ⟨S128, .i32⟩
  | 37 => ⟨S128, .i32⟩
  | 38 => ⟨S128, .i32⟩
  | 39 => ⟨S128, .i32⟩
  | 40 => ⟨S128, .i32⟩
  | 41 => ⟨S128, .i32⟩
  | 42 => ⟨S_, .i32⟩
  | 43 => ⟨S128, .i32⟩
  | 44 => ⟨S128, .i32⟩
  | 45 => ⟨S128, .i32⟩
  | 46 => ⟨S_, .i32⟩
  | 47 => ⟨S128, .i32⟩
  | 48 => ⟨S128, .i32⟩
  | 49 => ⟨S_, .i32⟩
  | 50 => ⟨S128, .i32⟩
  | 51 => ⟨S128, .i32⟩
  | 52 => ⟨S128, .i32⟩
  | 53 => ⟨S128, .i32⟩
  | 54 => ⟨S128, .i32⟩
  | 55 => ⟨S_, .i32⟩
  | 56 => ⟨S128, .i32⟩
  | 57 => ⟨S128, .i32⟩
  | 58 => ⟨S_, .i32⟩
  | 59 => ⟨S128, .i32⟩
  | 60 => ⟨S128, .i32⟩
  | 61 => ⟨S128, .i32⟩
  | 62 => ⟨S128, .i32⟩
  | 63 => ⟨S128, .i32⟩
  | 64 => ⟨S_, .i32⟩
  | 65 => ⟨S128, .i32⟩
  | 66 => ⟨S128, .i32⟩
  | 67 => ⟨S_, .i32⟩
  | 68 => ⟨S128, .i32⟩
  | 69 => ⟨S128, .i32⟩
  | 70 => ⟨S128, .i32⟩
  | 71 => ⟨S128, .i32⟩
  | 72 => ⟨S128, .i32⟩
  | 73 => ⟨S_, .i32⟩
  | 74 => ⟨S128, .i32⟩
  | 75 => ⟨S128, .i32⟩
  | 76 => ⟨S_, .i32⟩
  | 77 => ⟨S128, .i32⟩
  | 78 => ⟨S128, .i32⟩
  | 79 => ⟨S128, .i32⟩
  | 80 => ⟨S128, .i32⟩
  | 81 => ⟨S128, .i32⟩
  | 82 => ⟨S128, .i32⟩
  | 83 => ⟨S128, .i32⟩
  | 84 => ⟨S128, .i32⟩
  | 85 => ⟨S_, .i32⟩
  | 86 => ⟨S128, .i32⟩
  | 87 => ⟨S128, .i32⟩
  | 88 => ⟨S128, .i32⟩
  | 89 => ⟨S_, .i32⟩
  | 90 => ⟨S128, .i32⟩
  | 91 => ⟨S128, .i32⟩
  | 92 => ⟨S_, .i32⟩
  | 93 => ⟨S128, .i32⟩
  | 94 => ⟨S128, .i32⟩
  | 95 => ⟨S128, .i32⟩
  | 96 => ⟨S128, .i32⟩
  | 97 => ⟨S128, .i32⟩
  | 98 => ⟨S_, .i32⟩
  | 99 => ⟨S128, .i32⟩
  | 100 => ⟨S128, .i32⟩
  | 101 => ⟨S_, .i32⟩
  | 102 => ⟨S128, .i32⟩
  | 103 => ⟨S128, .i32⟩
  | 104 => ⟨S128, .i32⟩
  | 105 => ⟨S128, .i32⟩
  | 106 => ⟨S128, .i32⟩
  | 107 => ⟨S_, .i32⟩
  | 108 => ⟨S128, .i32⟩
  | 109 => ⟨S128, .i32⟩
  | 110 => ⟨S_, .i32⟩
  | 111 => ⟨S128, .i32⟩
  | 112 => ⟨S128, .i32⟩
  | 113 => ⟨S128, .i32⟩
  | 114 => ⟨S128, .i32⟩
  | 115 => ⟨S128, .i32⟩
  | 116 => ⟨S_, .i32⟩
  | 117 => ⟨S128, .i32⟩
  | 118 => ⟨S128, .i32⟩
  | 119 => ⟨S_, .i32⟩
  | 120 => ⟨S128, .i32⟩
  | 121 => ⟨S128, .i32⟩
  | 122 => ⟨S128, .i32⟩
  | 123 => ⟨S128, .i32⟩
  | 124 => ⟨S128, .i32⟩
  | 125 => ⟨S128, .i32⟩
  | 126 => ⟨S128, .i32⟩
  | 127 => ⟨S128, .i32⟩
  | _ => ⟨S1024x128, .f32⟩

abbrev hbmTy0_5 (i : Nat) : BufTy := match i % 128 with
  | 0 => ⟨S_, .i32⟩
  | 1 => ⟨S128, .i32⟩
  | 2 => ⟨S128, .i32⟩
  | 3 => ⟨S128, .i32⟩
  | 4 => ⟨S_, .i32⟩
  | 5 => ⟨S128, .i32⟩
  | 6 => ⟨S128, .i32⟩
  | 7 => ⟨S_, .i32⟩
  | 8 => ⟨S128, .i32⟩
  | 9 => ⟨S128, .i32⟩
  | 10 => ⟨S128, .i32⟩
  | 11 => ⟨S128, .i32⟩
  | 12 => ⟨S128, .i32⟩
  | 13 => ⟨S_, .i32⟩
  | 14 => ⟨S128, .i32⟩
  | 15 => ⟨S128, .i32⟩
  | 16 => ⟨S_, .i32⟩
  | 17 => ⟨S128, .i32⟩
  | 18 => ⟨S128, .i32⟩
  | 19 => ⟨S128, .i32⟩
  | 20 => ⟨S128, .i32⟩
  | 21 => ⟨S128, .i32⟩
  | 22 => ⟨S_, .i32⟩
  | 23 => ⟨S128, .i32⟩
  | 24 => ⟨S128, .i32⟩
  | 25 => ⟨S_, .i32⟩
  | 26 => ⟨S128, .i32⟩
  | 27 => ⟨S128, .i32⟩
  | 28 => ⟨S128, .i32⟩
  | 29 => ⟨S128, .i32⟩
  | 30 => ⟨S128, .i32⟩
  | 31 => ⟨S_, .i32⟩
  | 32 => ⟨S128, .i32⟩
  | 33 => ⟨S128, .i32⟩
  | 34 => ⟨S_, .i32⟩
  | 35 => ⟨S128, .i32⟩
  | 36 => ⟨S128, .i32⟩
  | 37 => ⟨S128, .i32⟩
  | 38 => ⟨S128, .i32⟩
  | 39 => ⟨S128, .i32⟩
  | 40 => ⟨S128, .i32⟩
  | 41 => ⟨S128, .i32⟩
  | 42 => ⟨S128, .i32⟩
  | 43 => ⟨S_, .i32⟩
  | 44 => ⟨S128, .i32⟩
  | 45 => ⟨S128, .i32⟩
  | 46 => ⟨S128, .i32⟩
  | 47 => ⟨S_, .i32⟩
  | 48 => ⟨S128, .i32⟩
  | 49 => ⟨S128, .i32⟩
  | 50 => ⟨S128, .i32⟩
  | 51 => ⟨S128, .f32⟩
  | 52 => ⟨S_, .f32⟩
  | 53 => ⟨S128, .f32⟩
  | 54 => ⟨S128, .f32⟩
  | 55 => ⟨S_, .f32⟩
  | 56 => ⟨S_, .f32⟩
  | 57 => ⟨S_, .f32⟩
  | 58 => ⟨S128, .f32⟩
  | 59 => ⟨S128, .f32⟩
  | 60 => ⟨S_, .f32⟩
  | 61 => ⟨S128, .f32⟩
  | 62 => ⟨S128, .f32⟩
  | 63 => ⟨S_, .f32⟩
  | 64 => ⟨S128, .f32⟩
  | 65 => ⟨S128, .f32⟩
  | 66 => ⟨S128, .f32⟩
  | 67 => ⟨S128, .f32⟩
  | 68 => ⟨S128, .f32⟩
  | 69 => ⟨S128, .f32⟩
  | 70 => ⟨S_, .f32⟩
  | 71 => ⟨S128, .f32⟩
  | 72 => ⟨S128, .f32⟩
  | 73 => ⟨S_, .f32⟩
  | 74 => ⟨S128, .f32⟩
  | 75 => ⟨S128, .f32⟩
  | 76 => ⟨S_, .f32⟩
  | 77 => ⟨S128, .f32⟩
  | 78 => ⟨S128, .f32⟩
  | 79 => ⟨S_, .f32⟩
  | 80 => ⟨S128, .f32⟩
  | 81 => ⟨S128, .f32⟩
  | 82 => ⟨S128, .f32⟩
  | 83 => ⟨S_, .f32⟩
  | 84 => ⟨S128, .f32⟩
  | 85 => ⟨S128, .f32⟩
  | 86 => ⟨S_, .f32⟩
  | 87 => ⟨S128, .f32⟩
  | 88 => ⟨S128, .f32⟩
  | 89 => ⟨S128, .f32⟩
  | 90 => ⟨S_, .f32⟩
  | 91 => ⟨S128, .f32⟩
  | 92 => ⟨S128, .f32⟩
  | 93 => ⟨S_, .f32⟩
  | 94 => ⟨S128, .f32⟩
  | 95 => ⟨S128, .f32⟩
  | 96 => ⟨S128, .f32⟩
  | 97 => ⟨S_, .f32⟩
  | 98 => ⟨S128, .f32⟩
  | 99 => ⟨S128, .f32⟩
  | 100 => ⟨S_, .f32⟩
  | 101 => ⟨S128, .f32⟩
  | 102 => ⟨S128, .f32⟩
  | 103 => ⟨S128, .f32⟩
  | 104 => ⟨S_, .f32⟩
  | 105 => ⟨S128, .f32⟩
  | 106 => ⟨S128, .f32⟩
  | 107 => ⟨S_, .f32⟩
  | 108 => ⟨S128, .f32⟩
  | 109 => ⟨S128, .f32⟩
  | 110 => ⟨S128, .f32⟩
  | 111 => ⟨S_, .f32⟩
  | 112 => ⟨S128, .f32⟩
  | 113 => ⟨S128, .f32⟩
  | 114 => ⟨S_, .f32⟩
  | 115 => ⟨S128, .f32⟩
  | 116 => ⟨S128, .f32⟩
  | 117 => ⟨S128, .f32⟩
  | 118 => ⟨S_, .f32⟩
  | 119 => ⟨S128, .f32⟩
  | 120 => ⟨S128, .f32⟩
  | 121 => ⟨S_, .f32⟩
  | 122 => ⟨S128, .f32⟩
  | 123 => ⟨S128, .f32⟩
  | 124 => ⟨S128, .f32⟩
  | 125 => ⟨S_, .f32⟩
  | 126 => ⟨S128, .f32⟩
  | 127 => ⟨S128, .f32⟩
  | _ => ⟨S1024x128, .f32⟩

abbrev hbmTy0_6 (i : Nat) : BufTy := match i % 128 with
  | 0 => ⟨S_, .f32⟩
  | 1 => ⟨S128, .f32⟩
  | 2 => ⟨S128, .f32⟩
  | 3 => ⟨S128, .f32⟩
  | 4 => ⟨S_, .f32⟩
  | 5 => ⟨S128, .f32⟩
  | 6 => ⟨S128, .f32⟩
  | 7 => ⟨S128, .f32⟩
  | 8 => ⟨S_, .f32⟩
  | 9 => ⟨S128, .f32⟩
  | 10 => ⟨S128, .f32⟩
  | 11 => ⟨S_, .f32⟩
  | 12 => ⟨S128, .f32⟩
  | 13 => ⟨S128, .f32⟩
  | 14 => ⟨S_, .f32⟩
  | 15 => ⟨S128, .f32⟩
  | 16 => ⟨S128, .f32⟩
  | 17 => ⟨S128, .f32⟩
  | 18 => ⟨S_, .f32⟩
  | 19 => ⟨S128, .f32⟩
  | 20 => ⟨S128, .f32⟩
  | 21 => ⟨S128, .f32⟩
  | 22 => ⟨S_, .f32⟩
  | 23 => ⟨S128, .f32⟩
  | 24 => ⟨S128, .f32⟩
  | 25 => ⟨S128, .f32⟩
  | 26 => ⟨S_, .f32⟩
  | 27 => ⟨S128, .f32⟩
  | 28 => ⟨S128, .f32⟩
  | 29 => ⟨S128, .f32⟩
  | 30 => ⟨S_, .f32⟩
  | 31 => ⟨S128, .f32⟩
  | 32 => ⟨S128, .f32⟩
  | 33 => ⟨S128, .f32⟩
  | 34 => ⟨S_, .f32⟩
  | 35 => ⟨S128, .f32⟩
  | 36 => ⟨S128, .f32⟩
  | 37 => ⟨S128, .f32⟩
  | 38 => ⟨S_, .f32⟩
  | 39 => ⟨S128, .f32⟩
  | 40 => ⟨S128, .f32⟩
  | 41 => ⟨S128, .f32⟩
  | 42 => ⟨S_, .f32⟩
  | 43 => ⟨S128, .f32⟩
  | 44 => ⟨S128, .f32⟩
  | 45 => ⟨S128, .f32⟩
  | 46 => ⟨S_, .f32⟩
  | 47 => ⟨S128, .f32⟩
  | 48 => ⟨S128, .f32⟩
  | 49 => ⟨S128, .f32⟩
  | 50 => ⟨S_, .f32⟩
  | 51 => ⟨S128, .f32⟩
  | 52 => ⟨S128, .f32⟩
  | 53 => ⟨S128, .f32⟩
  | 54 => ⟨S_, .f32⟩
  | 55 => ⟨S128, .f32⟩
  | 56 => ⟨S128, .f32⟩
  | 57 => ⟨S128, .f32⟩
  | 58 => ⟨S_, .f32⟩
  | 59 => ⟨S128, .f32⟩
  | 60 => ⟨S128, .f32⟩
  | 61 => ⟨S128, .f32⟩
  | 62 => ⟨S_, .f32⟩
  | 63 => ⟨S128, .f32⟩
  | 64 => ⟨S128, .f32⟩
  | 65 => ⟨S128, .f32⟩
  | 66 => ⟨S_, .f32⟩
  | 67 => ⟨S128, .f32⟩
  | 68 => ⟨S128, .f32⟩
  | 69 => ⟨S128, .f32⟩
  | 70 => ⟨S_, .f32⟩
  | 71 => ⟨S128, .f32⟩
  | 72 => ⟨S128, .f32⟩
  | 73 => ⟨S128, .f32⟩
  | 74 => ⟨S_, .f32⟩
  | 75 => ⟨S128, .f32⟩
  | 76 => ⟨S128, .f32⟩
  | 77 => ⟨S128, .f32⟩
  | 78 => ⟨S_, .f32⟩
  | 79 => ⟨S128, .f32⟩
  | 80 => ⟨S128, .f32⟩
  | 81 => ⟨S_, .f32⟩
  | 82 => ⟨S128, .f32⟩
  | 83 => ⟨S128, .i1⟩
  | 84 => ⟨S128, .f32⟩
  | 85 => ⟨S128, .f32⟩
  | 86 => ⟨S_, .f32⟩
  | 87 => ⟨S128, .f32⟩
  | 88 => ⟨S128, .f32⟩
  | 89 => ⟨S_, .i32⟩
  | 90 => ⟨S_, .i1⟩
  | 91 => ⟨S_, .i32⟩
  | 92 => ⟨S_, .i32⟩
  | 93 => ⟨S_, .i32⟩
  | 94 => ⟨S_, .i32⟩
  | 95 => ⟨S_, .i32⟩
  | 96 => ⟨S_, .i1⟩
  | 97 => ⟨S_, .i32⟩
  | 98 => ⟨S_, .i32⟩
  | 99 => ⟨S_, .i32⟩
  | 100 => ⟨S_, .i32⟩
  | 101 => ⟨S_, .i32⟩
  | 102 => ⟨S1x128, .f32⟩
  | 103 => ⟨S128, .f32⟩
  | 104 => ⟨S_, .i32⟩
  | 105 => ⟨S_, .i1⟩
  | 106 => ⟨S_, .i32⟩
  | 107 => ⟨S_, .i32⟩
  | 108 => ⟨S_, .i32⟩
  | 109 => ⟨S_, .i32⟩
  | 110 => ⟨S_, .i32⟩
  | 111 => ⟨S_, .i1⟩
  | 112 => ⟨S_, .i32⟩
  | 113 => ⟨S_, .i32⟩
  | 114 => ⟨S_, .i32⟩
  | 115 => ⟨S_, .i32⟩
  | 116 => ⟨S_, .i32⟩
  | 117 => ⟨S_, .i32⟩
  | 118 => ⟨S_, .i32⟩
  | 119 => ⟨S_, .i1⟩
  | 120 => ⟨S_, .i32⟩
  | 121 => ⟨S_, .i32⟩
  | 122 => ⟨S_, .i32⟩
  | 123 => ⟨S_, .i32⟩
  | 124 => ⟨S_, .i32⟩
  | 125 => ⟨S1x128x128, .f32⟩
  | 126 => ⟨S128x128, .f32⟩
  | 127 => ⟨S128, .i32⟩
  | _ => ⟨S1024x128, .f32⟩

abbrev hbmTy0_7 (i : Nat) : BufTy := match i % 128 with
  | 0 => ⟨S_, .f32⟩
  | 1 => ⟨S128x128, .f32⟩
  | 2 => ⟨S_, .i32⟩
  | 3 => ⟨S_, .i32⟩
  | 4 => ⟨S128x128, .f32⟩
  | 5 => ⟨S128, .i32⟩
  | 6 => ⟨S_, .i32⟩
  | 7 => ⟨S_, .i32⟩
  | 8 => ⟨S128x128, .f32⟩
  | 9 => ⟨S_, .i32⟩
  | 10 => ⟨S_, .i1⟩
  | 11 => ⟨S_, .i32⟩
  | 12 => ⟨S_, .i32⟩
  | 13 => ⟨S_, .i32⟩
  | 14 => ⟨S_, .i32⟩
  | 15 => ⟨S_, .i32⟩
  | 16 => ⟨S_, .i1⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S_, .i32⟩
  | 27 => ⟨S128x1, .f32⟩
  | 28 => ⟨S128, .f32⟩
  | 29 => ⟨S_, .i32⟩
  | 30 => ⟨S_, .i32⟩
  | 31 => ⟨S_, .i1⟩
  | 32 => ⟨S_, .i32⟩
  | 33 => ⟨S_, .i32⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S_, .i32⟩
  | 41 => ⟨S_, .i32⟩
  | 42 => ⟨S_, .i32⟩
  | 43 => ⟨S1x128, .f32⟩
  | 44 => ⟨S128, .f32⟩
  | 45 => ⟨S128, .f32⟩
  | 46 => ⟨S128, .f32⟩
  | 47 => ⟨S_, .i32⟩
  | 48 => ⟨S128, .i32⟩
  | 49 => ⟨S128, .i1⟩
  | 50 => ⟨S_, .i32⟩
  | 51 => ⟨S_, .i1⟩
  | 52 => ⟨S_, .i32⟩
  | 53 => ⟨S_, .i32⟩
  | 54 => ⟨S_, .i32⟩
  | 55 => ⟨S_, .i32⟩
  | 56 => ⟨S1, .f32⟩
  | 57 => ⟨S_, .f32⟩
  | 58 => ⟨S_, .f32⟩
  | 59 => ⟨S128, .f32⟩
  | 60 => ⟨S128, .f32⟩
  | 61 => ⟨S_, .f32⟩
  | 62 => ⟨S_, .f32⟩
  | 63 => ⟨S128, .f32⟩
  | 64 => ⟨S128, .f32⟩
  | 65 => ⟨S1x128, .i32⟩
  | 66 => ⟨S_, .i32⟩
  | 67 => ⟨S1x128, .i32⟩
  | 68 => ⟨S1x128, .i1⟩
  | 69 => ⟨S128x1, .f32⟩
  | 70 => ⟨S128x128, .i1⟩
  | 71 => ⟨S128x128, .f32⟩
  | 72 => ⟨S128x128, .f32⟩
  | 73 => ⟨S_, .i32⟩
  | 74 => ⟨S_, .i32⟩
  | 75 => ⟨S128, .f32⟩
  | 76 => ⟨S128, .f32⟩
  | _ => ⟨S1024x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S1024x128, .f32⟩

abbrev bufTy : (tb : Table) → Fin (tcTables nBuf tb) → BufTy
  | .hbm, ⟨i, _⟩ => hbmTy i
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_c : Ref sig .tc := ⟨.hbm, 23, rfl⟩
abbrev main_call0_v5 : Ref sig .tc := ⟨.hbm, 24, rfl⟩
abbrev main_call0_v6 : Ref sig .tc := ⟨.hbm, 25, rfl⟩
abbrev main_call0_c_0 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_call0_v0 : Ref sig .tc := ⟨.hbm, 31, rfl⟩
abbrev main_call0_call0_c : Ref sig .tc := ⟨.hbm, 32, rfl⟩
abbrev main_call0_call0_v1 : Ref sig .tc := ⟨.hbm, 33, rfl⟩
abbrev main_call0_call0_v2 : Ref sig .tc := ⟨.hbm, 34, rfl⟩
abbrev main_call0_call0_v3 : Ref sig .tc := ⟨.hbm, 35, rfl⟩
abbrev main_call0_call0_v4 : Ref sig .tc := ⟨.hbm, 36, rfl⟩
abbrev main_call0_call0_v5 : Ref sig .tc := ⟨.hbm, 37, rfl⟩
abbrev main_call0_call0_v6 : Ref sig .tc := ⟨.hbm, 38, rfl⟩
abbrev main_call0_call0_c_0 : Ref sig .tc := ⟨.hbm, 39, rfl⟩
abbrev main_call0_call0_v7 : Ref sig .tc := ⟨.hbm, 40, rfl⟩
abbrev main_call0_call0_v8 : Ref sig .tc := ⟨.hbm, 41, rfl⟩
abbrev main_call0_call0_c_1 : Ref sig .tc := ⟨.hbm, 42, rfl⟩
abbrev main_call0_call0_v9 : Ref sig .tc := ⟨.hbm, 43, rfl⟩
abbrev main_call0_call0_v10 : Ref sig .tc := ⟨.hbm, 44, rfl⟩
abbrev main_call0_call0_v11 : Ref sig .tc := ⟨.hbm, 45, rfl⟩
abbrev main_call0_call0_v12 : Ref sig .tc := ⟨.hbm, 46, rfl⟩
abbrev main_call0_call0_v13 : Ref sig .tc := ⟨.hbm, 47, rfl⟩
abbrev main_call0_call0_c_2 : Ref sig .tc := ⟨.hbm, 48, rfl⟩
abbrev main_call0_call0_v14 : Ref sig .tc := ⟨.hbm, 49, rfl⟩
abbrev main_call0_call0_v15 : Ref sig .tc := ⟨.hbm, 50, rfl⟩
abbrev main_call0_call0_c_3 : Ref sig .tc := ⟨.hbm, 51, rfl⟩
abbrev main_call0_call0_v16 : Ref sig .tc := ⟨.hbm, 52, rfl⟩
abbrev main_call0_call0_v17 : Ref sig .tc := ⟨.hbm, 53, rfl⟩
abbrev main_call0_call0_v18 : Ref sig .tc := ⟨.hbm, 54, rfl⟩
abbrev main_call0_call0_v19 : Ref sig .tc := ⟨.hbm, 55, rfl⟩
abbrev main_call0_call0_v20 : Ref sig .tc := ⟨.hbm, 56, rfl⟩
abbrev main_call0_call0_c_4 : Ref sig .tc := ⟨.hbm, 57, rfl⟩
abbrev main_call0_call0_v21 : Ref sig .tc := ⟨.hbm, 58, rfl⟩
abbrev main_call0_call0_v22 : Ref sig .tc := ⟨.hbm, 59, rfl⟩
abbrev main_call0_call0_c_5 : Ref sig .tc := ⟨.hbm, 60, rfl⟩
abbrev main_call0_call0_v23 : Ref sig .tc := ⟨.hbm, 61, rfl⟩
abbrev main_call0_call0_v24 : Ref sig .tc := ⟨.hbm, 62, rfl⟩
abbrev main_call0_call0_v25 : Ref sig .tc := ⟨.hbm, 63, rfl⟩
abbrev main_call0_call0_v26 : Ref sig .tc := ⟨.hbm, 64, rfl⟩
abbrev main_call0_call0_v27 : Ref sig .tc := ⟨.hbm, 65, rfl⟩
abbrev main_call0_call0_c_6 : Ref sig .tc := ⟨.hbm, 66, rfl⟩
abbrev main_call0_call0_v28 : Ref sig .tc := ⟨.hbm, 67, rfl⟩
abbrev main_call0_call0_v29 : Ref sig .tc := ⟨.hbm, 68, rfl⟩
abbrev main_call0_call0_c_7 : Ref sig .tc := ⟨.hbm, 69, rfl⟩
abbrev main_call0_call0_v30 : Ref sig .tc := ⟨.hbm, 70, rfl⟩
abbrev main_call0_call0_v31 : Ref sig .tc := ⟨.hbm, 71, rfl⟩
abbrev main_call0_call0_v32 : Ref sig .tc := ⟨.hbm, 72, rfl⟩
abbrev main_call0_call0_v33 : Ref sig .tc := ⟨.hbm, 73, rfl⟩
abbrev main_call0_call0_v34 : Ref sig .tc := ⟨.hbm, 74, rfl⟩
abbrev main_call0_call0_v35 : Ref sig .tc := ⟨.hbm, 75, rfl⟩
abbrev main_call0_call0_v36 : Ref sig .tc := ⟨.hbm, 76, rfl⟩
abbrev main_call0_call0_v37 : Ref sig .tc := ⟨.hbm, 77, rfl⟩
abbrev main_call0_call0_c_8 : Ref sig .tc := ⟨.hbm, 78, rfl⟩
abbrev main_call0_call0_v38 : Ref sig .tc := ⟨.hbm, 79, rfl⟩
abbrev main_call0_call0_v39 : Ref sig .tc := ⟨.hbm, 80, rfl⟩
abbrev main_call0_call0_v40 : Ref sig .tc := ⟨.hbm, 81, rfl⟩
abbrev main_call0_call0_c_9 : Ref sig .tc := ⟨.hbm, 82, rfl⟩
abbrev main_call0_call0_v41 : Ref sig .tc := ⟨.hbm, 83, rfl⟩
abbrev main_call0_call0_v42 : Ref sig .tc := ⟨.hbm, 84, rfl⟩
abbrev main_call0_call0_c_10 : Ref sig .tc := ⟨.hbm, 85, rfl⟩
abbrev main_call0_call0_v43 : Ref sig .tc := ⟨.hbm, 86, rfl⟩
abbrev main_call0_call0_v44 : Ref sig .tc := ⟨.hbm, 87, rfl⟩
abbrev main_call0_call0_v45 : Ref sig .tc := ⟨.hbm, 88, rfl⟩
abbrev main_call0_call0_v46 : Ref sig .tc := ⟨.hbm, 89, rfl⟩
abbrev main_call0_call0_v47 : Ref sig .tc := ⟨.hbm, 90, rfl⟩
abbrev main_call0_call0_c_11 : Ref sig .tc := ⟨.hbm, 91, rfl⟩
abbrev main_call0_call0_v48 : Ref sig .tc := ⟨.hbm, 92, rfl⟩
abbrev main_call0_call0_v49 : Ref sig .tc := ⟨.hbm, 93, rfl⟩
abbrev main_call0_call0_c_12 : Ref sig .tc := ⟨.hbm, 94, rfl⟩
abbrev main_call0_call0_v50 : Ref sig .tc := ⟨.hbm, 95, rfl⟩
abbrev main_call0_call0_v51 : Ref sig .tc := ⟨.hbm, 96, rfl⟩
abbrev main_call0_call0_v52 : Ref sig .tc := ⟨.hbm, 97, rfl⟩
abbrev main_call0_call0_v53 : Ref sig .tc := ⟨.hbm, 98, rfl⟩
abbrev main_call0_call0_v54 : Ref sig .tc := ⟨.hbm, 99, rfl⟩
abbrev main_call0_call0_c_13 : Ref sig .tc := ⟨.hbm, 100, rfl⟩
abbrev main_call0_call0_v55 : Ref sig .tc := ⟨.hbm, 101, rfl⟩
abbrev main_call0_call0_v56 : Ref sig .tc := ⟨.hbm, 102, rfl⟩
abbrev main_call0_call0_c_14 : Ref sig .tc := ⟨.hbm, 103, rfl⟩
abbrev main_call0_call0_v57 : Ref sig .tc := ⟨.hbm, 104, rfl⟩
abbrev main_call0_call0_v58 : Ref sig .tc := ⟨.hbm, 105, rfl⟩
abbrev main_call0_call0_v59 : Ref sig .tc := ⟨.hbm, 106, rfl⟩
abbrev main_call0_call0_v60 : Ref sig .tc := ⟨.hbm, 107, rfl⟩
abbrev main_call0_call0_v61 : Ref sig .tc := ⟨.hbm, 108, rfl⟩
abbrev main_call0_call0_c_15 : Ref sig .tc := ⟨.hbm, 109, rfl⟩
abbrev main_call0_call0_v62 : Ref sig .tc := ⟨.hbm, 110, rfl⟩
abbrev main_call0_call0_v63 : Ref sig .tc := ⟨.hbm, 111, rfl⟩
abbrev main_call0_call0_c_16 : Ref sig .tc := ⟨.hbm, 112, rfl⟩
abbrev main_call0_call0_v64 : Ref sig .tc := ⟨.hbm, 113, rfl⟩
abbrev main_call0_call0_v65 : Ref sig .tc := ⟨.hbm, 114, rfl⟩
abbrev main_call0_call0_v66 : Ref sig .tc := ⟨.hbm, 115, rfl⟩
abbrev main_call0_call0_v67 : Ref sig .tc := ⟨.hbm, 116, rfl⟩
abbrev main_call0_call0_v68 : Ref sig .tc := ⟨.hbm, 117, rfl⟩
abbrev main_call0_call0_v69 : Ref sig .tc := ⟨.hbm, 118, rfl⟩
abbrev main_call0_call0_v70 : Ref sig .tc := ⟨.hbm, 119, rfl⟩
abbrev main_call0_call0_v71 : Ref sig .tc := ⟨.hbm, 120, rfl⟩
abbrev main_call0_call0_c_17 : Ref sig .tc := ⟨.hbm, 121, rfl⟩
abbrev main_call0_call0_v72 : Ref sig .tc := ⟨.hbm, 122, rfl⟩
abbrev main_call0_call0_v73 : Ref sig .tc := ⟨.hbm, 123, rfl⟩
abbrev main_call0_call0_v74 : Ref sig .tc := ⟨.hbm, 124, rfl⟩
abbrev main_call0_call0_c_18 : Ref sig .tc := ⟨.hbm, 125, rfl⟩
abbrev main_call0_call0_v75 : Ref sig .tc := ⟨.hbm, 126, rfl⟩
abbrev main_call0_call0_v76 : Ref sig .tc := ⟨.hbm, 127, rfl⟩
abbrev main_call0_call0_c_19 : Ref sig .tc := ⟨.hbm, 128, rfl⟩
abbrev main_call0_call0_v77 : Ref sig .tc := ⟨.hbm, 129, rfl⟩
abbrev main_call0_call0_v78 : Ref sig .tc := ⟨.hbm, 130, rfl⟩
abbrev main_call0_call0_v79 : Ref sig .tc := ⟨.hbm, 131, rfl⟩
abbrev main_call0_call0_v80 : Ref sig .tc := ⟨.hbm, 132, rfl⟩
abbrev main_call0_call0_v81 : Ref sig .tc := ⟨.hbm, 133, rfl⟩
abbrev main_call0_call0_c_20 : Ref sig .tc := ⟨.hbm, 134, rfl⟩
abbrev main_call0_call0_v82 : Ref sig .tc := ⟨.hbm, 135, rfl⟩
abbrev main_call0_call0_v83 : Ref sig .tc := ⟨.hbm, 136, rfl⟩
abbrev main_call0_call0_c_21 : Ref sig .tc := ⟨.hbm, 137, rfl⟩
abbrev main_call0_call0_v84 : Ref sig .tc := ⟨.hbm, 138, rfl⟩
abbrev main_call0_call0_v85 : Ref sig .tc := ⟨.hbm, 139, rfl⟩
abbrev main_call0_call0_v86 : Ref sig .tc := ⟨.hbm, 140, rfl⟩
abbrev main_call0_call0_v87 : Ref sig .tc := ⟨.hbm, 141, rfl⟩
abbrev main_call0_call0_v88 : Ref sig .tc := ⟨.hbm, 142, rfl⟩
abbrev main_call0_call0_c_22 : Ref sig .tc := ⟨.hbm, 143, rfl⟩
abbrev main_call0_call0_v89 : Ref sig .tc := ⟨.hbm, 144, rfl⟩
abbrev main_call0_call0_v90 : Ref sig .tc := ⟨.hbm, 145, rfl⟩
abbrev main_call0_call0_c_23 : Ref sig .tc := ⟨.hbm, 146, rfl⟩
abbrev main_call0_call0_v91 : Ref sig .tc := ⟨.hbm, 147, rfl⟩
abbrev main_call0_call0_v92 : Ref sig .tc := ⟨.hbm, 148, rfl⟩
abbrev main_call0_call0_v93 : Ref sig .tc := ⟨.hbm, 149, rfl⟩
abbrev main_call0_call0_v94 : Ref sig .tc := ⟨.hbm, 150, rfl⟩
abbrev main_call0_call0_v95 : Ref sig .tc := ⟨.hbm, 151, rfl⟩
abbrev main_call0_call0_c_24 : Ref sig .tc := ⟨.hbm, 152, rfl⟩
abbrev main_call0_call0_v96 : Ref sig .tc := ⟨.hbm, 153, rfl⟩
abbrev main_call0_call0_v97 : Ref sig .tc := ⟨.hbm, 154, rfl⟩
abbrev main_call0_call0_c_25 : Ref sig .tc := ⟨.hbm, 155, rfl⟩
abbrev main_call0_call0_v98 : Ref sig .tc := ⟨.hbm, 156, rfl⟩
abbrev main_call0_call0_v99 : Ref sig .tc := ⟨.hbm, 157, rfl⟩
abbrev main_call0_call0_v100 : Ref sig .tc := ⟨.hbm, 158, rfl⟩
abbrev main_call0_call0_v101 : Ref sig .tc := ⟨.hbm, 159, rfl⟩
abbrev main_call0_call0_v102 : Ref sig .tc := ⟨.hbm, 160, rfl⟩
abbrev main_call0_call0_v103 : Ref sig .tc := ⟨.hbm, 161, rfl⟩
abbrev main_call0_call0_v104 : Ref sig .tc := ⟨.hbm, 162, rfl⟩
abbrev main_call0_call0_v105 : Ref sig .tc := ⟨.hbm, 163, rfl⟩
abbrev main_call0_call0_c_26 : Ref sig .tc := ⟨.hbm, 164, rfl⟩
abbrev main_call0_call0_v106 : Ref sig .tc := ⟨.hbm, 165, rfl⟩
abbrev main_call0_call0_v107 : Ref sig .tc := ⟨.hbm, 166, rfl⟩
abbrev main_call0_call0_v108 : Ref sig .tc := ⟨.hbm, 167, rfl⟩
abbrev main_call0_call0_c_27 : Ref sig .tc := ⟨.hbm, 168, rfl⟩
abbrev main_call0_call0_v109 : Ref sig .tc := ⟨.hbm, 169, rfl⟩
abbrev main_call0_call0_v110 : Ref sig .tc := ⟨.hbm, 170, rfl⟩
abbrev main_call0_call0_c_28 : Ref sig .tc := ⟨.hbm, 171, rfl⟩
abbrev main_call0_call0_v111 : Ref sig .tc := ⟨.hbm, 172, rfl⟩
abbrev main_call0_call0_v112 : Ref sig .tc := ⟨.hbm, 173, rfl⟩
abbrev main_call0_call0_v113 : Ref sig .tc := ⟨.hbm, 174, rfl⟩
abbrev main_call0_call0_v114 : Ref sig .tc := ⟨.hbm, 175, rfl⟩
abbrev main_call0_call0_v115 : Ref sig .tc := ⟨.hbm, 176, rfl⟩
abbrev main_call0_call0_c_29 : Ref sig .tc := ⟨.hbm, 177, rfl⟩
abbrev main_call0_call0_v116 : Ref sig .tc := ⟨.hbm, 178, rfl⟩
abbrev main_call0_call0_v117 : Ref sig .tc := ⟨.hbm, 179, rfl⟩
abbrev main_call0_call0_c_30 : Ref sig .tc := ⟨.hbm, 180, rfl⟩
abbrev main_call0_call0_v118 : Ref sig .tc := ⟨.hbm, 181, rfl⟩
abbrev main_call0_call0_v119 : Ref sig .tc := ⟨.hbm, 182, rfl⟩
abbrev main_call0_call0_v120 : Ref sig .tc := ⟨.hbm, 183, rfl⟩
abbrev main_call0_call0_v121 : Ref sig .tc := ⟨.hbm, 184, rfl⟩
abbrev main_call0_call0_v122 : Ref sig .tc := ⟨.hbm, 185, rfl⟩
abbrev main_call0_call0_c_31 : Ref sig .tc := ⟨.hbm, 186, rfl⟩
abbrev main_call0_call0_v123 : Ref sig .tc := ⟨.hbm, 187, rfl⟩
abbrev main_call0_call0_v124 : Ref sig .tc := ⟨.hbm, 188, rfl⟩
abbrev main_call0_call0_c_32 : Ref sig .tc := ⟨.hbm, 189, rfl⟩
abbrev main_call0_call0_v125 : Ref sig .tc := ⟨.hbm, 190, rfl⟩
abbrev main_call0_call0_v126 : Ref sig .tc := ⟨.hbm, 191, rfl⟩
abbrev main_call0_call0_v127 : Ref sig .tc := ⟨.hbm, 192, rfl⟩
abbrev main_call0_call0_v128 : Ref sig .tc := ⟨.hbm, 193, rfl⟩
abbrev main_call0_call0_v129 : Ref sig .tc := ⟨.hbm, 194, rfl⟩
abbrev main_call0_call0_c_33 : Ref sig .tc := ⟨.hbm, 195, rfl⟩
abbrev main_call0_call0_v130 : Ref sig .tc := ⟨.hbm, 196, rfl⟩
abbrev main_call0_call0_v131 : Ref sig .tc := ⟨.hbm, 197, rfl⟩
abbrev main_call0_call0_c_34 : Ref sig .tc := ⟨.hbm, 198, rfl⟩
abbrev main_call0_call0_v132 : Ref sig .tc := ⟨.hbm, 199, rfl⟩
abbrev main_call0_call0_v133 : Ref sig .tc := ⟨.hbm, 200, rfl⟩
abbrev main_call0_call0_v134 : Ref sig .tc := ⟨.hbm, 201, rfl⟩
abbrev main_call0_call0_v135 : Ref sig .tc := ⟨.hbm, 202, rfl⟩
abbrev main_call0_call0_v136 : Ref sig .tc := ⟨.hbm, 203, rfl⟩
abbrev main_call0_call0_v137 : Ref sig .tc := ⟨.hbm, 204, rfl⟩
abbrev main_call0_call0_v138 : Ref sig .tc := ⟨.hbm, 205, rfl⟩
abbrev main_call0_call0_v139 : Ref sig .tc := ⟨.hbm, 206, rfl⟩
abbrev main_call0_call0_c_35 : Ref sig .tc := ⟨.hbm, 207, rfl⟩
abbrev main_call0_call0_v140 : Ref sig .tc := ⟨.hbm, 208, rfl⟩
abbrev main_call0_call0_v141 : Ref sig .tc := ⟨.hbm, 209, rfl⟩
abbrev main_call0_call0_v142 : Ref sig .tc := ⟨.hbm, 210, rfl⟩
abbrev main_call0_call0_c_36 : Ref sig .tc := ⟨.hbm, 211, rfl⟩
abbrev main_call0_call0_v143 : Ref sig .tc := ⟨.hbm, 212, rfl⟩
abbrev main_call0_call0_v144 : Ref sig .tc := ⟨.hbm, 213, rfl⟩
abbrev main_call0_call0_c_37 : Ref sig .tc := ⟨.hbm, 214, rfl⟩
abbrev main_call0_call0_v145 : Ref sig .tc := ⟨.hbm, 215, rfl⟩
abbrev main_call0_call0_v146 : Ref sig .tc := ⟨.hbm, 216, rfl⟩
abbrev main_call0_call0_v147 : Ref sig .tc := ⟨.hbm, 217, rfl⟩
abbrev main_call0_call0_v148 : Ref sig .tc := ⟨.hbm, 218, rfl⟩
abbrev main_call0_call0_v149 : Ref sig .tc := ⟨.hbm, 219, rfl⟩
abbrev main_call0_call0_c_38 : Ref sig .tc := ⟨.hbm, 220, rfl⟩
abbrev main_call0_call0_v150 : Ref sig .tc := ⟨.hbm, 221, rfl⟩
abbrev main_call0_call0_v151 : Ref sig .tc := ⟨.hbm, 222, rfl⟩
abbrev main_call0_call0_c_39 : Ref sig .tc := ⟨.hbm, 223, rfl⟩
abbrev main_call0_call0_v152 : Ref sig .tc := ⟨.hbm, 224, rfl⟩
abbrev main_call0_call0_v153 : Ref sig .tc := ⟨.hbm, 225, rfl⟩
abbrev main_call0_call0_v154 : Ref sig .tc := ⟨.hbm, 226, rfl⟩
abbrev main_call0_call0_v155 : Ref sig .tc := ⟨.hbm, 227, rfl⟩
abbrev main_call0_call0_v156 : Ref sig .tc := ⟨.hbm, 228, rfl⟩
abbrev main_call0_call0_c_40 : Ref sig .tc := ⟨.hbm, 229, rfl⟩
abbrev main_call0_call0_v157 : Ref sig .tc := ⟨.hbm, 230, rfl⟩
abbrev main_call0_call0_v158 : Ref sig .tc := ⟨.hbm, 231, rfl⟩
abbrev main_call0_call0_c_41 : Ref sig .tc := ⟨.hbm, 232, rfl⟩
abbrev main_call0_call0_v159 : Ref sig .tc := ⟨.hbm, 233, rfl⟩
abbrev main_call0_call0_v160 : Ref sig .tc := ⟨.hbm, 234, rfl⟩
abbrev main_call0_call0_v161 : Ref sig .tc := ⟨.hbm, 235, rfl⟩
abbrev main_call0_call0_v162 : Ref sig .tc := ⟨.hbm, 236, rfl⟩
abbrev main_call0_call0_v163 : Ref sig .tc := ⟨.hbm, 237, rfl⟩
abbrev main_call0_call0_c_42 : Ref sig .tc := ⟨.hbm, 238, rfl⟩
abbrev main_call0_call0_v164 : Ref sig .tc := ⟨.hbm, 239, rfl⟩
abbrev main_call0_call0_v165 : Ref sig .tc := ⟨.hbm, 240, rfl⟩
abbrev main_call0_call0_c_43 : Ref sig .tc := ⟨.hbm, 241, rfl⟩
abbrev main_call0_call0_v166 : Ref sig .tc := ⟨.hbm, 242, rfl⟩
abbrev main_call0_call0_v167 : Ref sig .tc := ⟨.hbm, 243, rfl⟩
abbrev main_call0_call0_v168 : Ref sig .tc := ⟨.hbm, 244, rfl⟩
abbrev main_call0_call0_v169 : Ref sig .tc := ⟨.hbm, 245, rfl⟩
abbrev main_call0_call0_v170 : Ref sig .tc := ⟨.hbm, 246, rfl⟩
abbrev main_call0_v11_0 : Ref sig .tc := ⟨.hbm, 247, rfl⟩
abbrev main_call0_call0_v172 : Ref sig .tc := ⟨.hbm, 248, rfl⟩
abbrev main_call0_call0_v173 : Ref sig .tc := ⟨.hbm, 249, rfl⟩
abbrev main_call0_call0_c_44 : Ref sig .tc := ⟨.hbm, 250, rfl⟩
abbrev main_call0_call0_v174 : Ref sig .tc := ⟨.hbm, 251, rfl⟩
abbrev main_call0_v11_1 : Ref sig .tc := ⟨.hbm, 252, rfl⟩
abbrev main_call0_v12 : Ref sig .tc := ⟨.hbm, 253, rfl⟩
abbrev main_call0_v13 : Ref sig .tc := ⟨.hbm, 254, rfl⟩
abbrev main_v10 : Ref sig .tc := ⟨.hbm, 255, rfl⟩
abbrev main_v11 : Ref sig .tc := ⟨.hbm, 256, rfl⟩
abbrev main_v12 : Ref sig .tc := ⟨.hbm, 257, rfl⟩
abbrev main_v13 : Ref sig .tc := ⟨.hbm, 258, rfl⟩
abbrev main_v14 : Ref sig .tc := ⟨.hbm, 259, rfl⟩
abbrev main_call1_call0_cst : Ref sig .tc := ⟨.hbm, 260, rfl⟩
abbrev main_call1_call0_v0 : Ref sig .tc := ⟨.hbm, 261, rfl⟩
abbrev main_v15 : Ref sig .tc := ⟨.hbm, 262, rfl⟩
abbrev main_v16 : Ref sig .tc := ⟨.hbm, 263, rfl⟩
abbrev main_v17 : Ref sig .tc := ⟨.hbm, 264, rfl⟩
abbrev main_v18 : Ref sig .tc := ⟨.hbm, 265, rfl⟩
abbrev main_v19 : Ref sig .tc := ⟨.hbm, 266, rfl⟩
abbrev main_v20 : Ref sig .tc := ⟨.hbm, 267, rfl⟩
abbrev main_v21 : Ref sig .tc := ⟨.hbm, 268, rfl⟩
abbrev main_c_1 : Ref sig .tc := ⟨.hbm, 269, rfl⟩
abbrev main_c_2 : Ref sig .tc := ⟨.hbm, 270, rfl⟩
abbrev main_call2_v0 : Ref sig .tc := ⟨.hbm, 271, rfl⟩
abbrev main_call2_c : Ref sig .tc := ⟨.hbm, 272, rfl⟩
abbrev main_call2_v1 : Ref sig .tc := ⟨.hbm, 273, rfl⟩
abbrev main_call2_v2 : Ref sig .tc := ⟨.hbm, 274, rfl⟩
abbrev main_call2_v3 : Ref sig .tc := ⟨.hbm, 275, rfl⟩
abbrev main_call2_v4 : Ref sig .tc := ⟨.hbm, 276, rfl⟩
abbrev main_call2_c_0 : Ref sig .tc := ⟨.hbm, 277, rfl⟩
abbrev main_call2_v5 : Ref sig .tc := ⟨.hbm, 278, rfl⟩
abbrev main_call2_c_1 : Ref sig .tc := ⟨.hbm, 279, rfl⟩
abbrev main_call2_v6 : Ref sig .tc := ⟨.hbm, 280, rfl⟩
abbrev main_call2_v7 : Ref sig .tc := ⟨.hbm, 281, rfl⟩
abbrev main_call2_v8 : Ref sig .tc := ⟨.hbm, 282, rfl⟩
abbrev main_call2_v9 : Ref sig .tc := ⟨.hbm, 283, rfl⟩
abbrev main_call2_c_2 : Ref sig .tc := ⟨.hbm, 284, rfl⟩
abbrev main_call2_v10 : Ref sig .tc := ⟨.hbm, 285, rfl⟩
abbrev main_call2_c_3 : Ref sig .tc := ⟨.hbm, 286, rfl⟩
abbrev main_call2_v11 : Ref sig .tc := ⟨.hbm, 287, rfl⟩
abbrev main_call2_v12 : Ref sig .tc := ⟨.hbm, 288, rfl⟩
abbrev main_call2_v13 : Ref sig .tc := ⟨.hbm, 289, rfl⟩
abbrev main_call2_v14 : Ref sig .tc := ⟨.hbm, 290, rfl⟩
abbrev main_call2_c_4 : Ref sig .tc := ⟨.hbm, 291, rfl⟩
abbrev main_call2_v15 : Ref sig .tc := ⟨.hbm, 292, rfl⟩
abbrev main_call2_c_5 : Ref sig .tc := ⟨.hbm, 293, rfl⟩
abbrev main_call2_v16 : Ref sig .tc := ⟨.hbm, 294, rfl⟩
abbrev main_call2_v17 : Ref sig .tc := ⟨.hbm, 295, rfl⟩
abbrev main_call2_v18 : Ref sig .tc := ⟨.hbm, 296, rfl⟩
abbrev main_call2_v19 : Ref sig .tc := ⟨.hbm, 297, rfl⟩
abbrev main_call2_c_6 : Ref sig .tc := ⟨.hbm, 298, rfl⟩
abbrev main_call2_v20 : Ref sig .tc := ⟨.hbm, 299, rfl⟩
abbrev main_call2_c_7 : Ref sig .tc := ⟨.hbm, 300, rfl⟩
abbrev main_call2_v21 : Ref sig .tc := ⟨.hbm, 301, rfl⟩
abbrev main_call2_v22 : Ref sig .tc := ⟨.hbm, 302, rfl⟩
abbrev main_call2_v23 : Ref sig .tc := ⟨.hbm, 303, rfl⟩
abbrev main_call2_v24 : Ref sig .tc := ⟨.hbm, 304, rfl⟩
abbrev main_call2_v25 : Ref sig .tc := ⟨.hbm, 305, rfl⟩
abbrev main_call2_c_8 : Ref sig .tc := ⟨.hbm, 306, rfl⟩
abbrev main_call2_v26 : Ref sig .tc := ⟨.hbm, 307, rfl⟩
abbrev main_call2_v27 : Ref sig .tc := ⟨.hbm, 308, rfl⟩
abbrev main_call2_c_9 : Ref sig .tc := ⟨.hbm, 309, rfl⟩
abbrev main_call2_v28 : Ref sig .tc := ⟨.hbm, 310, rfl⟩
abbrev main_call2_c_10 : Ref sig .tc := ⟨.hbm, 311, rfl⟩
abbrev main_call2_v29 : Ref sig .tc := ⟨.hbm, 312, rfl⟩
abbrev main_call2_v30 : Ref sig .tc := ⟨.hbm, 313, rfl⟩
abbrev main_call2_v31 : Ref sig .tc := ⟨.hbm, 314, rfl⟩
abbrev main_call2_v32 : Ref sig .tc := ⟨.hbm, 315, rfl⟩
abbrev main_call2_c_11 : Ref sig .tc := ⟨.hbm, 316, rfl⟩
abbrev main_call2_v33 : Ref sig .tc := ⟨.hbm, 317, rfl⟩
abbrev main_call2_c_12 : Ref sig .tc := ⟨.hbm, 318, rfl⟩
abbrev main_call2_v34 : Ref sig .tc := ⟨.hbm, 319, rfl⟩
abbrev main_call2_v35 : Ref sig .tc := ⟨.hbm, 320, rfl⟩
abbrev main_call2_v36 : Ref sig .tc := ⟨.hbm, 321, rfl⟩
abbrev main_call2_v37 : Ref sig .tc := ⟨.hbm, 322, rfl⟩
abbrev main_call2_c_13 : Ref sig .tc := ⟨.hbm, 323, rfl⟩
abbrev main_call2_v38 : Ref sig .tc := ⟨.hbm, 324, rfl⟩
abbrev main_call2_c_14 : Ref sig .tc := ⟨.hbm, 325, rfl⟩
abbrev main_call2_v39 : Ref sig .tc := ⟨.hbm, 326, rfl⟩
abbrev main_call2_v40 : Ref sig .tc := ⟨.hbm, 327, rfl⟩
abbrev main_call2_v41 : Ref sig .tc := ⟨.hbm, 328, rfl⟩
abbrev main_call2_v42 : Ref sig .tc := ⟨.hbm, 329, rfl⟩
abbrev main_call2_c_15 : Ref sig .tc := ⟨.hbm, 330, rfl⟩
abbrev main_call2_v43 : Ref sig .tc := ⟨.hbm, 331, rfl⟩
abbrev main_call2_c_16 : Ref sig .tc := ⟨.hbm, 332, rfl⟩
abbrev main_call2_v44 : Ref sig .tc := ⟨.hbm, 333, rfl⟩
abbrev main_call2_v45 : Ref sig .tc := ⟨.hbm, 334, rfl⟩
abbrev main_call2_v46 : Ref sig .tc := ⟨.hbm, 335, rfl⟩
abbrev main_call2_v47 : Ref sig .tc := ⟨.hbm, 336, rfl⟩
abbrev main_call2_v48 : Ref sig .tc := ⟨.hbm, 337, rfl⟩
abbrev main_call2_c_17 : Ref sig .tc := ⟨.hbm, 338, rfl⟩
abbrev main_call2_v49 : Ref sig .tc := ⟨.hbm, 339, rfl⟩
abbrev main_call2_v50 : Ref sig .tc := ⟨.hbm, 340, rfl⟩
abbrev main_call2_c_18 : Ref sig .tc := ⟨.hbm, 341, rfl⟩
abbrev main_call2_v51 : Ref sig .tc := ⟨.hbm, 342, rfl⟩
abbrev main_call2_c_19 : Ref sig .tc := ⟨.hbm, 343, rfl⟩
abbrev main_call2_v52 : Ref sig .tc := ⟨.hbm, 344, rfl⟩
abbrev main_call2_v53 : Ref sig .tc := ⟨.hbm, 345, rfl⟩
abbrev main_call2_v54 : Ref sig .tc := ⟨.hbm, 346, rfl⟩
abbrev main_call2_v55 : Ref sig .tc := ⟨.hbm, 347, rfl⟩
abbrev main_call2_c_20 : Ref sig .tc := ⟨.hbm, 348, rfl⟩
abbrev main_call2_v56 : Ref sig .tc := ⟨.hbm, 349, rfl⟩
abbrev main_call2_c_21 : Ref sig .tc := ⟨.hbm, 350, rfl⟩
abbrev main_call2_v57 : Ref sig .tc := ⟨.hbm, 351, rfl⟩
abbrev main_call2_v58 : Ref sig .tc := ⟨.hbm, 352, rfl⟩
abbrev main_call2_v59 : Ref sig .tc := ⟨.hbm, 353, rfl⟩
abbrev main_call2_v60 : Ref sig .tc := ⟨.hbm, 354, rfl⟩
abbrev main_call2_c_22 : Ref sig .tc := ⟨.hbm, 355, rfl⟩
abbrev main_call2_v61 : Ref sig .tc := ⟨.hbm, 356, rfl⟩
abbrev main_call2_c_23 : Ref sig .tc := ⟨.hbm, 357, rfl⟩
abbrev main_call2_v62 : Ref sig .tc := ⟨.hbm, 358, rfl⟩
abbrev main_call2_v63 : Ref sig .tc := ⟨.hbm, 359, rfl⟩
abbrev main_call2_v64 : Ref sig .tc := ⟨.hbm, 360, rfl⟩
abbrev main_call2_v65 : Ref sig .tc := ⟨.hbm, 361, rfl⟩
abbrev main_call2_c_24 : Ref sig .tc := ⟨.hbm, 362, rfl⟩
abbrev main_call2_v66 : Ref sig .tc := ⟨.hbm, 363, rfl⟩
abbrev main_call2_c_25 : Ref sig .tc := ⟨.hbm, 364, rfl⟩
abbrev main_call2_v67 : Ref sig .tc := ⟨.hbm, 365, rfl⟩
abbrev main_call2_v68 : Ref sig .tc := ⟨.hbm, 366, rfl⟩
abbrev main_call2_v69 : Ref sig .tc := ⟨.hbm, 367, rfl⟩
abbrev main_call2_v70 : Ref sig .tc := ⟨.hbm, 368, rfl⟩
abbrev main_call2_v71 : Ref sig .tc := ⟨.hbm, 369, rfl⟩
abbrev main_call2_c_26 : Ref sig .tc := ⟨.hbm, 370, rfl⟩
abbrev main_call2_v72 : Ref sig .tc := ⟨.hbm, 371, rfl⟩
abbrev main_call2_v73 : Ref sig .tc := ⟨.hbm, 372, rfl⟩
abbrev main_call2_c_27 : Ref sig .tc := ⟨.hbm, 373, rfl⟩
abbrev main_call2_v74 : Ref sig .tc := ⟨.hbm, 374, rfl⟩
abbrev main_call2_c_28 : Ref sig .tc := ⟨.hbm, 375, rfl⟩
abbrev main_call2_v75 : Ref sig .tc := ⟨.hbm, 376, rfl⟩
abbrev main_call2_v76 : Ref sig .tc := ⟨.hbm, 377, rfl⟩
abbrev main_call2_v77 : Ref sig .tc := ⟨.hbm, 378, rfl⟩
abbrev main_call2_v78 : Ref sig .tc := ⟨.hbm, 379, rfl⟩
abbrev main_call2_c_29 : Ref sig .tc := ⟨.hbm, 380, rfl⟩
abbrev main_call2_v79 : Ref sig .tc := ⟨.hbm, 381, rfl⟩
abbrev main_call2_c_30 : Ref sig .tc := ⟨.hbm, 382, rfl⟩
abbrev main_call2_v80 : Ref sig .tc := ⟨.hbm, 383, rfl⟩
abbrev main_call2_v81 : Ref sig .tc := ⟨.hbm, 384, rfl⟩
abbrev main_call2_v82 : Ref sig .tc := ⟨.hbm, 385, rfl⟩
abbrev main_call2_v83 : Ref sig .tc := ⟨.hbm, 386, rfl⟩
abbrev main_call2_c_31 : Ref sig .tc := ⟨.hbm, 387, rfl⟩
abbrev main_call2_v84 : Ref sig .tc := ⟨.hbm, 388, rfl⟩
abbrev main_call2_c_32 : Ref sig .tc := ⟨.hbm, 389, rfl⟩
abbrev main_call2_v85 : Ref sig .tc := ⟨.hbm, 390, rfl⟩
abbrev main_call2_v86 : Ref sig .tc := ⟨.hbm, 391, rfl⟩
abbrev main_call2_v87 : Ref sig .tc := ⟨.hbm, 392, rfl⟩
abbrev main_call2_v88 : Ref sig .tc := ⟨.hbm, 393, rfl⟩
abbrev main_call2_c_33 : Ref sig .tc := ⟨.hbm, 394, rfl⟩
abbrev main_call2_v89 : Ref sig .tc := ⟨.hbm, 395, rfl⟩
abbrev main_call2_c_34 : Ref sig .tc := ⟨.hbm, 396, rfl⟩
abbrev main_call2_v90 : Ref sig .tc := ⟨.hbm, 397, rfl⟩
abbrev main_call2_v91 : Ref sig .tc := ⟨.hbm, 398, rfl⟩
abbrev main_call2_v92 : Ref sig .tc := ⟨.hbm, 399, rfl⟩
abbrev main_call2_v93 : Ref sig .tc := ⟨.hbm, 400, rfl⟩
abbrev main_call2_v94 : Ref sig .tc := ⟨.hbm, 401, rfl⟩
abbrev main_call2_c_35 : Ref sig .tc := ⟨.hbm, 402, rfl⟩
abbrev main_call2_v95 : Ref sig .tc := ⟨.hbm, 403, rfl⟩
abbrev main_call2_v96 : Ref sig .tc := ⟨.hbm, 404, rfl⟩
abbrev main_call2_c_36 : Ref sig .tc := ⟨.hbm, 405, rfl⟩
abbrev main_call2_v97 : Ref sig .tc := ⟨.hbm, 406, rfl⟩
abbrev main_call2_c_37 : Ref sig .tc := ⟨.hbm, 407, rfl⟩
abbrev main_call2_v98 : Ref sig .tc := ⟨.hbm, 408, rfl⟩
abbrev main_call2_v99 : Ref sig .tc := ⟨.hbm, 409, rfl⟩
abbrev main_call2_v100 : Ref sig .tc := ⟨.hbm, 410, rfl⟩
abbrev main_call2_v101 : Ref sig .tc := ⟨.hbm, 411, rfl⟩
abbrev main_call2_c_38 : Ref sig .tc := ⟨.hbm, 412, rfl⟩
abbrev main_call2_v102 : Ref sig .tc := ⟨.hbm, 413, rfl⟩
abbrev main_call2_c_39 : Ref sig .tc := ⟨.hbm, 414, rfl⟩
abbrev main_call2_v103 : Ref sig .tc := ⟨.hbm, 415, rfl⟩
abbrev main_call2_v104 : Ref sig .tc := ⟨.hbm, 416, rfl⟩
abbrev main_call2_v105 : Ref sig .tc := ⟨.hbm, 417, rfl⟩
abbrev main_call2_v106 : Ref sig .tc := ⟨.hbm, 418, rfl⟩
abbrev main_call2_c_40 : Ref sig .tc := ⟨.hbm, 419, rfl⟩
abbrev main_call2_v107 : Ref sig .tc := ⟨.hbm, 420, rfl⟩
abbrev main_call2_c_41 : Ref sig .tc := ⟨.hbm, 421, rfl⟩
abbrev main_call2_v108 : Ref sig .tc := ⟨.hbm, 422, rfl⟩
abbrev main_call2_v109 : Ref sig .tc := ⟨.hbm, 423, rfl⟩
abbrev main_call2_v110 : Ref sig .tc := ⟨.hbm, 424, rfl⟩
abbrev main_call2_v111 : Ref sig .tc := ⟨.hbm, 425, rfl⟩
abbrev main_call2_c_42 : Ref sig .tc := ⟨.hbm, 426, rfl⟩
abbrev main_call2_v112 : Ref sig .tc := ⟨.hbm, 427, rfl⟩
abbrev main_call2_c_43 : Ref sig .tc := ⟨.hbm, 428, rfl⟩
abbrev main_call2_v113 : Ref sig .tc := ⟨.hbm, 429, rfl⟩
abbrev main_call2_v114 : Ref sig .tc := ⟨.hbm, 430, rfl⟩
abbrev main_call2_v115 : Ref sig .tc := ⟨.hbm, 431, rfl⟩
abbrev main_v22_0 : Ref sig .tc := ⟨.hbm, 432, rfl⟩
abbrev main_call2_v117 : Ref sig .tc := ⟨.hbm, 433, rfl⟩
abbrev main_call2_c_44 : Ref sig .tc := ⟨.hbm, 434, rfl⟩
abbrev main_v22_1 : Ref sig .tc := ⟨.hbm, 435, rfl⟩
abbrev main_v23 : Ref sig .tc := ⟨.hbm, 436, rfl⟩
abbrev main_c_3 : Ref sig .tc := ⟨.hbm, 437, rfl⟩
abbrev main_v24 : Ref sig .tc := ⟨.hbm, 438, rfl⟩
abbrev main_v25 : Ref sig .tc := ⟨.hbm, 439, rfl⟩
abbrev main_v26 : Ref sig .tc := ⟨.hbm, 440, rfl⟩
abbrev main_cst_4 : Ref sig .tc := ⟨.hbm, 441, rfl⟩
abbrev main_v27 : Ref sig .tc := ⟨.hbm, 442, rfl⟩
abbrev main_cst_5 : Ref sig .tc := ⟨.hbm, 443, rfl⟩
abbrev main_v28 : Ref sig .tc := ⟨.hbm, 444, rfl⟩
abbrev main_v29 : Ref sig .tc := ⟨.hbm, 445, rfl⟩
abbrev main_v30 : Ref sig .tc := ⟨.hbm, 446, rfl⟩
abbrev main_v31 : Ref sig .tc := ⟨.hbm, 447, rfl⟩
abbrev main_v32 : Ref sig .tc := ⟨.hbm, 448, rfl⟩
abbrev main_c_6 : Ref sig .tc := ⟨.hbm, 449, rfl⟩
abbrev main_v33 : Ref sig .tc := ⟨.hbm, 450, rfl⟩
abbrev main_v34 : Ref sig .tc := ⟨.hbm, 451, rfl⟩
abbrev main_v35 : Ref sig .tc := ⟨.hbm, 452, rfl⟩
abbrev main_v36 : Ref sig .tc := ⟨.hbm, 453, rfl⟩
abbrev main_v37 : Ref sig .tc := ⟨.hbm, 454, rfl⟩
abbrev main_v38 : Ref sig .tc := ⟨.hbm, 455, rfl⟩
abbrev main_c_7 : Ref sig .tc := ⟨.hbm, 456, rfl⟩
abbrev main_v39 : Ref sig .tc := ⟨.hbm, 457, rfl⟩
abbrev main_v40 : Ref sig .tc := ⟨.hbm, 458, rfl⟩
abbrev main_c_8 : Ref sig .tc := ⟨.hbm, 459, rfl⟩
abbrev main_v41 : Ref sig .tc := ⟨.hbm, 460, rfl⟩
abbrev main_v42 : Ref sig .tc := ⟨.hbm, 461, rfl⟩
abbrev main_v43 : Ref sig .tc := ⟨.hbm, 462, rfl⟩
abbrev main_v44 : Ref sig .tc := ⟨.hbm, 463, rfl⟩
abbrev main_call3_v0 : Ref sig .tc := ⟨.hbm, 464, rfl⟩
abbrev main_call3_c : Ref sig .tc := ⟨.hbm, 465, rfl⟩
abbrev main_call3_v1 : Ref sig .tc := ⟨.hbm, 466, rfl⟩
abbrev main_call3_v2 : Ref sig .tc := ⟨.hbm, 467, rfl⟩
abbrev main_call3_v3 : Ref sig .tc := ⟨.hbm, 468, rfl⟩
abbrev main_call3_v4 : Ref sig .tc := ⟨.hbm, 469, rfl⟩
abbrev main_call3_v5 : Ref sig .tc := ⟨.hbm, 470, rfl⟩
abbrev main_call3_v6 : Ref sig .tc := ⟨.hbm, 471, rfl⟩
abbrev main_call3_c_0 : Ref sig .tc := ⟨.hbm, 472, rfl⟩
abbrev main_call3_v7 : Ref sig .tc := ⟨.hbm, 473, rfl⟩
abbrev main_call3_v8 : Ref sig .tc := ⟨.hbm, 474, rfl⟩
abbrev main_call3_c_1 : Ref sig .tc := ⟨.hbm, 475, rfl⟩
abbrev main_call3_v9 : Ref sig .tc := ⟨.hbm, 476, rfl⟩
abbrev main_call3_v10 : Ref sig .tc := ⟨.hbm, 477, rfl⟩
abbrev main_call3_v11 : Ref sig .tc := ⟨.hbm, 478, rfl⟩
abbrev main_call3_v12 : Ref sig .tc := ⟨.hbm, 479, rfl⟩
abbrev main_call3_v13 : Ref sig .tc := ⟨.hbm, 480, rfl⟩
abbrev main_call3_c_2 : Ref sig .tc := ⟨.hbm, 481, rfl⟩
abbrev main_call3_v14 : Ref sig .tc := ⟨.hbm, 482, rfl⟩
abbrev main_call3_v15 : Ref sig .tc := ⟨.hbm, 483, rfl⟩
abbrev main_call3_c_3 : Ref sig .tc := ⟨.hbm, 484, rfl⟩
abbrev main_call3_v16 : Ref sig .tc := ⟨.hbm, 485, rfl⟩
abbrev main_call3_v17 : Ref sig .tc := ⟨.hbm, 486, rfl⟩
abbrev main_call3_v18 : Ref sig .tc := ⟨.hbm, 487, rfl⟩
abbrev main_call3_v19 : Ref sig .tc := ⟨.hbm, 488, rfl⟩
abbrev main_call3_v20 : Ref sig .tc := ⟨.hbm, 489, rfl⟩
abbrev main_call3_c_4 : Ref sig .tc := ⟨.hbm, 490, rfl⟩
abbrev main_call3_v21 : Ref sig .tc := ⟨.hbm, 491, rfl⟩
abbrev main_call3_v22 : Ref sig .tc := ⟨.hbm, 492, rfl⟩
abbrev main_call3_c_5 : Ref sig .tc := ⟨.hbm, 493, rfl⟩
abbrev main_call3_v23 : Ref sig .tc := ⟨.hbm, 494, rfl⟩
abbrev main_call3_v24 : Ref sig .tc := ⟨.hbm, 495, rfl⟩
abbrev main_call3_v25 : Ref sig .tc := ⟨.hbm, 496, rfl⟩
abbrev main_call3_v26 : Ref sig .tc := ⟨.hbm, 497, rfl⟩
abbrev main_call3_v27 : Ref sig .tc := ⟨.hbm, 498, rfl⟩
abbrev main_call3_c_6 : Ref sig .tc := ⟨.hbm, 499, rfl⟩
abbrev main_call3_v28 : Ref sig .tc := ⟨.hbm, 500, rfl⟩
abbrev main_call3_v29 : Ref sig .tc := ⟨.hbm, 501, rfl⟩
abbrev main_call3_c_7 : Ref sig .tc := ⟨.hbm, 502, rfl⟩
abbrev main_call3_v30 : Ref sig .tc := ⟨.hbm, 503, rfl⟩
abbrev main_call3_v31 : Ref sig .tc := ⟨.hbm, 504, rfl⟩
abbrev main_call3_v32 : Ref sig .tc := ⟨.hbm, 505, rfl⟩
abbrev main_call3_v33 : Ref sig .tc := ⟨.hbm, 506, rfl⟩
abbrev main_call3_v34 : Ref sig .tc := ⟨.hbm, 507, rfl⟩
abbrev main_call3_v35 : Ref sig .tc := ⟨.hbm, 508, rfl⟩
abbrev main_call3_v36 : Ref sig .tc := ⟨.hbm, 509, rfl⟩
abbrev main_call3_v37 : Ref sig .tc := ⟨.hbm, 510, rfl⟩
abbrev main_call3_c_8 : Ref sig .tc := ⟨.hbm, 511, rfl⟩
abbrev main_call3_v38 : Ref sig .tc := ⟨.hbm, 512, rfl⟩
abbrev main_call3_v39 : Ref sig .tc := ⟨.hbm, 513, rfl⟩
abbrev main_call3_v40 : Ref sig .tc := ⟨.hbm, 514, rfl⟩
abbrev main_call3_c_9 : Ref sig .tc := ⟨.hbm, 515, rfl⟩
abbrev main_call3_v41 : Ref sig .tc := ⟨.hbm, 516, rfl⟩
abbrev main_call3_v42 : Ref sig .tc := ⟨.hbm, 517, rfl⟩
abbrev main_call3_c_10 : Ref sig .tc := ⟨.hbm, 518, rfl⟩
abbrev main_call3_v43 : Ref sig .tc := ⟨.hbm, 519, rfl⟩
abbrev main_call3_v44 : Ref sig .tc := ⟨.hbm, 520, rfl⟩
abbrev main_call3_v45 : Ref sig .tc := ⟨.hbm, 521, rfl⟩
abbrev main_call3_v46 : Ref sig .tc := ⟨.hbm, 522, rfl⟩
abbrev main_call3_v47 : Ref sig .tc := ⟨.hbm, 523, rfl⟩
abbrev main_call3_c_11 : Ref sig .tc := ⟨.hbm, 524, rfl⟩
abbrev main_call3_v48 : Ref sig .tc := ⟨.hbm, 525, rfl⟩
abbrev main_call3_v49 : Ref sig .tc := ⟨.hbm, 526, rfl⟩
abbrev main_call3_c_12 : Ref sig .tc := ⟨.hbm, 527, rfl⟩
abbrev main_call3_v50 : Ref sig .tc := ⟨.hbm, 528, rfl⟩
abbrev main_call3_v51 : Ref sig .tc := ⟨.hbm, 529, rfl⟩
abbrev main_call3_v52 : Ref sig .tc := ⟨.hbm, 530, rfl⟩
abbrev main_call3_v53 : Ref sig .tc := ⟨.hbm, 531, rfl⟩
abbrev main_call3_v54 : Ref sig .tc := ⟨.hbm, 532, rfl⟩
abbrev main_call3_c_13 : Ref sig .tc := ⟨.hbm, 533, rfl⟩
abbrev main_call3_v55 : Ref sig .tc := ⟨.hbm, 534, rfl⟩
abbrev main_call3_v56 : Ref sig .tc := ⟨.hbm, 535, rfl⟩
abbrev main_call3_c_14 : Ref sig .tc := ⟨.hbm, 536, rfl⟩
abbrev main_call3_v57 : Ref sig .tc := ⟨.hbm, 537, rfl⟩
abbrev main_call3_v58 : Ref sig .tc := ⟨.hbm, 538, rfl⟩
abbrev main_call3_v59 : Ref sig .tc := ⟨.hbm, 539, rfl⟩
abbrev main_call3_v60 : Ref sig .tc := ⟨.hbm, 540, rfl⟩
abbrev main_call3_v61 : Ref sig .tc := ⟨.hbm, 541, rfl⟩
abbrev main_call3_c_15 : Ref sig .tc := ⟨.hbm, 542, rfl⟩
abbrev main_call3_v62 : Ref sig .tc := ⟨.hbm, 543, rfl⟩
abbrev main_call3_v63 : Ref sig .tc := ⟨.hbm, 544, rfl⟩
abbrev main_call3_c_16 : Ref sig .tc := ⟨.hbm, 545, rfl⟩
abbrev main_call3_v64 : Ref sig .tc := ⟨.hbm, 546, rfl⟩
abbrev main_call3_v65 : Ref sig .tc := ⟨.hbm, 547, rfl⟩
abbrev main_call3_v66 : Ref sig .tc := ⟨.hbm, 548, rfl⟩
abbrev main_call3_v67 : Ref sig .tc := ⟨.hbm, 549, rfl⟩
abbrev main_call3_v68 : Ref sig .tc := ⟨.hbm, 550, rfl⟩
abbrev main_call3_v69 : Ref sig .tc := ⟨.hbm, 551, rfl⟩
abbrev main_call3_v70 : Ref sig .tc := ⟨.hbm, 552, rfl⟩
abbrev main_call3_v71 : Ref sig .tc := ⟨.hbm, 553, rfl⟩
abbrev main_call3_c_17 : Ref sig .tc := ⟨.hbm, 554, rfl⟩
abbrev main_call3_v72 : Ref sig .tc := ⟨.hbm, 555, rfl⟩
abbrev main_call3_v73 : Ref sig .tc := ⟨.hbm, 556, rfl⟩
abbrev main_call3_v74 : Ref sig .tc := ⟨.hbm, 557, rfl⟩
abbrev main_call3_c_18 : Ref sig .tc := ⟨.hbm, 558, rfl⟩
abbrev main_call3_v75 : Ref sig .tc := ⟨.hbm, 559, rfl⟩
abbrev main_call3_v76 : Ref sig .tc := ⟨.hbm, 560, rfl⟩
abbrev main_call3_c_19 : Ref sig .tc := ⟨.hbm, 561, rfl⟩
abbrev main_call3_v77 : Ref sig .tc := ⟨.hbm, 562, rfl⟩
abbrev main_call3_v78 : Ref sig .tc := ⟨.hbm, 563, rfl⟩
abbrev main_call3_v79 : Ref sig .tc := ⟨.hbm, 564, rfl⟩
abbrev main_call3_v80 : Ref sig .tc := ⟨.hbm, 565, rfl⟩
abbrev main_call3_v81 : Ref sig .tc := ⟨.hbm, 566, rfl⟩
abbrev main_call3_c_20 : Ref sig .tc := ⟨.hbm, 567, rfl⟩
abbrev main_call3_v82 : Ref sig .tc := ⟨.hbm, 568, rfl⟩
abbrev main_call3_v83 : Ref sig .tc := ⟨.hbm, 569, rfl⟩
abbrev main_call3_c_21 : Ref sig .tc := ⟨.hbm, 570, rfl⟩
abbrev main_call3_v84 : Ref sig .tc := ⟨.hbm, 571, rfl⟩
abbrev main_call3_v85 : Ref sig .tc := ⟨.hbm, 572, rfl⟩
abbrev main_call3_v86 : Ref sig .tc := ⟨.hbm, 573, rfl⟩
abbrev main_call3_v87 : Ref sig .tc := ⟨.hbm, 574, rfl⟩
abbrev main_call3_v88 : Ref sig .tc := ⟨.hbm, 575, rfl⟩
abbrev main_call3_c_22 : Ref sig .tc := ⟨.hbm, 576, rfl⟩
abbrev main_call3_v89 : Ref sig .tc := ⟨.hbm, 577, rfl⟩
abbrev main_call3_v90 : Ref sig .tc := ⟨.hbm, 578, rfl⟩
abbrev main_call3_c_23 : Ref sig .tc := ⟨.hbm, 579, rfl⟩
abbrev main_call3_v91 : Ref sig .tc := ⟨.hbm, 580, rfl⟩
abbrev main_call3_v92 : Ref sig .tc := ⟨.hbm, 581, rfl⟩
abbrev main_call3_v93 : Ref sig .tc := ⟨.hbm, 582, rfl⟩
abbrev main_call3_v94 : Ref sig .tc := ⟨.hbm, 583, rfl⟩
abbrev main_call3_v95 : Ref sig .tc := ⟨.hbm, 584, rfl⟩
abbrev main_call3_c_24 : Ref sig .tc := ⟨.hbm, 585, rfl⟩
abbrev main_call3_v96 : Ref sig .tc := ⟨.hbm, 586, rfl⟩
abbrev main_call3_v97 : Ref sig .tc := ⟨.hbm, 587, rfl⟩
abbrev main_call3_c_25 : Ref sig .tc := ⟨.hbm, 588, rfl⟩
abbrev main_call3_v98 : Ref sig .tc := ⟨.hbm, 589, rfl⟩
abbrev main_call3_v99 : Ref sig .tc := ⟨.hbm, 590, rfl⟩
abbrev main_call3_v100 : Ref sig .tc := ⟨.hbm, 591, rfl⟩
abbrev main_call3_v101 : Ref sig .tc := ⟨.hbm, 592, rfl⟩
abbrev main_call3_v102 : Ref sig .tc := ⟨.hbm, 593, rfl⟩
abbrev main_call3_v103 : Ref sig .tc := ⟨.hbm, 594, rfl⟩
abbrev main_call3_v104 : Ref sig .tc := ⟨.hbm, 595, rfl⟩
abbrev main_call3_v105 : Ref sig .tc := ⟨.hbm, 596, rfl⟩
abbrev main_call3_c_26 : Ref sig .tc := ⟨.hbm, 597, rfl⟩
abbrev main_call3_v106 : Ref sig .tc := ⟨.hbm, 598, rfl⟩
abbrev main_call3_v107 : Ref sig .tc := ⟨.hbm, 599, rfl⟩
abbrev main_call3_v108 : Ref sig .tc := ⟨.hbm, 600, rfl⟩
abbrev main_call3_c_27 : Ref sig .tc := ⟨.hbm, 601, rfl⟩
abbrev main_call3_v109 : Ref sig .tc := ⟨.hbm, 602, rfl⟩
abbrev main_call3_v110 : Ref sig .tc := ⟨.hbm, 603, rfl⟩
abbrev main_call3_c_28 : Ref sig .tc := ⟨.hbm, 604, rfl⟩
abbrev main_call3_v111 : Ref sig .tc := ⟨.hbm, 605, rfl⟩
abbrev main_call3_v112 : Ref sig .tc := ⟨.hbm, 606, rfl⟩
abbrev main_call3_v113 : Ref sig .tc := ⟨.hbm, 607, rfl⟩
abbrev main_call3_v114 : Ref sig .tc := ⟨.hbm, 608, rfl⟩
abbrev main_call3_v115 : Ref sig .tc := ⟨.hbm, 609, rfl⟩
abbrev main_call3_c_29 : Ref sig .tc := ⟨.hbm, 610, rfl⟩
abbrev main_call3_v116 : Ref sig .tc := ⟨.hbm, 611, rfl⟩
abbrev main_call3_v117 : Ref sig .tc := ⟨.hbm, 612, rfl⟩
abbrev main_call3_c_30 : Ref sig .tc := ⟨.hbm, 613, rfl⟩
abbrev main_call3_v118 : Ref sig .tc := ⟨.hbm, 614, rfl⟩
abbrev main_call3_v119 : Ref sig .tc := ⟨.hbm, 615, rfl⟩
abbrev main_call3_v120 : Ref sig .tc := ⟨.hbm, 616, rfl⟩
abbrev main_call3_v121 : Ref sig .tc := ⟨.hbm, 617, rfl⟩
abbrev main_call3_v122 : Ref sig .tc := ⟨.hbm, 618, rfl⟩
abbrev main_call3_c_31 : Ref sig .tc := ⟨.hbm, 619, rfl⟩
abbrev main_call3_v123 : Ref sig .tc := ⟨.hbm, 620, rfl⟩
abbrev main_call3_v124 : Ref sig .tc := ⟨.hbm, 621, rfl⟩
abbrev main_call3_c_32 : Ref sig .tc := ⟨.hbm, 622, rfl⟩
abbrev main_call3_v125 : Ref sig .tc := ⟨.hbm, 623, rfl⟩
abbrev main_call3_v126 : Ref sig .tc := ⟨.hbm, 624, rfl⟩
abbrev main_call3_v127 : Ref sig .tc := ⟨.hbm, 625, rfl⟩
abbrev main_call3_v128 : Ref sig .tc := ⟨.hbm, 626, rfl⟩
abbrev main_call3_v129 : Ref sig .tc := ⟨.hbm, 627, rfl⟩
abbrev main_call3_c_33 : Ref sig .tc := ⟨.hbm, 628, rfl⟩
abbrev main_call3_v130 : Ref sig .tc := ⟨.hbm, 629, rfl⟩
abbrev main_call3_v131 : Ref sig .tc := ⟨.hbm, 630, rfl⟩
abbrev main_call3_c_34 : Ref sig .tc := ⟨.hbm, 631, rfl⟩
abbrev main_call3_v132 : Ref sig .tc := ⟨.hbm, 632, rfl⟩
abbrev main_call3_v133 : Ref sig .tc := ⟨.hbm, 633, rfl⟩
abbrev main_call3_v134 : Ref sig .tc := ⟨.hbm, 634, rfl⟩
abbrev main_call3_v135 : Ref sig .tc := ⟨.hbm, 635, rfl⟩
abbrev main_call3_v136 : Ref sig .tc := ⟨.hbm, 636, rfl⟩
abbrev main_call3_v137 : Ref sig .tc := ⟨.hbm, 637, rfl⟩
abbrev main_call3_v138 : Ref sig .tc := ⟨.hbm, 638, rfl⟩
abbrev main_call3_v139 : Ref sig .tc := ⟨.hbm, 639, rfl⟩
abbrev main_call3_c_35 : Ref sig .tc := ⟨.hbm, 640, rfl⟩
abbrev main_call3_v140 : Ref sig .tc := ⟨.hbm, 641, rfl⟩
abbrev main_call3_v141 : Ref sig .tc := ⟨.hbm, 642, rfl⟩
abbrev main_call3_v142 : Ref sig .tc := ⟨.hbm, 643, rfl⟩
abbrev main_call3_c_36 : Ref sig .tc := ⟨.hbm, 644, rfl⟩
abbrev main_call3_v143 : Ref sig .tc := ⟨.hbm, 645, rfl⟩
abbrev main_call3_v144 : Ref sig .tc := ⟨.hbm, 646, rfl⟩
abbrev main_call3_c_37 : Ref sig .tc := ⟨.hbm, 647, rfl⟩
abbrev main_call3_v145 : Ref sig .tc := ⟨.hbm, 648, rfl⟩
abbrev main_call3_v146 : Ref sig .tc := ⟨.hbm, 649, rfl⟩
abbrev main_call3_v147 : Ref sig .tc := ⟨.hbm, 650, rfl⟩
abbrev main_call3_v148 : Ref sig .tc := ⟨.hbm, 651, rfl⟩
abbrev main_call3_v149 : Ref sig .tc := ⟨.hbm, 652, rfl⟩
abbrev main_call3_c_38 : Ref sig .tc := ⟨.hbm, 653, rfl⟩
abbrev main_call3_v150 : Ref sig .tc := ⟨.hbm, 654, rfl⟩
abbrev main_call3_v151 : Ref sig .tc := ⟨.hbm, 655, rfl⟩
abbrev main_call3_c_39 : Ref sig .tc := ⟨.hbm, 656, rfl⟩
abbrev main_call3_v152 : Ref sig .tc := ⟨.hbm, 657, rfl⟩
abbrev main_call3_v153 : Ref sig .tc := ⟨.hbm, 658, rfl⟩
abbrev main_call3_v154 : Ref sig .tc := ⟨.hbm, 659, rfl⟩
abbrev main_call3_v155 : Ref sig .tc := ⟨.hbm, 660, rfl⟩
abbrev main_call3_v156 : Ref sig .tc := ⟨.hbm, 661, rfl⟩
abbrev main_call3_c_40 : Ref sig .tc := ⟨.hbm, 662, rfl⟩
abbrev main_call3_v157 : Ref sig .tc := ⟨.hbm, 663, rfl⟩
abbrev main_call3_v158 : Ref sig .tc := ⟨.hbm, 664, rfl⟩
abbrev main_call3_c_41 : Ref sig .tc := ⟨.hbm, 665, rfl⟩
abbrev main_call3_v159 : Ref sig .tc := ⟨.hbm, 666, rfl⟩
abbrev main_call3_v160 : Ref sig .tc := ⟨.hbm, 667, rfl⟩
abbrev main_call3_v161 : Ref sig .tc := ⟨.hbm, 668, rfl⟩
abbrev main_call3_v162 : Ref sig .tc := ⟨.hbm, 669, rfl⟩
abbrev main_call3_v163 : Ref sig .tc := ⟨.hbm, 670, rfl⟩
abbrev main_call3_c_42 : Ref sig .tc := ⟨.hbm, 671, rfl⟩
abbrev main_call3_v164 : Ref sig .tc := ⟨.hbm, 672, rfl⟩
abbrev main_call3_v165 : Ref sig .tc := ⟨.hbm, 673, rfl⟩
abbrev main_call3_c_43 : Ref sig .tc := ⟨.hbm, 674, rfl⟩
abbrev main_call3_v166 : Ref sig .tc := ⟨.hbm, 675, rfl⟩
abbrev main_call3_v167 : Ref sig .tc := ⟨.hbm, 676, rfl⟩
abbrev main_call3_v168 : Ref sig .tc := ⟨.hbm, 677, rfl⟩
abbrev main_call3_v169 : Ref sig .tc := ⟨.hbm, 678, rfl⟩
abbrev main_call3_v170 : Ref sig .tc := ⟨.hbm, 679, rfl⟩
abbrev main_v45_0 : Ref sig .tc := ⟨.hbm, 680, rfl⟩
abbrev main_call3_v172 : Ref sig .tc := ⟨.hbm, 681, rfl⟩
abbrev main_call3_v173 : Ref sig .tc := ⟨.hbm, 682, rfl⟩
abbrev main_call3_c_44 : Ref sig .tc := ⟨.hbm, 683, rfl⟩
abbrev main_call3_v174 : Ref sig .tc := ⟨.hbm, 684, rfl⟩
abbrev main_v45_1 : Ref sig .tc := ⟨.hbm, 685, rfl⟩
abbrev main_v46 : Ref sig .tc := ⟨.hbm, 686, rfl⟩
abbrev main_c_9 : Ref sig .tc := ⟨.hbm, 687, rfl⟩
abbrev main_v47 : Ref sig .tc := ⟨.hbm, 688, rfl⟩
abbrev main_v48 : Ref sig .tc := ⟨.hbm, 689, rfl⟩
abbrev main_v49 : Ref sig .tc := ⟨.hbm, 690, rfl⟩
abbrev main_v50 : Ref sig .tc := ⟨.hbm, 691, rfl⟩
abbrev main_cst_10 : Ref sig .tc := ⟨.hbm, 692, rfl⟩
abbrev main_v51 : Ref sig .tc := ⟨.hbm, 693, rfl⟩
abbrev main_v52 : Ref sig .tc := ⟨.hbm, 694, rfl⟩
abbrev main_cst_11 : Ref sig .tc := ⟨.hbm, 695, rfl⟩
abbrev main_cst_12 : Ref sig .tc := ⟨.hbm, 696, rfl⟩
abbrev main_v53 : Ref sig .tc := ⟨.hbm, 697, rfl⟩
abbrev main_v54 : Ref sig .tc := ⟨.hbm, 698, rfl⟩
abbrev main_v55 : Ref sig .tc := ⟨.hbm, 699, rfl⟩
abbrev main_cst_13 : Ref sig .tc := ⟨.hbm, 700, rfl⟩
abbrev main_v56 : Ref sig .tc := ⟨.hbm, 701, rfl⟩
abbrev main_v57 : Ref sig .tc := ⟨.hbm, 702, rfl⟩
abbrev main_cst_14 : Ref sig .tc := ⟨.hbm, 703, rfl⟩
abbrev main_v58 : Ref sig .tc := ⟨.hbm, 704, rfl⟩
abbrev main_v59 : Ref sig .tc := ⟨.hbm, 705, rfl⟩
abbrev main_v60 : Ref sig .tc := ⟨.hbm, 706, rfl⟩
abbrev main_v61 : Ref sig .tc := ⟨.hbm, 707, rfl⟩
abbrev main_v62 : Ref sig .tc := ⟨.hbm, 708, rfl⟩
abbrev main_v63 : Ref sig .tc := ⟨.hbm, 709, rfl⟩
abbrev main_cst_15 : Ref sig .tc := ⟨.hbm, 710, rfl⟩
abbrev main_v64 : Ref sig .tc := ⟨.hbm, 711, rfl⟩
abbrev main_v65 : Ref sig .tc := ⟨.hbm, 712, rfl⟩
abbrev main_cst_16 : Ref sig .tc := ⟨.hbm, 713, rfl⟩
abbrev main_v66 : Ref sig .tc := ⟨.hbm, 714, rfl⟩
abbrev main_v67 : Ref sig .tc := ⟨.hbm, 715, rfl⟩
abbrev main_cst_17 : Ref sig .tc := ⟨.hbm, 716, rfl⟩
abbrev main_v68 : Ref sig .tc := ⟨.hbm, 717, rfl⟩
abbrev main_v69 : Ref sig .tc := ⟨.hbm, 718, rfl⟩
abbrev main_cst_18 : Ref sig .tc := ⟨.hbm, 719, rfl⟩
abbrev main_v70 : Ref sig .tc := ⟨.hbm, 720, rfl⟩
abbrev main_v71 : Ref sig .tc := ⟨.hbm, 721, rfl⟩
abbrev main_v72 : Ref sig .tc := ⟨.hbm, 722, rfl⟩
abbrev main_cst_19 : Ref sig .tc := ⟨.hbm, 723, rfl⟩
abbrev main_v73 : Ref sig .tc := ⟨.hbm, 724, rfl⟩
abbrev main_v74 : Ref sig .tc := ⟨.hbm, 725, rfl⟩
abbrev main_cst_20 : Ref sig .tc := ⟨.hbm, 726, rfl⟩
abbrev main_v75 : Ref sig .tc := ⟨.hbm, 727, rfl⟩
abbrev main_v76 : Ref sig .tc := ⟨.hbm, 728, rfl⟩
abbrev main_v77 : Ref sig .tc := ⟨.hbm, 729, rfl⟩
abbrev main_cst_21 : Ref sig .tc := ⟨.hbm, 730, rfl⟩
abbrev main_v78 : Ref sig .tc := ⟨.hbm, 731, rfl⟩
abbrev main_v79 : Ref sig .tc := ⟨.hbm, 732, rfl⟩
abbrev main_cst_22 : Ref sig .tc := ⟨.hbm, 733, rfl⟩
abbrev main_v80 : Ref sig .tc := ⟨.hbm, 734, rfl⟩
abbrev main_v81 : Ref sig .tc := ⟨.hbm, 735, rfl⟩
abbrev main_v82 : Ref sig .tc := ⟨.hbm, 736, rfl⟩
abbrev main_cst_23 : Ref sig .tc := ⟨.hbm, 737, rfl⟩
abbrev main_v83 : Ref sig .tc := ⟨.hbm, 738, rfl⟩
abbrev main_v84 : Ref sig .tc := ⟨.hbm, 739, rfl⟩
abbrev main_cst_24 : Ref sig .tc := ⟨.hbm, 740, rfl⟩
abbrev main_v85 : Ref sig .tc := ⟨.hbm, 741, rfl⟩
abbrev main_v86 : Ref sig .tc := ⟨.hbm, 742, rfl⟩
abbrev main_v87 : Ref sig .tc := ⟨.hbm, 743, rfl⟩
abbrev main_cst_25 : Ref sig .tc := ⟨.hbm, 744, rfl⟩
abbrev main_v88 : Ref sig .tc := ⟨.hbm, 745, rfl⟩
abbrev main_v89 : Ref sig .tc := ⟨.hbm, 746, rfl⟩
abbrev main_cst_26 : Ref sig .tc := ⟨.hbm, 747, rfl⟩
abbrev main_v90 : Ref sig .tc := ⟨.hbm, 748, rfl⟩
abbrev main_v91 : Ref sig .tc := ⟨.hbm, 749, rfl⟩
abbrev main_v92 : Ref sig .tc := ⟨.hbm, 750, rfl⟩
abbrev main_cst_27 : Ref sig .tc := ⟨.hbm, 751, rfl⟩
abbrev main_v93 : Ref sig .tc := ⟨.hbm, 752, rfl⟩
abbrev main_v94 : Ref sig .tc := ⟨.hbm, 753, rfl⟩
abbrev main_cst_28 : Ref sig .tc := ⟨.hbm, 754, rfl⟩
abbrev main_v95 : Ref sig .tc := ⟨.hbm, 755, rfl⟩
abbrev main_v96 : Ref sig .tc := ⟨.hbm, 756, rfl⟩
abbrev main_v97 : Ref sig .tc := ⟨.hbm, 757, rfl⟩
abbrev main_cst_29 : Ref sig .tc := ⟨.hbm, 758, rfl⟩
abbrev main_v98 : Ref sig .tc := ⟨.hbm, 759, rfl⟩
abbrev main_v99 : Ref sig .tc := ⟨.hbm, 760, rfl⟩
abbrev main_cst_30 : Ref sig .tc := ⟨.hbm, 761, rfl⟩
abbrev main_v100 : Ref sig .tc := ⟨.hbm, 762, rfl⟩
abbrev main_v101 : Ref sig .tc := ⟨.hbm, 763, rfl⟩
abbrev main_v102 : Ref sig .tc := ⟨.hbm, 764, rfl⟩
abbrev main_cst_31 : Ref sig .tc := ⟨.hbm, 765, rfl⟩
abbrev main_v103 : Ref sig .tc := ⟨.hbm, 766, rfl⟩
abbrev main_v104 : Ref sig .tc := ⟨.hbm, 767, rfl⟩
abbrev main_cst_32 : Ref sig .tc := ⟨.hbm, 768, rfl⟩
abbrev main_v105 : Ref sig .tc := ⟨.hbm, 769, rfl⟩
abbrev main_v106 : Ref sig .tc := ⟨.hbm, 770, rfl⟩
abbrev main_v107 : Ref sig .tc := ⟨.hbm, 771, rfl⟩
abbrev main_cst_33 : Ref sig .tc := ⟨.hbm, 772, rfl⟩
abbrev main_v108 : Ref sig .tc := ⟨.hbm, 773, rfl⟩
abbrev main_v109 : Ref sig .tc := ⟨.hbm, 774, rfl⟩
abbrev main_v110 : Ref sig .tc := ⟨.hbm, 775, rfl⟩
abbrev main_cst_34 : Ref sig .tc := ⟨.hbm, 776, rfl⟩
abbrev main_v111 : Ref sig .tc := ⟨.hbm, 777, rfl⟩
abbrev main_v112 : Ref sig .tc := ⟨.hbm, 778, rfl⟩
abbrev main_cst_35 : Ref sig .tc := ⟨.hbm, 779, rfl⟩
abbrev main_v113 : Ref sig .tc := ⟨.hbm, 780, rfl⟩
abbrev main_v114 : Ref sig .tc := ⟨.hbm, 781, rfl⟩
abbrev main_cst_36 : Ref sig .tc := ⟨.hbm, 782, rfl⟩
abbrev main_v115 : Ref sig .tc := ⟨.hbm, 783, rfl⟩
abbrev main_v116 : Ref sig .tc := ⟨.hbm, 784, rfl⟩
abbrev main_v117 : Ref sig .tc := ⟨.hbm, 785, rfl⟩
abbrev main_cst_37 : Ref sig .tc := ⟨.hbm, 786, rfl⟩
abbrev main_v118 : Ref sig .tc := ⟨.hbm, 787, rfl⟩
abbrev main_v119 : Ref sig .tc := ⟨.hbm, 788, rfl⟩
abbrev main_v120 : Ref sig .tc := ⟨.hbm, 789, rfl⟩
abbrev main_cst_38 : Ref sig .tc := ⟨.hbm, 790, rfl⟩
abbrev main_v121 : Ref sig .tc := ⟨.hbm, 791, rfl⟩
abbrev main_v122 : Ref sig .tc := ⟨.hbm, 792, rfl⟩
abbrev main_v123 : Ref sig .tc := ⟨.hbm, 793, rfl⟩
abbrev main_cst_39 : Ref sig .tc := ⟨.hbm, 794, rfl⟩
abbrev main_v124 : Ref sig .tc := ⟨.hbm, 795, rfl⟩
abbrev main_v125 : Ref sig .tc := ⟨.hbm, 796, rfl⟩
abbrev main_v126 : Ref sig .tc := ⟨.hbm, 797, rfl⟩
abbrev main_cst_40 : Ref sig .tc := ⟨.hbm, 798, rfl⟩
abbrev main_v127 : Ref sig .tc := ⟨.hbm, 799, rfl⟩
abbrev main_v128 : Ref sig .tc := ⟨.hbm, 800, rfl⟩
abbrev main_v129 : Ref sig .tc := ⟨.hbm, 801, rfl⟩
abbrev main_cst_41 : Ref sig .tc := ⟨.hbm, 802, rfl⟩
abbrev main_v130 : Ref sig .tc := ⟨.hbm, 803, rfl⟩
abbrev main_v131 : Ref sig .tc := ⟨.hbm, 804, rfl⟩
abbrev main_v132 : Ref sig .tc := ⟨.hbm, 805, rfl⟩
abbrev main_cst_42 : Ref sig .tc := ⟨.hbm, 806, rfl⟩
abbrev main_v133 : Ref sig .tc := ⟨.hbm, 807, rfl⟩
abbrev main_v134 : Ref sig .tc := ⟨.hbm, 808, rfl⟩
abbrev main_v135 : Ref sig .tc := ⟨.hbm, 809, rfl⟩
abbrev main_cst_43 : Ref sig .tc := ⟨.hbm, 810, rfl⟩
abbrev main_v136 : Ref sig .tc := ⟨.hbm, 811, rfl⟩
abbrev main_v137 : Ref sig .tc := ⟨.hbm, 812, rfl⟩
abbrev main_v138 : Ref sig .tc := ⟨.hbm, 813, rfl⟩
abbrev main_cst_44 : Ref sig .tc := ⟨.hbm, 814, rfl⟩
abbrev main_v139 : Ref sig .tc := ⟨.hbm, 815, rfl⟩
abbrev main_v140 : Ref sig .tc := ⟨.hbm, 816, rfl⟩
abbrev main_v141 : Ref sig .tc := ⟨.hbm, 817, rfl⟩
abbrev main_cst_45 : Ref sig .tc := ⟨.hbm, 818, rfl⟩
abbrev main_v142 : Ref sig .tc := ⟨.hbm, 819, rfl⟩
abbrev main_v143 : Ref sig .tc := ⟨.hbm, 820, rfl⟩
abbrev main_v144 : Ref sig .tc := ⟨.hbm, 821, rfl⟩
abbrev main_cst_46 : Ref sig .tc := ⟨.hbm, 822, rfl⟩
abbrev main_v145 : Ref sig .tc := ⟨.hbm, 823, rfl⟩
abbrev main_v146 : Ref sig .tc := ⟨.hbm, 824, rfl⟩
abbrev main_v147 : Ref sig .tc := ⟨.hbm, 825, rfl⟩
abbrev main_cst_47 : Ref sig .tc := ⟨.hbm, 826, rfl⟩
abbrev main_v148 : Ref sig .tc := ⟨.hbm, 827, rfl⟩
abbrev main_v149 : Ref sig .tc := ⟨.hbm, 828, rfl⟩
abbrev main_v150 : Ref sig .tc := ⟨.hbm, 829, rfl⟩
abbrev main_cst_48 : Ref sig .tc := ⟨.hbm, 830, rfl⟩
abbrev main_v151 : Ref sig .tc := ⟨.hbm, 831, rfl⟩
abbrev main_v152 : Ref sig .tc := ⟨.hbm, 832, rfl⟩
abbrev main_v153 : Ref sig .tc := ⟨.hbm, 833, rfl⟩
abbrev main_cst_49 : Ref sig .tc := ⟨.hbm, 834, rfl⟩
abbrev main_v154 : Ref sig .tc := ⟨.hbm, 835, rfl⟩
abbrev main_v155 : Ref sig .tc := ⟨.hbm, 836, rfl⟩
abbrev main_v156 : Ref sig .tc := ⟨.hbm, 837, rfl⟩
abbrev main_cst_50 : Ref sig .tc := ⟨.hbm, 838, rfl⟩
abbrev main_v157 : Ref sig .tc := ⟨.hbm, 839, rfl⟩
abbrev main_v158 : Ref sig .tc := ⟨.hbm, 840, rfl⟩
abbrev main_v159 : Ref sig .tc := ⟨.hbm, 841, rfl⟩
abbrev main_cst_51 : Ref sig .tc := ⟨.hbm, 842, rfl⟩
abbrev main_v160 : Ref sig .tc := ⟨.hbm, 843, rfl⟩
abbrev main_v161 : Ref sig .tc := ⟨.hbm, 844, rfl⟩
abbrev main_v162 : Ref sig .tc := ⟨.hbm, 845, rfl⟩
abbrev main_cst_52 : Ref sig .tc := ⟨.hbm, 846, rfl⟩
abbrev main_v163 : Ref sig .tc := ⟨.hbm, 847, rfl⟩
abbrev main_v164 : Ref sig .tc := ⟨.hbm, 848, rfl⟩
abbrev main_cst_53 : Ref sig .tc := ⟨.hbm, 849, rfl⟩
abbrev main_v165 : Ref sig .tc := ⟨.hbm, 850, rfl⟩
abbrev main_v166 : Ref sig .tc := ⟨.hbm, 851, rfl⟩
abbrev main_v167 : Ref sig .tc := ⟨.hbm, 852, rfl⟩
abbrev main_v168 : Ref sig .tc := ⟨.hbm, 853, rfl⟩
abbrev main_cst_54 : Ref sig .tc := ⟨.hbm, 854, rfl⟩
abbrev main_v169 : Ref sig .tc := ⟨.hbm, 855, rfl⟩
abbrev main_v170 : Ref sig .tc := ⟨.hbm, 856, rfl⟩
abbrev main_c_55 : Ref sig .tc := ⟨.hbm, 857, rfl⟩
abbrev main_v171 : Ref sig .tc := ⟨.hbm, 858, rfl⟩
abbrev main_c_56 : Ref sig .tc := ⟨.hbm, 859, rfl⟩
abbrev main_v172 : Ref sig .tc := ⟨.hbm, 860, rfl⟩
abbrev main_v173 : Ref sig .tc := ⟨.hbm, 861, rfl⟩
abbrev main_c_57 : Ref sig .tc := ⟨.hbm, 862, rfl⟩
abbrev main_c_58 : Ref sig .tc := ⟨.hbm, 863, rfl⟩
abbrev main_v174 : Ref sig .tc := ⟨.hbm, 864, rfl⟩
abbrev main_c_59 : Ref sig .tc := ⟨.hbm, 865, rfl⟩
abbrev main_c_60 : Ref sig .tc := ⟨.hbm, 866, rfl⟩
abbrev main_v175 : Ref sig .tc := ⟨.hbm, 867, rfl⟩
abbrev main_c_61 : Ref sig .tc := ⟨.hbm, 868, rfl⟩
abbrev main_v176 : Ref sig .tc := ⟨.hbm, 869, rfl⟩
abbrev main_v177 : Ref sig .tc := ⟨.hbm, 870, rfl⟩
abbrev main_v178 : Ref sig .tc := ⟨.hbm, 871, rfl⟩
abbrev main_c_62 : Ref sig .tc := ⟨.hbm, 872, rfl⟩
abbrev main_v179 : Ref sig .tc := ⟨.hbm, 873, rfl⟩
abbrev main_c_63 : Ref sig .tc := ⟨.hbm, 874, rfl⟩
abbrev main_v180 : Ref sig .tc := ⟨.hbm, 875, rfl⟩
abbrev main_v181 : Ref sig .tc := ⟨.hbm, 876, rfl⟩
abbrev main_c_64 : Ref sig .tc := ⟨.hbm, 877, rfl⟩
abbrev main_c_65 : Ref sig .tc := ⟨.hbm, 878, rfl⟩
abbrev main_v182 : Ref sig .tc := ⟨.hbm, 879, rfl⟩
abbrev main_c_66 : Ref sig .tc := ⟨.hbm, 880, rfl⟩
abbrev main_c_67 : Ref sig .tc := ⟨.hbm, 881, rfl⟩
abbrev main_v183 : Ref sig .tc := ⟨.hbm, 882, rfl⟩
abbrev main_c_68 : Ref sig .tc := ⟨.hbm, 883, rfl⟩
abbrev main_v184 : Ref sig .tc := ⟨.hbm, 884, rfl⟩
abbrev main_c_69 : Ref sig .tc := ⟨.hbm, 885, rfl⟩
abbrev main_c_70 : Ref sig .tc := ⟨.hbm, 886, rfl⟩
abbrev main_v185 : Ref sig .tc := ⟨.hbm, 887, rfl⟩
abbrev main_c_71 : Ref sig .tc := ⟨.hbm, 888, rfl⟩
abbrev main_c_72 : Ref sig .tc := ⟨.hbm, 889, rfl⟩
abbrev main_v186 : Ref sig .tc := ⟨.hbm, 890, rfl⟩
abbrev main_c_73 : Ref sig .tc := ⟨.hbm, 891, rfl⟩
abbrev main_v187 : Ref sig .tc := ⟨.hbm, 892, rfl⟩
abbrev main_v188 : Ref sig .tc := ⟨.hbm, 893, rfl⟩
abbrev main_v189 : Ref sig .tc := ⟨.hbm, 894, rfl⟩
abbrev main_v190 : Ref sig .tc := ⟨.hbm, 895, rfl⟩
abbrev main_cst_74 : Ref sig .tc := ⟨.hbm, 896, rfl⟩
abbrev main_v191 : Ref sig .tc := ⟨.hbm, 897, rfl⟩
abbrev main_c_75 : Ref sig .tc := ⟨.hbm, 898, rfl⟩
abbrev main_c_76 : Ref sig .tc := ⟨.hbm, 899, rfl⟩
abbrev main_v192_0 : Ref sig .tc := ⟨.hbm, 900, rfl⟩
abbrev main_v192_1 : Ref sig .tc := ⟨.hbm, 901, rfl⟩
abbrev main_v192_2 : Ref sig .tc := ⟨.hbm, 902, rfl⟩
abbrev main_v192_3 : Ref sig .tc := ⟨.hbm, 903, rfl⟩
abbrev main_v192_4 : Ref sig .tc := ⟨.hbm, 904, rfl⟩
abbrev main_while0c_c_81 : Ref sig .tc := ⟨.hbm, 905, rfl⟩
abbrev main_while0c_v195 : Ref sig .tc := ⟨.hbm, 906, rfl⟩
abbrev main_while0b_c_81 : Ref sig .tc := ⟨.hbm, 907, rfl⟩
abbrev main_while0b_v195 : Ref sig .tc := ⟨.hbm, 908, rfl⟩
abbrev main_while0b_v196 : Ref sig .tc := ⟨.hbm, 909, rfl⟩
abbrev main_while0b_c_82 : Ref sig .tc := ⟨.hbm, 910, rfl⟩
abbrev main_while0b_c_83 : Ref sig .tc := ⟨.hbm, 911, rfl⟩
abbrev main_while0b_v197 : Ref sig .tc := ⟨.hbm, 912, rfl⟩
abbrev main_while0b_c_84 : Ref sig .tc := ⟨.hbm, 913, rfl⟩
abbrev main_while0b_c_85 : Ref sig .tc := ⟨.hbm, 914, rfl⟩
abbrev main_while0b_v198 : Ref sig .tc := ⟨.hbm, 915, rfl⟩
abbrev main_while0b_c_86 : Ref sig .tc := ⟨.hbm, 916, rfl⟩
abbrev main_while0b_v199 : Ref sig .tc := ⟨.hbm, 917, rfl⟩
abbrev main_while0b_c_87 : Ref sig .tc := ⟨.hbm, 918, rfl⟩
abbrev main_while0b_v200 : Ref sig .tc := ⟨.hbm, 919, rfl⟩
abbrev main_while0b_c_88 : Ref sig .tc := ⟨.hbm, 920, rfl⟩
abbrev main_while0b_v201 : Ref sig .tc := ⟨.hbm, 921, rfl⟩
abbrev main_while0b_v202 : Ref sig .tc := ⟨.hbm, 922, rfl⟩
abbrev main_while0b_v203 : Ref sig .tc := ⟨.hbm, 923, rfl⟩
abbrev main_while0b_v204 : Ref sig .tc := ⟨.hbm, 924, rfl⟩
abbrev main_while0b_v205 : Ref sig .tc := ⟨.hbm, 925, rfl⟩
abbrev main_while0b_c_89 : Ref sig .tc := ⟨.hbm, 926, rfl⟩
abbrev main_while0b_v206 : Ref sig .tc := ⟨.hbm, 927, rfl⟩
abbrev main_while0b_c_90 : Ref sig .tc := ⟨.hbm, 928, rfl⟩
abbrev main_while0b_v207 : Ref sig .tc := ⟨.hbm, 929, rfl⟩
abbrev main_while0b_v208 : Ref sig .tc := ⟨.hbm, 930, rfl⟩
abbrev main_while0b_c_91 : Ref sig .tc := ⟨.hbm, 931, rfl⟩
abbrev main_while0b_c_92 : Ref sig .tc := ⟨.hbm, 932, rfl⟩
abbrev main_while0b_v209 : Ref sig .tc := ⟨.hbm, 933, rfl⟩
abbrev main_while0b_c_93 : Ref sig .tc := ⟨.hbm, 934, rfl⟩
abbrev main_while0b_c_94 : Ref sig .tc := ⟨.hbm, 935, rfl⟩
abbrev main_while0b_v210 : Ref sig .tc := ⟨.hbm, 936, rfl⟩
abbrev main_while0b_c_95 : Ref sig .tc := ⟨.hbm, 937, rfl⟩
abbrev main_while0b_v211 : Ref sig .tc := ⟨.hbm, 938, rfl⟩
abbrev main_while0b_v212 : Ref sig .tc := ⟨.hbm, 939, rfl⟩
abbrev main_while0b_v213 : Ref sig .tc := ⟨.hbm, 940, rfl⟩
abbrev main_while0b_v214 : Ref sig .tc := ⟨.hbm, 941, rfl⟩
abbrev main_while0b_v215 : Ref sig .tc := ⟨.hbm, 942, rfl⟩
abbrev main_while0b_v216 : Ref sig .tc := ⟨.hbm, 943, rfl⟩
abbrev main_while0b_v217 : Ref sig .tc := ⟨.hbm, 944, rfl⟩
abbrev main_while0b_v218 : Ref sig .tc := ⟨.hbm, 945, rfl⟩
abbrev main_while0b_c_96 : Ref sig .tc := ⟨.hbm, 946, rfl⟩
abbrev main_while0b_v219 : Ref sig .tc := ⟨.hbm, 947, rfl⟩
abbrev main_while0b_v220 : Ref sig .tc := ⟨.hbm, 948, rfl⟩
abbrev main_while0b_c_97 : Ref sig .tc := ⟨.hbm, 949, rfl⟩
abbrev main_while0b_v221 : Ref sig .tc := ⟨.hbm, 950, rfl⟩
abbrev main_while0b_v222 : Ref sig .tc := ⟨.hbm, 951, rfl⟩
abbrev main_while0b_v223 : Ref sig .tc := ⟨.hbm, 952, rfl⟩
abbrev main_while0b_v224 : Ref sig .tc := ⟨.hbm, 953, rfl⟩
abbrev main_while0b_v225 : Ref sig .tc := ⟨.hbm, 954, rfl⟩
abbrev main_while0b_v226 : Ref sig .tc := ⟨.hbm, 955, rfl⟩
abbrev main_while0b_v227 : Ref sig .tc := ⟨.hbm, 956, rfl⟩
abbrev main_while0b_cst_98 : Ref sig .tc := ⟨.hbm, 957, rfl⟩
abbrev main_while0b_call5_v0 : Ref sig .tc := ⟨.hbm, 958, rfl⟩
abbrev main_while0b_call5_v1 : Ref sig .tc := ⟨.hbm, 959, rfl⟩
abbrev main_while0b_v228 : Ref sig .tc := ⟨.hbm, 960, rfl⟩
abbrev main_while0b_v229 : Ref sig .tc := ⟨.hbm, 961, rfl⟩
abbrev main_while0b_v230 : Ref sig .tc := ⟨.hbm, 962, rfl⟩
abbrev main_while0b_v231 : Ref sig .tc := ⟨.hbm, 963, rfl⟩
abbrev main_while0b_v232 : Ref sig .tc := ⟨.hbm, 964, rfl⟩
abbrev main_while0b_v233 : Ref sig .tc := ⟨.hbm, 965, rfl⟩
abbrev main_while0b_call6_v0 : Ref sig .tc := ⟨.hbm, 966, rfl⟩
abbrev main_while0b_call6_v1 : Ref sig .tc := ⟨.hbm, 967, rfl⟩
abbrev main_while0b_v234 : Ref sig .tc := ⟨.hbm, 968, rfl⟩
abbrev main_while0b_c_99 : Ref sig .tc := ⟨.hbm, 969, rfl⟩
abbrev main_while0b_v235 : Ref sig .tc := ⟨.hbm, 970, rfl⟩
abbrev main_v193 : Ref sig .tc := ⟨.hbm, 971, rfl⟩
abbrev main_v194 : Ref sig .tc := ⟨.hbm, 972, rfl⟩

abbrev nD : Nat := 1
abbrev τ : Topo := Topo.v7x

variable {F : FTy → Type} [FloatOps F]

abbrev main_while0_count : Scf.Loop 32 := ⟨0#32, 128#32, 1#32⟩
-- ==== Proof.Panel.lean ====
/-
  One panel of the kernel's factorisation, read as a function of the panel's rows.

  The kernel eliminates sixteen rows at a time. `rowsAt` and `colsAt` are what the panel's rows (with the vector of normals
  below them) and their columns inside the panel are after `n` of its sixteen steps, `wAt` is the row of the factor that step
  `n` finds, and `yAt` is the running sample. The theorem `panel_eq` says that the printed panel loads its sixteen rows and
  computes just these.
-/
module

public import proofs.«01_k».proof.Proof.Gen.KernelIdeal.Skeleton

@[expose] public section

noncomputable section

namespace Cert.KernelIdeal.Hand

open Cert.KernelIdeal Cert.KernelIdeal.Gen
open Idealize.ShloMosaic Idealize.SL.Sem

variable {F : FTy → Type} [FloatOps F]

/-- Column t lies inside the panel block. -/
theorem slices_col (t : Fin 16) : S17x16.Slices ![0, (t : ℕ)] S17x1 := by revert t; decide
/-- Entry t lies inside a column of the block. -/
theorem slices_pivot (t : Fin 16) : S17x1.Slices ![(t : ℕ), 0] S1x1 := by revert t; decide
/-- Row t lies inside the panel's rows. -/
theorem slices_row (t : Fin 16) : S17x128.Slices ![(t : ℕ), 0] S1x128 := by revert t; decide
/-- Row t lies inside the panel block. -/
theorem slices_crow (t : Fin 16) : S17x16.Slices ![(t : ℕ), 0] S1x16 := by revert t; decide

/-- The lanes' numbers in a row of 128. -/
abbrev lane : IVec S1x128 32 := iota .tc S1x128 32 [1] iota_S1x128_d1_w32
/-- The rows' numbers in a column of 17. -/
abbrev sub17 : IVec S17x1 32 := iota .tc S17x1 32 [0] iota_S17x1_d0_w32
/-- The lanes' numbers in a row of 16. -/
abbrev lane16 : IVec S1x16 32 := iota .tc S1x16 32 [1] iota_S1x16_d1_w32
/-- The rows' numbers in a 128 × 16 array. -/
abbrev rowNo : IVec S128x16 32 := iota .tc S128x16 32 [0] iota_S128x16_d0_w32
/-- The columns' numbers in a 128 × 16 array. -/
abbrev colNo : IVec S128x16 32 := iota .tc S128x16 32 [1] iota_S128x16_d1_w32

/-- The first row of panel `k`. -/
abbrev baseOf (k : Fin k0_t1_loop.trips) : BitVec 32 := Scalar.muli 16#32 (Scf.iv 0#32 1#32 k)

/-- The panel's sixteen rows with the normals `z` below them. -/
def rows0 (z : FVec F S1x128 .f32) (a : FVec F S16x128 .f32) : FVec F S17x128 .f32 :=
  concatenate S17x128 0 [⟨S16x128, a⟩, ⟨S1x128, z⟩] concatenates_S16x128_S1x128_S17x128_d0

/-- The sixteen columns of the rows `r` that start at `base`, picked by a product with a 0-1 matrix. -/
def cols0 (base : BitVec 32) (r : FVec F S17x128 .f32) : FVec F S17x16 .f32 :=
  matmul dot_S17x128_S128x16_S17x16_1_0_0_1_n_n none r
    (sitofp .f32 (extui 32 (cmpi .eq rowNo (addi (broadcast S128x16 base) colNo)) natLt_1_32))
    (constant S17x16 .f32 0x00000000#32)

section Step
variable (t : Fin 16) (base : BitVec 32) (c : FVec F S17x16 .f32) (r : FVec F S17x128 .f32)

/-- Column `t` of the panel's columns. -/
def colv : FVec F S17x1 .f32 := extractStridedSlice S17x1 ![0, (t : ℕ)] c (slices_col t)
/-- Its entry in row `t`: the pivot. -/
def piv : FVec F S1x1 .f32 := extractStridedSlice S1x1 ![(t : ℕ), 0] (colv t c) (slices_pivot t)
/-- Its entry in the last row: the normal that goes with the step. -/
def zed : FVec F S1x1 .f32 := extractStridedSlice S1x1 ![16, 0] (colv t c) slices_S17x1_o16_0_S1x1
/-- Row `t`. -/
def rowt : FVec F S1x128 .f32 := extractStridedSlice S1x128 ![(t : ℕ), 0] r (slices_row t)
/-- The number of the row in the whole matrix. -/
def rowIx : BitVec 32 := Scalar.addi base (BitVec.ofNat 32 (t : ℕ))
/-- The lanes from the diagonal on. -/
def mask : IVec S1x128 1 := cmpi .sge lane (broadcast S1x128 (rowIx t base))
/-- Row `t` from the diagonal on, zero before. -/
def rowm : FVec F S1x128 .f32 := select (mask t base) (rowt t r) (broadcast S1x128 (Scalar.ofBits .f32 0x00000000#32))
/-- The row of the factor: the masked row over the square root of the pivot. -/
def wRow : FVec F S1x128 .f32 := mulf (rowm t base r) (broadcastTo S1x128 (rsqrt (piv t c)) broadcasts_S1x1_S1x128)
/-- The running sample `y` with this row's multiple of its normal added. -/
def yNext (y : FVec F S1x128 .f32) : FVec F S1x128 .f32 :=
  addf y (mulf (wRow t base c r) (broadcastTo S1x128 (zed t c) broadcasts_S1x1_S1x128))
/-- The pivot's reciprocal. -/
def inv : FVec F S1x1 .f32 := divf (broadcast S1x1 (Scalar.ofBits .f32 0x3F800000#32)) (piv t c)
/-- The rows after row `t`. -/
def below : IVec S17x1 1 := cmpi .sgt sub17 (broadcast S17x1 (BitVec.ofNat 32 (t : ℕ)))
/-- Column `t` in the rows still to be eliminated, zero elsewhere. -/
def upd : FVec F S17x1 .f32 :=
  select (andi (below t) (cmpi .slt sub17 (broadcast S17x1 16#32))) (colv t c) (broadcast S17x1 (Scalar.ofBits .f32 0x00000000#32))
/-- The panel's columns from column `t` on. -/
def cmask : IVec S1x16 1 := cmpi .sge lane16 (broadcast S1x16 (BitVec.ofNat 32 (t : ℕ)))
/-- Row `t` of the columns. -/
def crow : FVec F S1x16 .f32 := extractStridedSlice S1x16 ![(t : ℕ), 0] c (slices_crow t)
/-- Row `t` of the columns from column `t` on, over the pivot. -/
def cscale : FVec F S1x16 .f32 :=
  mulf (select (cmask t) (crow t c) (broadcast S1x16 (Scalar.ofBits .f32 0x00000000#32))) (broadcastTo S1x16 (inv t c) broadcasts_S1x1_S1x16)
/-- What the step subtracts from the columns. -/
def cdrop : FVec F S17x16 .f32 :=
  mulf (broadcastTo S17x16 (upd t c) broadcasts_S17x1_S17x16) (broadcastTo S17x16 (cscale t c) broadcasts_S1x16_S17x16)
/-- The columns after the step. -/
def cNext : FVec F S17x16 .f32 := subf c (cdrop t c)
/-- The masked row over the pivot. -/
def rscale : FVec F S1x128 .f32 := mulf (rowm t base r) (broadcastTo S1x128 (inv t c) broadcasts_S1x1_S1x128)
/-- The column to be eliminated, along every lane. -/
def updB : FVec F S17x128 .f32 := broadcastTo S17x128 (upd t c) broadcasts_S17x1_S17x128
/-- The scaled row, in every row. -/
def rscaleB : FVec F S17x128 .f32 := broadcastTo S17x128 (rscale t base c r) broadcasts_S1x128_S17x128
/-- The rows after the step. -/
def rNext : FVec F S17x128 .f32 := subf r (mulf (updB t c) (rscaleB t base c r))
end Step

/-! ## The parts of the printed panel

Each theorem evaluates one stretch of the printed body, in the stretch's own order of results. -/

section Parts
variable (arg0 : Memref sig .tc .smem S1 .i32) (harg0 : arg0.IsWhole) (arg1 : Memref sig .tc .vmem S8x128 .f32) (harg1 : arg1.IsWhole)
  (arg2 : Memref sig .tc .hbm S1024x128 .f32) (harg2 : arg2.IsWhole) (arg3 : Memref sig .tc .hbm S1024x128x128 .f32) (harg3 : arg3.IsWhole)
  (arg4 : Memref sig .tc .vmem S1x128 .f32) (harg4 : arg4.IsWhole) (arg5 : Memref sig .tc .vmem S128x128 .f32) (harg5 : arg5.IsWhole)
  (arg6 : Memref sig .tc .vmem S1x128 .f32) (harg6 : arg6.IsWhole) (arg7 : DmaSems sig S_) (arg8 : DmaSems sig S_)

/-- Part 1 of the printed panel, in terms of the steps above. -/
theorem part1_eq (z y : FVec F S1x128 .f32) (k : Fin k0_t1_loop.trips) :
    k0_part1 (F := F) arg0 harg0 arg1 harg1 arg2 harg2 arg3 harg3 arg4 harg4 arg5 harg5 arg6 harg6 arg7 arg8 z lane sub17 lane16 rowNo colNo 0#32 1#32 k y
      = (do
          let a : Vec F S16x128 .f32 ← Prog.lift (.load arg5 (Rect.unit (s := S128x128) (k0_off3 k) S16x128.size (k0_off3_inb k)).toLoadRect (View.loadsAt_vmem h_S16x128))
          pure ⟨baseOf k, rows0 z a, wRow 0 (baseOf k) (cols0 (baseOf k) (rows0 z a)) (rows0 z a),
            yNext 0 (baseOf k) (cols0 (baseOf k) (rows0 z a)) (rows0 z a) y, cNext 0 (cols0 (baseOf k) (rows0 z a)),
            rscale 0 (baseOf k) (cols0 (baseOf k) (rows0 z a)) (rows0 z a), updB 0 (cols0 (baseOf k) (rows0 z a))⟩) := rfl

/-- Part 2 of the printed panel, in terms of the steps above. -/
theorem part2_eq (base : BitVec 32) (c1 c0 : FVec F S17x16 .f32) (r0 : FVec F S17x128 .f32) (y1 : FVec F S1x128 .f32) :
    k0_part2 (F := F) arg0 harg0 arg1 harg1 arg2 harg2 arg3 harg3 arg4 harg4 arg5 harg5 arg6 harg6 arg7 arg8 lane sub17 lane16 base r0 y1 c1 (rscale 0 base c0 r0) (updB 0 c0)
      = pure ⟨(wRow 1 base c1 (rNext 0 base c0 r0)), (yNext 1 base c1 (rNext 0 base c0 r0) y1), (cNext 1 c1), (rNext 1 base c1 (rNext 0 base c0 r0)), (colv 2 (cNext 1 c1)), (piv 2 (cNext 1 c1)), (zed 2 (cNext 1 c1)), (rowt 2 (rNext 1 base c1 (rNext 0 base c0 r0))), (mask 2 base)⟩ := rfl

/-- Part 3 of the printed panel, in terms of the steps above. -/
theorem part3_eq (base : BitVec 32) (c2 : FVec F S17x16 .f32) (r2 : FVec F S17x128 .f32) (y2 : FVec F S1x128 .f32) :
    k0_part3 (F := F) arg0 harg0 arg1 harg1 arg2 harg2 arg3 harg3 arg4 harg4 arg5 harg5 arg6 harg6 arg7 arg8 lane sub17 lane16 base y2 c2 r2 (colv 2 c2) (piv 2 c2) (zed 2 c2) (rowt 2 r2) (mask 2 base)
      = pure ⟨(wRow 2 base c2 r2), (cNext 2 c2), (rNext 2 base c2 r2), (colv 3 (cNext 2 c2)), (piv 3 (cNext 2 c2)), (rowm 3 base (rNext 2 base c2 r2)), (wRow 3 base (cNext 2 c2) (rNext 2 base c2 r2)), (yNext 3 base (cNext 2 c2) (rNext 2 base c2 r2) (yNext 2 base c2 r2 y2)), (broadcast S1x1 (Scalar.ofBits .f32 0x3F800000#32))⟩ := rfl

/-- Part 4 of the printed panel, in terms of the steps above. -/
theorem part4_eq (base : BitVec 32) (c3 : FVec F S17x16 .f32) (r3 : FVec F S17x128 .f32) (y4 : FVec F S1x128 .f32) :
    k0_part4 (F := F) arg0 harg0 arg1 harg1 arg2 harg2 arg3 harg3 arg4 harg4 arg5 harg5 arg6 harg6 arg7 arg8 lane sub17 lane16 base c3 r3 (colv 3 c3) (piv 3 c3) (rowm 3 base r3) y4 (broadcast S1x1 (Scalar.ofBits .f32 0x3F800000#32))
      = pure ⟨(cNext 3 c3), (rNext 3 base c3 r3), (rowm 4 base (rNext 3 base c3 r3)), (wRow 4 base (cNext 3 c3) (rNext 3 base c3 r3)), (yNext 4 base (cNext 3 c3) (rNext 3 base c3 r3) y4), (inv 4 (cNext 3 c3)), (upd 4 (cNext 3 c3))⟩ := rfl

/-- Part 5 of the printed panel, in terms of the steps above. -/
theorem part5_eq (base : BitVec 32) (c4 : FVec F S17x16 .f32) (r4 : FVec F S17x128 .f32) (y5 : FVec F S1x128 .f32) :
    k0_part5 (F := F) arg0 harg0 arg1 harg1 arg2 harg2 arg3 harg3 arg4 harg4 arg5 harg5 arg6 harg6 arg7 arg8 lane sub17 lane16 base c4 r4 (rowm 4 base r4) y5 (inv 4 c4) (upd 4 c4)
      = pure ⟨(cNext 4 c4), (rNext 4 base c4 r4), (rowm 5 base (rNext 4 base c4 r4)), (wRow 5 base (cNext 4 c4) (rNext 4 base c4 r4)), (yNext 5 base (cNext 4 c4) (rNext 4 base c4 r4) y5), (inv 5 (cNext 4 c4)), (upd 5 (cNext 4 c4)), (broadcastTo S17x16 (upd 5 (cNext 4 c4)) broadcasts_S17x1_S17x16), (broadcastTo S17x16 (cscale 5 (cNext 4 c4)) broadcasts_S1x16_S17x16)⟩ := rfl

/-- Part 6 of the printed panel, in terms of the steps above. -/
theorem part6_eq (base : BitVec 32) (c5 : FVec F S17x16 .f32) (r5 : FVec F S17x128 .f32) (y6 : FVec F S1x128 .f32) :
    k0_part6 (F := F) arg0 harg0 arg1 harg1 arg2 harg2 arg3 harg3 arg4 harg4 arg5 harg5 arg6 harg6 arg7 arg8 lane sub17 lane16 base c5 r5 (rowm 5 base r5) y6 (inv 5 c5) (upd 5 c5) (broadcastTo S17x16 (upd 5 c5) broadcasts_S17x1_S17x16) (broadcastTo S17x16 (cscale 5 c5) broadcasts_S1x16_S17x16)
      = pure ⟨(wRow 6 base (cNext 5 c5) (rNext 5 base c5 r5)), (yNext 6 base (cNext 5 c5) (rNext 5 base c5 r5) y6), (cNext 6 (cNext 5 c5)), (rNext 6 base (cNext 5 c5) (rNext 5 base c5 r5)), (rowIx 7 base), (colv 7 (cNext 6 (cNext 5 c5)))⟩ := rfl

/-- Part 7 of the printed panel, in terms of the steps above. -/
theorem part7_eq (base : BitVec 32) (c7 : FVec F S17x16 .f32) (r7 : FVec F S17x128 .f32) (y7 : FVec F S1x128 .f32) :
    k0_part7 (F := F) arg0 harg0 arg1 harg1 arg2 harg2 arg3 harg3 arg4 harg4 arg5 harg5 arg6 harg6 arg7 arg8 lane sub17 lane16 base y7 c7 r7 (rowIx 7 base) (colv 7 c7)
      = pure ⟨(wRow 7 base c7 r7), (yNext 7 base c7 r7 y7), (cNext 7 c7), (rNext 7 base c7 r7), (colv 8 (cNext 7 c7)), (piv 8 (cNext 7 c7)), (zed 8 (cNext 7 c7)), (rowm 8 base (rNext 7 base c7 r7)), (wRow 8 base (cNext 7 c7) (rNext 7 base c7 r7))⟩ := rfl

/-- Part 8 of the printed panel, in terms of the steps above. -/
theorem part8_eq (base : BitVec 32) (c8 : FVec F S17x16 .f32) (r8 : FVec F S17x128 .f32) (y8 : FVec F S1x128 .f32) :
    k0_part8 (F := F) arg0 harg0 arg1 harg1 arg2 harg2 arg3 harg3 arg4 harg4 arg5 harg5 arg6 harg6 arg7 arg8 lane sub17 lane16 base y8 c8 r8 (colv 8 c8) (piv 8 c8) (zed 8 c8) (rowm 8 base r8) (wRow 8 base c8 r8)
      = pure ⟨(cNext 8 c8), (rNext 8 base c8 r8), (colv 9 (cNext 8 c8)), (rowm 9 base (rNext 8 base c8 r8)), (wRow 9 base (cNext 8 c8) (rNext 8 base c8 r8)), (yNext 9 base (cNext 8 c8) (rNext 8 base c8 r8) (yNext 8 base c8 r8 y8)), (inv 9 (cNext 8 c8)), (below 9), (broadcast S17x1 16#32)⟩ := rfl

/-- Part 9 of the printed panel, in terms of the steps above. -/
theorem part9_eq (base : BitVec 32) (c9 : FVec F S17x16 .f32) (r9 : FVec F S17x128 .f32) (y10 : FVec F S1x128 .f32) :
    k0_part9 (F := F) arg0 harg0 arg1 harg1 arg2 harg2 arg3 harg3 arg4 harg4 arg5 harg5 arg6 harg6 arg7 arg8 lane sub17 lane16 base c9 r9 (colv 9 c9) (rowm 9 base r9) y10 (inv 9 c9) (below 9) (broadcast S17x1 16#32)
      = pure ⟨(cNext 9 c9), (rNext 9 base c9 r9), (rowm 10 base (rNext 9 base c9 r9)), (wRow 10 base (cNext 9 c9) (rNext 9 base c9 r9)), (yNext 10 base (cNext 9 c9) (rNext 9 base c9 r9) y10), (inv 10 (cNext 9 c9)), (upd 10 (cNext 9 c9)), (cmask 10), (crow 10 (cNext 9 c9)), (broadcast S1x16 (Scalar.ofBits .f32 0x00000000#32))⟩ := rfl

/-- Part 10 of the printed panel, in terms of the steps above. -/
theorem part10_eq (base : BitVec 32) (c10 : FVec F S17x16 .f32) (r10 : FVec F S17x128 .f32) (y11 : FVec F S1x128 .f32) :
    k0_part10 (F := F) arg0 harg0 arg1 harg1 arg2 harg2 arg3 harg3 arg4 harg4 arg5 harg5 arg6 harg6 arg7 arg8 lane sub17 lane16 base c10 r10 (rowm 10 base r10) y11 (inv 10 c10) (upd 10 c10) (cmask 10) (crow 10 c10) (broadcast S1x16 (Scalar.ofBits .f32 0x00000000#32))
      = pure ⟨(rNext 10 base c10 r10), (wRow 11 base (cNext 10 c10) (rNext 10 base c10 r10)), (yNext 11 base (cNext 10 c10) (rNext 10 base c10 r10) y11), (cNext 11 (cNext 10 c10)), (updB 11 (cNext 10 c10)), (rscaleB 11 base (cNext 10 c10) (rNext 10 base c10 r10))⟩ := rfl

/-- Part 11 of the printed panel, in terms of the steps above. -/
theorem part11_eq (base : BitVec 32) (c12 c11 : FVec F S17x16 .f32) (r11 : FVec F S17x128 .f32) (y12 : FVec F S1x128 .f32) :
    k0_part11 (F := F) arg0 harg0 arg1 harg1 arg2 harg2 arg3 harg3 arg4 harg4 arg5 harg5 arg6 harg6 arg7 arg8 lane sub17 lane16 base r11 y12 c12 (updB 11 c11) (rscaleB 11 base c11 r11)
      = pure ⟨(wRow 12 base c12 (rNext 11 base c11 r11)), (yNext 12 base c12 (rNext 11 base c11 r11) y12), (cNext 12 c12), (rNext 12 base c12 (rNext 11 base c11 r11)), (colv 13 (cNext 12 c12)), (piv 13 (cNext 12 c12)), (zed 13 (cNext 12 c12)), (rowt 13 (rNext 12 base c12 (rNext 11 base c11 r11))), (mask 13 base), (Scalar.ofBits .f32 0x00000000#32)⟩ := rfl

/-- Part 12 of the printed panel, in terms of the steps above. -/
theorem part12_eq (base : BitVec 32) (c13 : FVec F S17x16 .f32) (r13 : FVec F S17x128 .f32) (y13 : FVec F S1x128 .f32) :
    k0_part12 (F := F) arg0 harg0 arg1 harg1 arg2 harg2 arg3 harg3 arg4 harg4 arg5 harg5 arg6 harg6 arg7 arg8 lane sub17 lane16 base y13 c13 r13 (colv 13 c13) (piv 13 c13) (zed 13 c13) (rowt 13 r13) (mask 13 base) (Scalar.ofBits .f32 0x00000000#32)
      = pure ⟨(wRow 13 base c13 r13), (cNext 13 c13), (rNext 13 base c13 r13), (colv 14 (cNext 13 c13)), (rowm 14 base (rNext 13 base c13 r13)), (wRow 14 base (cNext 13 c13) (rNext 13 base c13 r13)), (yNext 14 base (cNext 13 c13) (rNext 13 base c13 r13) (yNext 13 base c13 r13 y13)), (inv 14 (cNext 13 c13))⟩ := rfl

/-- The columns after `n` steps. -/
def colsAt (base : BitVec 32) (r : FVec F S17x128 .f32) : ℕ → FVec F S17x16 .f32
  | 0 => cols0 base r
  | n + 1 => cNext (Fin.ofNat 16 n) (colsAt base r n)
/-- The rows after `n` steps. -/
def rowsAt (base : BitVec 32) (r : FVec F S17x128 .f32) : ℕ → FVec F S17x128 .f32
  | 0 => r
  | n + 1 => rNext (Fin.ofNat 16 n) base (colsAt base r n) (rowsAt base r n)
/-- The row of the factor found by step `n`. -/
def wAt (base : BitVec 32) (r : FVec F S17x128 .f32) (n : ℕ) : FVec F S1x128 .f32 :=
  wRow (Fin.ofNat 16 n) base (colsAt base r n) (rowsAt base r n)
/-- The running sample after `n` steps. -/
def yAt (base : BitVec 32) (r : FVec F S17x128 .f32) (y : FVec F S1x128 .f32) : ℕ → FVec F S1x128 .f32
  | 0 => y
  | n + 1 => yNext (Fin.ofNat 16 n) base (colsAt base r n) (rowsAt base r n) (yAt base r y n)
/-- The sixteen rows of the factor, one below the other. -/
def wAll (base : BitVec 32) (r : FVec F S17x128 .f32) : FVec F S16x128 .f32 :=
  concatenate S16x128 0 [⟨S1x128, wAt base r 0⟩, ⟨S1x128, wAt base r 1⟩, ⟨S1x128, wAt base r 2⟩, ⟨S1x128, wAt base r 3⟩, ⟨S1x128, wAt base r 4⟩, ⟨S1x128, wAt base r 5⟩, ⟨S1x128, wAt base r 6⟩, ⟨S1x128, wAt base r 7⟩, ⟨S1x128, wAt base r 8⟩, ⟨S1x128, wAt base r 9⟩, ⟨S1x128, wAt base r 10⟩, ⟨S1x128, wAt base r 11⟩, ⟨S1x128, wAt base r 12⟩, ⟨S1x128, wAt base r 13⟩, ⟨S1x128, wAt base r 14⟩, ⟨S1x128, wAt base r 15⟩] concatenates_S1x128_S1x128_S1x128_S1x128_S1x128_S1x128_S1x128_S1x128_S1x128_S1x128_S1x128_S1x128_S1x128_S1x128_S1x128_S1x128_S16x128_d0

/-- The printed panel loads its sixteen rows of the matrix and returns the running sample after sixteen steps and the sixteen
    rows of the factor. -/
theorem panel_eq (z y : FVec F S1x128 .f32) (k : Fin k0_t1_loop.trips) :
    k0_part13 (F := F) arg0 harg0 arg1 harg1 arg2 harg2 arg3 harg3 arg4 harg4 arg5 harg5 arg6 harg6 arg7 arg8 z lane sub17 lane16 rowNo colNo 0#32 1#32 k y
      = (do
          let a : Vec F S16x128 .f32 ← Prog.lift (.load arg5 (Rect.unit (s := S128x128) (k0_off3 k) S16x128.size (k0_off3_inb k)).toLoadRect (View.loadsAt_vmem h_S16x128))
          pure ⟨yAt (baseOf k) (rows0 z a) y 16, wAll (baseOf k) (rows0 z a), constant S128x128 .f32 0x00000000#32⟩) := by
  rw [k0_part13_eq_skeleton]; unfold k0_part13_skel
  rw [part1_eq]
  simp only [part2_eq, part3_eq, part4_eq, part5_eq, part6_eq, part7_eq, part8_eq, part9_eq, part10_eq, part11_eq, part12_eq, bind_assoc, pure_bind]
  rfl
end Parts

end Cert.KernelIdeal.Hand

end
-- ==== Proof.Head.lean ====
/-
  The words the kernel draws, the component it picks and the normals it makes of them.

  `tf` is the Threefry-2x32 block function on words, `vtf` the same on the 128 lanes of a row. The theorems `part…_eq` evaluate the
  stretches of the printed body before the transfers, and `head_eq` puts them together: the body loads the seed and the
  weights, checks the component's number, moves the component's covariance and mean, and runs the panels.
-/
module

public import proofs.«01_k».proof.Proof.Panel

@[expose] public section

noncomputable section

namespace Cert.KernelIdeal.Hand

open Cert.KernelIdeal Cert.KernelIdeal.Gen
open Idealize.ShloMosaic Idealize.SL.Sem

variable {F : FTy → Type} [FloatOps F]

/-! ## Threefry on words -/

/-- Two words. -/
abbrev W2 : Type := BitVec 32 × BitVec 32
/-- One round: add, rotate by `r`, exclusive or. -/
def mix (r : ℕ) (x : W2) : W2 :=
  (Scalar.addi x.1 x.2,
    Scalar.xori (Scalar.ori (Scalar.shli x.2 (BitVec.ofNat 32 r)) (Scalar.shrui x.2 (BitVec.ofNat 32 (32 - r)))) (Scalar.addi x.1 x.2))
/-- Four rounds at the even rotations. -/
def mixA (x : W2) : W2 := mix 6 (mix 26 (mix 15 (mix 13 x)))
/-- Four rounds at the odd rotations. -/
def mixB (x : W2) : W2 := mix 24 (mix 16 (mix 29 (mix 17 x)))
/-- A key injection: the words `a` and `b` added, and the counter `n` to the second. -/
def inj (a b : BitVec 32) (n : ℕ) (x : W2) : W2 := (Scalar.addi x.1 a, Scalar.addi (Scalar.addi x.2 b) (BitVec.ofNat 32 n))
/-- The third key word. -/
def key2 (a b : BitVec 32) : BitVec 32 := Scalar.xori (Scalar.xori a b) 466688986#32
/-- The Threefry-2x32 block function of the key `(a, b)` at the counter `(m, n)`. -/
def tf (a b m n : BitVec 32) : W2 :=
  inj (key2 a b) a 5 (mixA (inj b (key2 a b) 4 (mixB (inj a b 3 (mixA (inj (key2 a b) a 2 (mixB (inj b (key2 a b) 1
    (mixA (Scalar.addi m a, Scalar.addi n b))))))))))

/-! ## Threefry on lanes -/

/-- Two rows of words. -/
abbrev V2 : Type := IVec S1x128 32 × IVec S1x128 32
/-- One round on the lanes. -/
def vmix (r : ℕ) (x : V2) : V2 :=
  (addi x.1 x.2,
    xori (ori (shli x.2 (broadcast S1x128 (BitVec.ofNat 32 r))) (shrui x.2 (broadcast S1x128 (BitVec.ofNat 32 (32 - r))))) (addi x.1 x.2))
/-- Four rounds at the even rotations on the lanes. -/
def vmixA (x : V2) : V2 := vmix 6 (vmix 26 (vmix 15 (vmix 13 x)))
/-- Four rounds at the odd rotations on the lanes. -/
def vmixB (x : V2) : V2 := vmix 24 (vmix 16 (vmix 29 (vmix 17 x)))
/-- A key injection on the lanes. -/
def vinj (a b : BitVec 32) (n : ℕ) (x : V2) : V2 :=
  (addi x.1 (broadcast S1x128 a), addi (addi x.2 (broadcast S1x128 b)) (broadcast S1x128 (BitVec.ofNat 32 n)))
/-- The block function of one key at the counters `(0, lane)`. -/
def vtf (a b : BitVec 32) : V2 :=
  vinj (key2 a b) a 5 (vmixA (vinj b (key2 a b) 4 (vmixB (vinj a b 3 (vmixA (vinj (key2 a b) a 2 (vmixB (vinj b (key2 a b) 1
    (vmixA (addi (broadcast S1x128 0#32) (broadcast S1x128 a), addi lane (broadcast S1x128 b)))))))))))

/-- The two words of a lane. -/
def at2 (x : V2) (i : S1x128.Idx) : W2 := (x.1 i, x.2 i)
/-- A round on lanes is the round on words in each lane. -/
theorem at2_vmix (r : ℕ) (x : V2) (i : S1x128.Idx) : at2 (vmix r x) i = mix r (at2 x i) := rfl
/-- A key injection on lanes is the one on words in each lane. -/
theorem at2_vinj (a b : BitVec 32) (n : ℕ) (x : V2) (i : S1x128.Idx) : at2 (vinj a b n x) i = inj a b n (at2 x i) := rfl
/-- Each lane holds the block function at its own counter. -/
theorem at2_vtf (a b : BitVec 32) (i : S1x128.Idx) : at2 (vtf a b) i = tf a b 0#32 (lane i) := by
  simp only [vtf, vmixA, vmixB, at2_vmix, at2_vinj]; rfl

/-! ## What is made of the words -/

/-- A word's upper 23 bits as a fraction of one. -/
def unitS (b : BitVec 32) : F .f32 := Scalar.mulf (Scalar.sitofp .f32 (Scalar.shrui b 9#32)) (Scalar.ofBits .f32 0x34000000#32)
/-- The same on the lanes. -/
def unitV (b : IVec S1x128 32) : FVec F S1x128 .f32 :=
  mulf (sitofp .f32 (shrui b (broadcast S1x128 9#32))) (broadcast S1x128 (Scalar.ofBits .f32 0x34000000#32))
/-- A row filled with one literal. -/
def lit (b : BitVec 32) : FVec F S1x128 .f32 := broadcast S1x128 (Scalar.ofBits .f32 b)
/-- The uniforms on (-1, 1). -/
def uniform (b : IVec S1x128 32) : FVec F S1x128 .f32 :=
  maximumf (lit 0xBF7FFFFF#32)
    (addf (mulf (unitV b) (broadcast S1x128 (Scalar.subf (Scalar.ofBits .f32 0x3F800000#32) (Scalar.ofBits .f32 0xBF7FFFFF#32)))) (lit 0xBF7FFFFF#32))
/-- `-log (1 - x²)`. -/
def logw (x : FVec F S1x128 .f32) : FVec F S1x128 .f32 := subf (lit 0#32) (log1p (mulf (subf (lit 0#32) x) x))
/-- One step of Horner's rule. -/
def hstep (c : BitVec 32) (w p : FVec F S1x128 .f32) : FVec F S1x128 .f32 := addf (lit c) (mulf p w)
/-- The polynomial for the centre. -/
def center (w : FVec F S1x128 .f32) : FVec F S1x128 .f32 :=
  hstep 0x3FC02E2F#32 w (hstep 0x3E7C8F63#32 w (hstep 0xBB88E4EF#32 w (hstep 0xBAA45408#32 w (hstep 0x396532DB#32 w
    (hstep 0xB6935AC1#32 w (hstep 0xB66C7357#32 w (hstep 0x34B84B36#32 w (lit 0x32F16588#32))))))))
/-- The polynomial for the tails up to its fifth step, times its argument once more. -/
def tail5 (w : FVec F S1x128 .f32) : FVec F S1x128 .f32 :=
  mulf (hstep 0xBBF9C5D7#32 w (hstep 0x3BBC127B#32 w (hstep 0xBB70BDE7#32 w (hstep 0x3AB0DC72#32 w (hstep 0x38D3B56B#32 w (lit 0xB951F09B#32)))))) w
/-- The polynomial for the tails. -/
def tail (w : FVec F S1x128 .f32) : FVec F S1x128 .f32 :=
  hstep 0x40354F7E#32 w (hstep 0x3F8036DB#32 w (addf (lit 0x3C1AA57E#32) (tail5 w)))
/-- The argument of the centre's polynomial. -/
def wc (x : FVec F S1x128 .f32) : FVec F S1x128 .f32 := subf (logw x) (lit 0x40200000#32)
/-- The argument of the tails' polynomial. -/
def wt (x : FVec F S1x128 .f32) : FVec F S1x128 .f32 := subf (sqrt (logw x)) (lit 0x40400000#32)
/-- The normals of the words `b`. -/
def normals (b : IVec S1x128 32) : FVec F S1x128 .f32 :=
  mulf (lit 0x3FB504F3#32) (mulf (select (cmpf .olt (logw (F := F) (uniform b)) (lit 0x40A00000#32))
    (center (wc (uniform b))) (tail (wt (uniform b)))) (uniform b))

/-- The number of the component picked by the uniform `u` under the weights `w`. -/
def index (u : F .f32) (w : FVec F S8x128 .f32) : BitVec 32 :=
  extractAt ![0, 0, 0] (k0_pay160 u (k0_pay157 w) (k0_pay158 w) k0_pay159) inpos_S1x1x1_p0_0_0

/-- The key of the component's draw. -/
def keyI (seed : BitVec 32) : W2 := tf 0#32 seed 0#32 0#32
/-- The key of the normals' draw. -/
def keyS (seed : BitVec 32) : W2 := tf 0#32 seed 0#32 1#32
/-- The word that picks the component. -/
def wordI (seed : BitVec 32) : BitVec 32 :=
  Scalar.xori (tf (keyI seed).1 (keyI seed).2 0#32 0#32).1 (tf (keyI seed).1 (keyI seed).2 0#32 0#32).2
/-- The words of the normals. -/
def wordsS (seed : BitVec 32) : IVec S1x128 32 := xori (vtf (keyS seed).1 (keyS seed).2).1 (vtf (keyS seed).1 (keyS seed).2).2
/-- The component picked. -/
def pick (seed : BitVec 32) (w : FVec F S8x128 .f32) : BitVec 32 := index (unitS (wordI seed)) w

/-! ## The stretches of the body before the transfers -/

section Parts
variable (arg0 : Memref sig .tc .smem S1 .i32) (harg0 : arg0.IsWhole) (arg1 : Memref sig .tc .vmem S8x128 .f32) (harg1 : arg1.IsWhole)
  (arg2 : Memref sig .tc .hbm S1024x128 .f32) (harg2 : arg2.IsWhole) (arg3 : Memref sig .tc .hbm S1024x128x128 .f32) (harg3 : arg3.IsWhole)
  (arg4 : Memref sig .tc .vmem S1x128 .f32) (harg4 : arg4.IsWhole) (arg5 : Memref sig .tc .vmem S128x128 .f32) (harg5 : arg5.IsWhole)
  (arg6 : Memref sig .tc .vmem S1x128 .f32) (harg6 : arg6.IsWhole) (arg7 : DmaSems sig S_) (arg8 : DmaSems sig S_)

/-- The first key's block after six rounds, on the seed. -/
def k6 (s : BitVec 32) : W2 := mix 29 (mix 17 (inj s (key2 0#32 s) 1 (mixA (Scalar.addi 0#32 0#32, Scalar.addi 0#32 s))))

/-- Part 14 of the printed body, in terms of the functions above. -/
theorem part14_eq :
    k0_part14 (F := F) arg0 harg0 arg1 harg1 arg2 harg2 arg3 harg3 arg4 harg4 arg5 harg5 arg6 harg6 arg7 arg8
      = (do
          let s : Elt F .i32 ← smemLoad arg0 (Rect.unit (s := S1) ![0] S1.size inb_S1_S1_0) numel1_S1 rfl
          pure ⟨s, key2 0#32 s, (k6 s).2, Scalar.addi (k6 s).1 (k6 s).2, Scalar.shli (k6 s).2 16#32⟩) := rfl

/-- The next seven rounds of the first key's block. -/
def k13 (s : BitVec 32) (x : W2) : W2 := mix 17 (inj 0#32 s 3 (mixA (inj (key2 0#32 s) 0#32 2 (mix 24 (mix 16 x)))))
/-- Part 15 of the printed body, in terms of the functions above. -/
theorem part15_eq (s : BitVec 32) (x : W2) :
    k0_part15 (F := F) arg0 harg0 arg1 harg1 arg2 harg2 arg3 harg3 arg4 harg4 arg5 harg5 arg6 harg6 arg7 arg8 s (key2 0#32 s) x.2 (Scalar.addi x.1 x.2) (Scalar.shli x.2 16#32)
      = pure ⟨(k13 s x).2, Scalar.addi (k13 s x).1 (k13 s x).2, Scalar.shli (k13 s x).2 29#32, 3#32⟩ := rfl

/-- Its last rounds. -/
def k20 (s : BitVec 32) (x : W2) : W2 := inj (key2 0#32 s) 0#32 5 (mixA (inj s (key2 0#32 s) 4 (mix 24 (mix 16 (mix 29 x)))))
/-- Part 16 of the printed body, in terms of the functions above. -/
theorem part16_eq (s : BitVec 32) (x : W2) :
    k0_part16 (F := F) arg0 harg0 arg1 harg1 arg2 harg2 arg3 harg3 arg4 harg4 arg5 harg5 arg6 harg6 arg7 arg8 s (key2 0#32 s) x.2 (Scalar.addi x.1 x.2) (Scalar.shli x.2 29#32) 3#32
      = pure ⟨(k20 s x).1, (k20 s x).2, key2 0#32 s, 0#32, 0#32⟩ := rfl

/-- The second key's block after seven rounds. -/
def l7 (s : BitVec 32) : W2 := mix 16 (mix 29 (mix 17 (inj s (key2 0#32 s) 1 (mixA (Scalar.addi 0#32 0#32, Scalar.addi 1#32 s)))))
/-- Part 17 of the printed body, in terms of the functions above. -/
theorem part17_eq (s : BitVec 32) :
    k0_part17 (F := F) arg0 harg0 arg1 harg1 arg2 harg2 arg3 harg3 arg4 harg4 arg5 harg5 arg6 harg6 arg7 arg8 s (key2 0#32 s) 0#32 0#32
      = pure ⟨(l7 s).2, Scalar.addi (l7 s).1 (l7 s).2, Scalar.shli (l7 s).2 24#32, 8#32⟩ := rfl

/-- The next seven rounds of the second key's block. -/
def l14 (s : BitVec 32) (x : W2) : W2 := mix 29 (mix 17 (inj 0#32 s 3 (mixA (inj (key2 0#32 s) 0#32 2 (mix 24 x)))))
/-- Part 18 of the printed body, in terms of the functions above. -/
theorem part18_eq (s : BitVec 32) (x : W2) :
    k0_part18 (F := F) arg0 harg0 arg1 harg1 arg2 harg2 arg3 harg3 arg4 harg4 arg5 harg5 arg6 harg6 arg7 arg8 s (key2 0#32 s) x.2 (Scalar.addi x.1 x.2) (Scalar.shli x.2 24#32) 8#32
      = pure ⟨Scalar.addi (l14 s x).1 (l14 s x).2, Scalar.shli (l14 s x).2 16#32, Scalar.shrui (l14 s x).2 16#32⟩ := rfl

/-- Its last rounds. -/
def l20 (s : BitVec 32) (x : W2) : W2 := inj (key2 0#32 s) 0#32 5 (mixA (inj s (key2 0#32 s) 4 (mix 24 (mix 16 x))))
/-- The first round on the component's key `(a, b)`. -/
def m1 (k : W2) : W2 := mix 13 (Scalar.addi 0#32 k.1, Scalar.addi 0#32 k.2)
/-- Part 19 of the printed body, in terms of the functions above. -/
theorem part19_eq (s : BitVec 32) (k x : W2) :
    k0_part19 (F := F) arg0 harg0 arg1 harg1 arg2 harg2 arg3 harg3 arg4 harg4 arg5 harg5 arg6 harg6 arg7 arg8 s k.1 k.2 (key2 0#32 s) (Scalar.addi x.1 x.2) (Scalar.shli x.2 16#32) (Scalar.shrui x.2 16#32)
      = pure ⟨(l20 s x).1, (l20 s x).2, key2 k.1 k.2, (m1 k).1, (m1 k).2⟩ := rfl

/-- The next seven rounds on it. -/
def m8 (k x : W2) : W2 := inj (key2 k.1 k.2) k.1 2 (mixB (inj k.2 (key2 k.1 k.2) 1 (mix 6 (mix 26 (mix 15 x)))))
/-- Part 20 of the printed body, in terms of the functions above. -/
theorem part20_eq (k x : W2) :
    k0_part20 (F := F) arg0 harg0 arg1 harg1 arg2 harg2 arg3 harg3 arg4 harg4 arg5 harg5 arg6 harg6 arg7 arg8 k.1 k.2 (key2 k.1 k.2) x.1 x.2
      = pure ⟨(m8 k x).2, Scalar.addi (m8 k x).1 (m8 k x).2, Scalar.shli (m8 k x).2 13#32⟩ := rfl

/-- Eight more. -/
def m16 (k x : W2) : W2 := mixB (inj k.1 k.2 3 (mixA x))
/-- Part 21 of the printed body, in terms of the functions above. -/
theorem part21_eq (k x : W2) :
    k0_part21 (F := F) arg0 harg0 arg1 harg1 arg2 harg2 arg3 harg3 arg4 harg4 arg5 harg5 arg6 harg6 arg7 arg8 k.1 k.2 (key2 k.1 k.2) x.2 (Scalar.addi x.1 x.2) (Scalar.shli x.2 13#32)
      = pure ⟨Scalar.addi (m16 k x).1 k.2, Scalar.addi (m16 k x).2 (key2 k.1 k.2), 4#32⟩ := rfl

/-- The last rounds on it. -/
def m20 (k x : W2) : W2 := inj (key2 k.1 k.2) k.1 5 (mixA (inj k.2 (key2 k.1 k.2) 4 x))
/-- Part 22 of the printed body, in terms of the functions above. -/
theorem part22_eq (k x : W2) :
    k0_part22 (F := F) arg0 harg0 arg1 harg1 arg2 harg2 arg3 harg3 arg4 harg4 arg5 harg5 arg6 harg6 arg7 arg8 k.1 (key2 k.1 k.2) (Scalar.addi x.1 k.2) (Scalar.addi x.2 (key2 k.1 k.2)) 4#32
      = (do
          let w : Vec F S8x128 .f32 ← Prog.lift (.load arg1 (Rect.unit (s := S8x128) ![0, 0] S8x128.size inb_S8x128_S8x128_0_0).toLoadRect (View.loadsAt_vmem h_S8x128))
          pure ⟨unitS (Scalar.xori (m20 k x).1 (m20 k x).2), k0_pay157 w, k0_pay158 w, k0_pay159⟩) := rfl

/-- The row of the covariances that component `i` names. -/
abbrev covOf (i : BitVec 32) (h : k0_chk1 i) : Memref sig .tc .hbm S128x128 .f32 :=
  (arg3.slice (Rect.unit (s := S1024x128x128) (k0_off1 i) S1x128x128.size (k0_off1_inb i h)) (fun _ => rfl)).squeeze S128x128 squeezes_S1x128x128_S128x128
/-- The row of the means that component `i` names. -/
abbrev meanOf (i : BitVec 32) (h : k0_chk1 i) : Memref sig .tc .hbm S1x128 .f32 :=
  arg2.slice (Rect.unit (s := S1024x128) (k0_off2 i) S1x128.size (k0_off2_inb i h)) (fun _ => rfl)

/-- The lanes' counters with the key `k` added. -/
def n0 (k : W2) : V2 := (addi (broadcast S1x128 0#32) (broadcast S1x128 k.1), addi lane (broadcast S1x128 k.2))
/-- Part 23 of the printed body, in terms of the functions above. -/
theorem part23_eq (k : W2) (u : F .f32) (w : FVec F S8x128 .f32) :
    k0_part23 (F := F) arg0 harg0 arg1 harg1 arg2 harg2 arg3 harg3 arg4 harg4 arg5 harg5 arg6 harg6 arg7 arg8 k.1 k.2 u (k0_pay157 w) (k0_pay158 w) k0_pay159
      = (do
          have h : k0_chk1 (index u w) := (← Prog.lift (TpuEff.assume (k0_chk1 (index u w)) (k0_chk1.dec (index u w)))).down
          Prog.lift (.enqueueDma (covOf arg3 (index u w) h) (.here arg5) (.dma arg7.sem) ((View.wordExact_bits rfl).reshape _ _) harg5.wordExact ⟨Or.inl rfl, trivial⟩)
          Prog.lift (.enqueueDma (meanOf arg2 (index u w) h) (.here arg6) (.dma arg8.sem) (View.wordExact_bits rfl) harg6.wordExact ⟨Or.inl rfl, trivial⟩)
          pure ⟨index u w, h, key2 k.1 k.2, (n0 k).2, addi (n0 k).1 (n0 k).2, shli (n0 k).2 (broadcast S1x128 13#32), broadcast S1x128 19#32⟩) := rfl

/-- The lanes' words after six rounds. -/
def n6 (k : W2) (x : V2) : V2 := vmix 29 (vmix 17 (vinj k.2 (key2 k.1 k.2) 1 (vmixA x)))
/-- Part 24 of the printed body, in terms of the functions above. -/
theorem part24_eq (k : W2) (x : V2) :
    k0_part24 (F := F) arg0 harg0 arg1 harg1 arg2 harg2 arg3 harg3 arg4 harg4 arg5 harg5 arg6 harg6 arg7 arg8 k.2 (key2 k.1 k.2) x.2 (addi x.1 x.2) (shli x.2 (broadcast S1x128 13#32)) (broadcast S1x128 19#32)
      = pure ⟨(n6 k x).2, addi (n6 k x).1 (n6 k x).2, shli (n6 k x).2 (broadcast S1x128 16#32), 16#32⟩ := rfl

/-- Six more rounds. -/
def n12 (k : W2) (x : V2) : V2 := vmixA (vinj (key2 k.1 k.2) k.1 2 (vmix 24 (vmix 16 x)))
/-- Part 25 of the printed body, in terms of the functions above. -/
theorem part25_eq (k : W2) (x : V2) :
    k0_part25 (F := F) arg0 harg0 arg1 harg1 arg2 harg2 arg3 harg3 arg4 harg4 arg5 harg5 arg6 harg6 arg7 arg8 k.1 k.2 (key2 k.1 k.2) x.2 (addi x.1 x.2) (shli x.2 (broadcast S1x128 16#32)) 16#32
      = pure ⟨addi (n12 k x).1 (broadcast S1x128 k.1), addi (n12 k x).2 (broadcast S1x128 k.2)⟩ := rfl

/-- Five more rounds. -/
def n17 (k : W2) (x : V2) : V2 := vmix 13 (vinj k.2 (key2 k.1 k.2) 4 (vmixB (vinj k.1 k.2 3 x)))
/-- Part 26 of the printed body, in terms of the functions above. -/
theorem part26_eq (k : W2) (x : V2) :
    k0_part26 (F := F) arg0 harg0 arg1 harg1 arg2 harg2 arg3 harg3 arg4 harg4 arg5 harg5 arg6 harg6 arg7 arg8 k.2 (key2 k.1 k.2) (addi x.1 (broadcast S1x128 k.1)) (addi x.2 (broadcast S1x128 k.2))
      = pure ⟨(n17 k x).2, addi (n17 k x).1 (n17 k x).2, shli (n17 k x).2 (broadcast S1x128 15#32), 17#32⟩ := rfl

/-- The last rounds. -/
def n20 (k : W2) (x : V2) : V2 := vinj (key2 k.1 k.2) k.1 5 (vmix 6 (vmix 26 (vmix 15 x)))
/-- Part 27 of the printed body, in terms of the functions above. -/
theorem part27_eq (k : W2) (x : V2) :
    k0_part27 (F := F) arg0 harg0 arg1 harg1 arg2 harg2 arg3 harg3 arg4 harg4 arg5 harg5 arg6 harg6 arg7 arg8 k.1 (key2 k.1 k.2) x.2 (addi x.1 x.2) (shli x.2 (broadcast S1x128 15#32)) 17#32
      = pure ⟨uniform (xori (n20 k x).1 (n20 k x).2), logw (uniform (xori (n20 k x).1 (n20 k x).2)),
          wc (uniform (xori (n20 k x).1 (n20 k x).2)), Scalar.ofBits .f32 0x32F16588#32⟩ := rfl

/-- Part 28 of the printed body, in terms of the functions above. -/
theorem part28_eq (x : FVec F S1x128 .f32) :
    k0_part28 (F := F) arg0 harg0 arg1 harg1 arg2 harg2 arg3 harg3 arg4 harg4 arg5 harg5 arg6 harg6 arg7 arg8 (logw x) (wc x) (Scalar.ofBits .f32 0x32F16588#32) = pure ⟨center (wc x), wt x, tail5 (wt x)⟩ := rfl

/-- The last stretch makes the normal deviates of the random words. -/
theorem normals_eq (b : IVec S1x128 32) :
    k0_pay209 (F := F) (uniform b) (logw (uniform b)) (center (wc (uniform b))) (wt (uniform b)) (tail5 (wt (uniform b))) = normals b := rfl

/-- The stretches for the first key make it. -/
theorem keyI_eq (s : BitVec 32) : k20 s (k13 s (k6 s)) = keyI s := rfl
/-- The stretches for the second key make it. -/
theorem keyS_eq (s : BitVec 32) : l20 s (l14 s (l7 s)) = keyS s := rfl
/-- The stretches for the random word of the index make it. -/
theorem wordI_eq (k : W2) : m20 k (m16 k (m8 k (m1 k))) = tf k.1 k.2 0#32 0#32 := rfl
/-- The stretches for the random words of the deviates make them. -/
theorem wordsS_eq (k : W2) : n20 k (n17 k (n12 k (n6 k (n0 k)))) = vtf k.1 k.2 := rfl

/-- What the body subtracts from the matrix `a` after a panel that found the rows `w`: the sum of the rows' outer products. -/
def drop (a : FVec F S128x128 .f32) (w : FVec F S16x128 .f32) : FVec F S128x128 .f32 :=
  k0_pay211 w (constant S128x128 .f32 0x00000000#32) a

/-- One panel: its rows are loaded and eliminated, and the matrix is lessened by what they account for. -/
def panel (z : FVec F S1x128 .f32) (k : Fin k0_t1_loop.trips) (y : FVec F S1x128 .f32) : Prog (TpuEff nD τ sig (Elt F) Λ₀ .tc) (FVec F S1x128 .f32) := do
  let a : Vec F S16x128 .f32 ← Prog.lift (.load arg5 (Rect.unit (s := S128x128) (k0_off3 k) S16x128.size (k0_off3_inb k)).toLoadRect (View.loadsAt_vmem h_S16x128))
  let b : Vec F S128x128 .f32 ← Prog.lift (.load arg5 (Rect.unit (s := S128x128) ![0, 0] S128x128.size inb_S128x128_S128x128_0_0).toLoadRect (View.loadsAt_vmem h_S128x128))
  let _ : Vec F S128x128 .f32 ← Prog.lift (.load arg5 (Rect.unit (s := S128x128) ![0, 0] S128x128.size inb_S128x128_S128x128_0_0).toLoadRect (View.loadsAt_vmem h_S128x128))
  Prog.lift (.store arg5 (Rect.unit (s := S128x128) ![0, 0] S128x128.size inb_S128x128_S128x128_0_0) (drop b (wAll (baseOf k) (rows0 z a))) Finset.univ (View.stores_vmem_bits_univ h_S128x128 rfl) (.inl rfl))
  pure (yAt (baseOf k) (rows0 z a) y 16)

/-- The printed panel is `panel` at the normals. -/
theorem trip_eq (b : IVec S1x128 32) :
    k0_t1_body (F := F) arg0 harg0 arg1 harg1 arg2 harg2 arg3 harg3 arg4 harg4 arg5 harg5 arg6 harg6 arg7 arg8 (uniform b) (logw (uniform b)) (center (wc (uniform b))) (wt (uniform b)) (tail5 (wt (uniform b)))
        lane sub17 lane16 rowNo colNo
      = panel arg5 (normals b) := by
  funext k y
  unfold k0_t1_body
  rw [normals_eq, panel_eq]
  simp only [bind_assoc, pure_bind]
  rfl

/-- The printed body up to its store: the seed and the weights loaded, the component's number checked, its covariance and
    its mean moved in, the panels run, and the mean added to the sample. -/
theorem head_eq :
    k0_part29 (F := F) arg0 harg0 arg1 harg1 arg2 harg2 arg3 harg3 arg4 harg4 arg5 harg5 arg6 harg6 arg7 arg8
      = (do
          let s : Elt F .i32 ← smemLoad arg0 (Rect.unit (s := S1) ![0] S1.size inb_S1_S1_0) numel1_S1 rfl
          let w : Vec F S8x128 .f32 ← Prog.lift (.load arg1 (Rect.unit (s := S8x128) ![0, 0] S8x128.size inb_S8x128_S8x128_0_0).toLoadRect (View.loadsAt_vmem h_S8x128))
          have h : k0_chk1 (pick s w) := (← Prog.lift (TpuEff.assume (k0_chk1 (pick s w)) (k0_chk1.dec (pick s w)))).down
          Prog.lift (.enqueueDma (covOf arg3 (pick s w) h) (.here arg5) (.dma arg7.sem) ((View.wordExact_bits rfl).reshape _ _) harg5.wordExact ⟨Or.inl rfl, trivial⟩)
          Prog.lift (.enqueueDma (meanOf arg2 (pick s w) h) (.here arg6) (.dma arg8.sem) (View.wordExact_bits rfl) harg6.wordExact ⟨Or.inl rfl, trivial⟩)
          Prog.lift (.waitDma2 arg7.sem (covOf arg3 (pick s w) h) arg5 ((View.wordExact_bits rfl).reshape _ _) harg5.wordExact)
          Prog.lift (.waitDma2 arg8.sem (meanOf arg2 (pick s w) h) arg6 (View.wordExact_bits rfl) harg6.wordExact)
          let y : FVec F S1x128 .f32 ← Scf.Loop.for k0_t1_loop k0_t1_ok (lit 0#32) (panel arg5 (normals (wordsS s)))
          let m : Vec F S1x128 .f32 ← Prog.lift (.load arg6 (Rect.unit (s := S1x128) ![0, 0] S1x128.size inb_S1x128_S1x128_0_0).toLoadRect (View.loadsAt_vmem h_S1x128))
          pure (addf m y)) := by
  rw [k0_part29_eq_skeleton]; unfold k0_part29_skel
  rw [part14_eq]
  simp only [bind_assoc, pure_bind, part15_eq, part16_eq, part17_eq, part18_eq, part19_eq, part20_eq, part21_eq, part22_eq, part23_eq,
    part24_eq, part25_eq, part26_eq, part27_eq, part28_eq, keyI_eq, keyS_eq, wordI_eq, wordsS_eq, trip_eq]
  unfold pick wordI wordsS
  rfl
/-- The printed body: `head_eq`, and the sum stored. -/
theorem body_eq :
    cc0__body (F := F) arg0 harg0 arg1 harg1 arg2 harg2 arg3 harg3 arg4 harg4 arg5 harg5 arg6 harg6 arg7 arg8
      = (do
          let s : Elt F .i32 ← smemLoad arg0 (Rect.unit (s := S1) ![0] S1.size inb_S1_S1_0) numel1_S1 rfl
          let w : Vec F S8x128 .f32 ← Prog.lift (.load arg1 (Rect.unit (s := S8x128) ![0, 0] S8x128.size inb_S8x128_S8x128_0_0).toLoadRect (View.loadsAt_vmem h_S8x128))
          have h : k0_chk1 (pick s w) := (← Prog.lift (TpuEff.assume (k0_chk1 (pick s w)) (k0_chk1.dec (pick s w)))).down
          Prog.lift (.enqueueDma (covOf arg3 (pick s w) h) (.here arg5) (.dma arg7.sem) ((View.wordExact_bits rfl).reshape _ _) harg5.wordExact ⟨Or.inl rfl, trivial⟩)
          Prog.lift (.enqueueDma (meanOf arg2 (pick s w) h) (.here arg6) (.dma arg8.sem) (View.wordExact_bits rfl) harg6.wordExact ⟨Or.inl rfl, trivial⟩)
          Prog.lift (.waitDma2 arg7.sem (covOf arg3 (pick s w) h) arg5 ((View.wordExact_bits rfl).reshape _ _) harg5.wordExact)
          Prog.lift (.waitDma2 arg8.sem (meanOf arg2 (pick s w) h) arg6 (View.wordExact_bits rfl) harg6.wordExact)
          let y : FVec F S1x128 .f32 ← Scf.Loop.for k0_t1_loop k0_t1_ok (lit 0#32) (panel arg5 (normals (wordsS s)))
          let m : Vec F S1x128 .f32 ← Prog.lift (.load arg6 (Rect.unit (s := S1x128) ![0, 0] S1x128.size inb_S1x128_S1x128_0_0).toLoadRect (View.loadsAt_vmem h_S1x128))
          let _ : Vec F S1x128 .f32 ← Prog.lift (.load arg4 (Rect.unit (s := S1x128) ![0, 0] S1x128.size inb_S1x128_S1x128_0_0).toLoadRect (View.loadsAt_vmem h_S1x128))
          Prog.lift (.store arg4 (Rect.unit (s := S1x128) ![0, 0] S1x128.size inb_S1x128_S1x128_0_0) (addf m y) Finset.univ (View.stores_vmem_bits_univ h_S1x128 rfl) (.inl rfl))
          pure ⟨⟩) := by
  rw [cc0__body_eq_skeleton]; unfold cc0__body_skel
  rw [head_eq]
  simp only [bind_assoc, pure_bind]
end Parts

end Cert.KernelIdeal.Hand

end
-- ==== Proof.Body.lean ====
/-
  The run of the kernel's body: the loop over the panels by its invariant, and the whole body from its operands to the row it
  stores.

  `loopI` is the panels' loop's invariant, with the matrix and the accumulated sample before trip `k` stated outright (`state`).
  `body_run` runs the body under the hypothesis that the picked component's number is in range.
-/
module

public import proofs.«01_k».proof.Proof.Head
public import proofs.«01_k».proof.Proof.Gen.KernelIdeal.Frame
public import proofs.«01_k».proof.Proof.Gen.KernelIdeal.Points
public import proofs.«01_k».proof.Proof.Gen.KernelIdeal.Launch

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The scratch the picked covariance is moved to. -/
abbrev covM : Memref sig .tc .vmem S128x128 .f32 := Memref.whole cc0_scratch0
/-- The scratch the picked mean is moved to. -/
abbrev meanM : Memref sig .tc .vmem S1x128 .f32 := Memref.whole cc0_scratch1
/-- The means. -/
abbrev meansM : Memref sig .tc .hbm S1024x128 .f32 := Memref.whole main_arg0
/-- The covariances. -/
abbrev covsM : Memref sig .tc .hbm S1024x128x128 .f32 := Memref.whole main_arg1

/-- The offsets with which a whole matrix is read are zero. -/
theorem off00 : (![0, 0] : Fin 2 → ℕ) = fun _ => 0 := by funext a; fin_cases a <;> rfl

/-- A load of the whole matrix is the matrix. -/
theorem load_cov (X : FVec F S128x128 .f32) :
    View.readAt (Elt F) covM.view (Rect.unit (s := S128x128) ![0, 0] S128x128.size inb_S128x128_S128x128_0_0).toLoadRect X = X :=
  Memref.readAt_unit_zero (Elt F) cc0_scratch0 off00 _ X
/-- A store over the whole matrix leaves what is stored. -/
theorem store_cov (X w : FVec F S128x128 .f32) :
    covM.view.writes (Elt F) X [⟨Rect.unit (s := S128x128) ![0, 0] S128x128.size inb_S128x128_S128x128_0_0, w⟩] = w :=
  Memref.write_access_unit_zero_univ (Elt F) cc0_scratch0 off00 inb_S128x128_S128x128_0_0 X w

/-- The sixteen rows of panel `k`. -/
def slab (k : Fin k0_t1_loop.trips) (X : FVec F S128x128 .f32) : FVec F S16x128 .f32 :=
  View.readAt (Elt F) covM.view (Rect.unit (s := S128x128) (k0_off3 k) S16x128.size (k0_off3_inb k)).toLoadRect X

/-- What one panel makes of the matrix and the sample. -/
def stepOf (z : FVec F S1x128 .f32) (k : Fin k0_t1_loop.trips) (p : FVec F S128x128 .f32 × FVec F S1x128 .f32) :
    FVec F S128x128 .f32 × FVec F S1x128 .f32 :=
  (drop p.1 (wAll (baseOf k) (rows0 z (slab k p.1))), yAt (baseOf k) (rows0 z (slab k p.1)) p.2 16)
/-- The matrix and the sample before panel `k`. -/
def state (z : FVec F S1x128 .f32) (A : FVec F S128x128 .f32) (y : FVec F S1x128 .f32) : ℕ → FVec F S128x128 .f32 × FVec F S1x128 .f32
  | 0 => (A, y)
  | k + 1 => if h : k < k0_t1_loop.trips then stepOf z ⟨k, h⟩ (state z A y k) else state z A y k

/-- The state after one more panel is the panel step of the state before it. -/
theorem state_succ (z : FVec F S1x128 .f32) (A : FVec F S128x128 .f32) (y : FVec F S1x128 .f32) (k : Fin k0_t1_loop.trips) :
    state z A y (k.val + 1) = stepOf z k (state z A y k.val) := by rw [state, dif_pos k.isLt]

/-- One panel of the loop. -/
theorem panel_run (c : Dev nD) (E : Set ℕ) (z y : FVec F S1x128 .f32) (X : FVec F S128x128 .f32) (k : Fin k0_t1_loop.trips) :
    (covM.view.loc (c : Thread nD τ) ↦[covM.view.set]{fullShare} X : sProp 𝕄)
      ⊢ wp frame (wpE (defs₀ (F := F)) Variants.none c none) E (panel covM z k y)
          (fun r => iprop(⌜r = (stepOf z k (X, y)).2⌝ ∗ (covM.view.loc (c : Thread nD τ) ↦[covM.view.set]{fullShare} (stepOf z k (X, y)).1))) := by
  have hk : k.val < 8 := Nat.lt_of_lt_of_le k.isLt k0_t1_abs.2.1
  unfold panel
  iintro H
  sl_exec
  sl_step
  rw [store_cov, load_cov]
  isplitr
  · ipureintro; rfl
  iexact H

/-- Before panel `k`: the matrix and the sample are `state`'s. -/
def loopI (c : Dev nD) (z y : FVec F S1x128 .f32) (A : FVec F S128x128 .f32) (k : ℕ) (acc : FVec F S1x128 .f32) : sProp 𝕄 :=
  iprop((covM.view.loc (c : Thread nD τ) ↦[covM.view.set]{fullShare} (state z A y k).1) ∗ ⌜acc = (state z A y k).2⌝)

/-- A panel keeps the invariant. -/
theorem inv_step (c : Dev nD) (E : Set ℕ) (z y : FVec F S1x128 .f32) (A : FVec F S128x128 .f32) (k : Fin k0_t1_loop.trips) (acc : FVec F S1x128 .f32) :
    loopI c z y A k.val acc ⊢ wp frame (wpE (defs₀ (F := F)) Variants.none c none) E (panel covM z k acc) (loopI c z y A (k.val + 1)) := by
  unfold loopI
  iintro ⟨H, %ha⟩
  subst ha
  iapply (wp_wand_r Idealize.ShloMosaic.frame (wpE (defs₀ (F := F)) Variants.none (c : Thread nD τ) none) E)
  isplitl [H]
  · iapply (panel_run c E z _ _ k)
    iexact H
  · iintro %r ⟨%hr, H⟩
    rw [state_succ]
    isplitl [H]; · iexact H
    ipureintro; exact hr

/-- The picked covariance. -/
def covAt (C : FVec F S1024x128x128 .f32) (i : BitVec 32) (h : k0_chk1 i) : FVec F S128x128 .f32 :=
  (covOf covsM i h).view.read (Elt F) C
/-- The picked mean. -/
def meanAt (M : FVec F S1024x128 .f32) (i : BitVec 32) (h : k0_chk1 i) : FVec F S1x128 .f32 :=
  (meanOf meansM i h).view.read (Elt F) M

/-- What a move over the whole matrix leaves: what is moved. -/
theorem moved_cov (X w : FVec F S128x128 .f32) : covM.view.writes (Elt F) X [⟨Rect.whole S128x128, w⟩] = w :=
  Memref.write_access_whole_univ (Elt F) cc0_scratch0 X w
/-- What a move over the whole mean leaves: what is moved. -/
theorem moved_mean (X w : FVec F S1x128 .f32) : meanM.view.writes (Elt F) X [⟨Rect.whole S1x128, w⟩] = w :=
  Memref.write_access_whole_univ (Elt F) cc0_scratch1 X w
/-- A load of the whole mean is the mean. -/
theorem load_mean (X : FVec F S1x128 .f32) :
    View.readAt (Elt F) meanM.view (Rect.unit (s := S1x128) ![0, 0] S1x128.size inb_S1x128_S1x128_0_0).toLoadRect X = X :=
  Memref.readAt_unit_zero (Elt F) cc0_scratch1 off00 _ X

/-- The row the body stores. -/
def outRow (s : BitVec 32) (w : FVec F S8x128 .f32) (M : FVec F S1024x128 .f32) (C : FVec F S1024x128x128 .f32)
    (h : k0_chk1 (pick s w)) : FVec F S1x128 .f32 :=
  addf (meanAt M _ h) (state (normals (wordsS s)) (covAt C _ h) (lit 0#32) k0_t1_loop.trips).2

/-- The body runs from its inputs and scratch buffers without a fault, if the index is in range, and leaves the sample in its result. -/
theorem body_run (c : Dev nD) (arg0 : Memref sig .tc .smem S1 .i32) (harg0 : arg0.IsWhole) (arg1 : Memref sig .tc .vmem S8x128 .f32) (harg1 : arg1.IsWhole)
    (arg4 : Memref sig .tc .vmem S1x128 .f32) (harg4 : arg4.IsWhole)
    (f0 : Buf (Elt F) (arg0.view.loc (c : Thread nD τ))) (f1 : Buf (Elt F) (arg1.view.loc (c : Thread nD τ)))
    (M : FVec F S1024x128 .f32) (C : FVec F S1024x128x128 .f32) (w : FVec F S8x128 .f32) (s : BitVec 32)
    (hs : View.readAt (Elt F) arg0.view (Rect.unit (s := S1) ![0] S1.size inb_S1_S1_0).toLoadRect f0 (Shape.Idx.first (by decide)) = s)
    (hw : View.readAt (Elt F) arg1.view (Rect.unit (s := S8x128) ![0, 0] S8x128.size inb_S8x128_S8x128_0_0).toLoadRect f1 = w)
    (h : k0_chk1 (pick s w))
    (W : Waits sig Unit) (K : PUnit → sProp 𝕄) :
    iprop((arg0.view.loc (c : Thread nD τ) ↦[arg0.view.set]{fullShare} f0) ∗ (arg1.view.loc (c : Thread nD τ) ↦[arg1.view.set]{fullShare} f1)
        ∗ (∃ f, arg4.view.loc (c : Thread nD τ) ↦[arg4.view.set]{fullShare} f)
        ∗ (∃ f : FVec F S128x128 .f32, covM.view.loc (c : Thread nD τ) ↦[covM.view.set]{fullShare} f)
        ∗ (∃ f : FVec F S1x128 .f32, meanM.view.loc (c : Thread nD τ) ↦[meanM.view.set]{fullShare} f)
        ∗ semVal ((c : Thread nD τ), SemLoc.dma 3) 0 ∗ semVal ((c : Thread nD τ), SemLoc.dma 4) 0
        ∗ (meansM.view.loc (c : Thread nD τ) ↦{fullShare} M) ∗ (covsM.view.loc (c : Thread nD τ) ↦{fullShare} C)
        ∗ owes (c : Thread nD τ) 0 W
        ∗ (iprop((arg0.view.loc (c : Thread nD τ) ↦[arg0.view.set]{fullShare} f0) ∗ (arg1.view.loc (c : Thread nD τ) ↦[arg1.view.set]{fullShare} f1)
            ∗ (∃ f, arg4.view.loc (c : Thread nD τ) ↦[arg4.view.set]{fullShare} arg4.view.writes (Elt F) f [⟨Rect.unit (s := S1x128) ![0, 0] S1x128.size inb_S1x128_S1x128_0_0, outRow s w M C h⟩])
            ∗ (∃ f : FVec F S128x128 .f32, covM.view.loc (c : Thread nD τ) ↦[covM.view.set]{fullShare} f)
            ∗ (∃ f : FVec F S1x128 .f32, meanM.view.loc (c : Thread nD τ) ↦[meanM.view.set]{fullShare} f)
            ∗ semVal ((c : Thread nD τ), SemLoc.dma 3) 0 ∗ semVal ((c : Thread nD τ), SemLoc.dma 4) 0
            ∗ (meansM.view.loc (c : Thread nD τ) ↦{fullShare} M) ∗ (covsM.view.loc (c : Thread nD τ) ↦{fullShare} C)
            ∗ (∃ W', owes (c : Thread nD τ) 0 W')) -∗ K ⟨⟩))
      ⊢ wp frame (wpE (defs₀ (F := F)) Variants.none c none) Set.univ
          (cc0__body arg0 harg0 arg1 harg1 meansM (Memref.isWhole_whole _) covsM (Memref.isWhole_whole _) arg4 harg4
            covM (Memref.isWhole_whole _) meanM (Memref.isWhole_whole _) cc0_scratch2 cc0_scratch3) K := by
  subst hs hw
  rw [body_eq]
  iintro ⟨H0, H1, ⟨%f4, H4⟩, ⟨%f5, H5⟩, ⟨%f6, H6⟩, Hq3, Hq4, HM, HC, HW, Hk⟩
  sl_exec
  rw [moved_cov, moved_mean]
  unfold body_run.sl.r body_run.sl.dma2 body_run.sl.dma2_1
  sl_for (loopI (F := F) c
    (normals (wordsS (View.readAt (Elt F) arg0.view (Rect.unit (s := S1) ![0] S1.size inb_S1_S1_0).toLoadRect f0 (Shape.Idx.first (by decide)))))
    (lit 0#32) (covAt C _ h)) $$ [H5]
  case region =>
    intro k acc
    exact inv_step c _ _ _ _ k acc
  · unfold loopI
    isplitl [H5]; · iexact H5
    ipureintro; rfl
  iintro %y HI
  unfold loopI
  icases HI with ⟨H5, %hy⟩
  sl_exec
  sl_step
  have e : addf (body_run.sl.m c arg0 arg1 f0 f1 M h) y = outRow (F := F) _ _ M C h := by
    subst hy
    unfold body_run.sl.m body_run.sl.r outRow
    rw [load_mean]
    rfl
  rw [e]
  iapply Hk
  isplitl [H0]; · iexact H0
  isplitl [H1]; · iexact H1
  isplitl [H4]; · iexists _; iexact H4
  isplitl [H5]; · iexists _; iexact H5
  isplitl [H6]; · iexists _; iexact H6
  isplitl [Hq3]; · iexact Hq3
  isplitl [Hq4]; · iexact Hq4
  isplitl [HM]; · iexact HM
  isplitl [HC]; · iexact HC
  iexists _; iexact HW

end Cert.KernelIdeal.Hand

end
-- ==== Proof.Chol.lean ====
/-
  The arithmetic of a product of a lower triangular matrix with its transpose: what is left of it once its first columns' parts
  are taken away, and the partial products of the matrix with a vector.
-/
module

public import Mathlib.Data.EReal.Operations
public import Mathlib.Data.EReal.Inv
public import Mathlib.Algebra.BigOperators.Fin
public import Idealize.ShloMosaic.PureOps.Ideal

@[expose] public section

noncomputable section

namespace Cert.Chol

open Idealize.ShloMosaic

/-- A lower triangular matrix with a positive diagonal. -/
structure Tri (L : Fin 128 → Fin 128 → ℝ) : Prop where
  zero : ∀ i j, i < j → L i j = 0
  pos : ∀ i, 0 < L i i

/-- What is left of the matrix's product with its transpose without the first `n` columns' parts. -/
def rest (L : Fin 128 → Fin 128 → ℝ) (n : ℕ) (i j : Fin 128) : ℝ := ∑ k : Fin 128, if n ≤ k.val then L i k * L j k else 0

/-- The matrix's product with a vector, of the first `n` columns only. -/
def part (L : Fin 128 → Fin 128 → ℝ) (z : Fin 128 → EReal) (n : ℕ) (i : Fin 128) : EReal :=
  ∑ k : Fin 128, if k.val < n then (L i k : EReal) * z k else 0

variable {L : Fin 128 → Fin 128 → ℝ}

/-- Column `n`'s part is the difference of two successive remainders. -/
theorem rest_succ (n : Fin 128) (i j : Fin 128) : rest L n.val i j = L i n * L j n + rest L (n.val + 1) i j := by
  unfold rest
  have h : ∀ k : Fin 128, (if n.val ≤ k.val then L i k * L j k else 0)
      = (if k = n then L i n * L j n else 0) + (if n.val + 1 ≤ k.val then L i k * L j k else 0) := by
    intro k
    by_cases e : k = n
    · subst e; simp
    · have : (n.val ≤ k.val) ↔ (n.val + 1 ≤ k.val) := by
        have : k.val ≠ n.val := fun q => e (Fin.ext q)
        omega
      simp only [e, if_false, this, zero_add]
  rw [Finset.sum_congr rfl fun k _ => h k, Finset.sum_add_distrib, Finset.sum_ite_eq' Finset.univ n]
  simp

/-- The matrix left before a row is symmetric. -/
theorem rest_symm (n : ℕ) (i j : Fin 128) : rest L n i j = rest L n j i := by
  unfold rest
  exact Finset.sum_congr rfl fun k _ => by rw [mul_comm]

/-- The remainder's rows above the columns already taken away are zero. -/
theorem rest_zero (T : Tri L) (n : ℕ) (i j : Fin 128) (h : i.val < n) : rest L n i j = 0 := by
  unfold rest
  refine Finset.sum_eq_zero fun k _ => ?_
  by_cases e : n ≤ k.val
  · rw [if_pos e, T.zero i k (by show i.val < k.val; omega), zero_mul]
  · rw [if_neg e]

/-- The remainder's first column is the matrix's column times its diagonal element. -/
theorem rest_col (T : Tri L) (n i : Fin 128) : rest L n.val i n = L i n * L n n := by
  rw [rest_succ n i n, rest_symm, rest_zero T (n.val + 1) n i (Nat.lt_succ_self _), add_zero]

/-- Row n of the matrix left before row n is column n of the factor times its diagonal entry. -/
theorem rest_row (T : Tri L) (n i : Fin 128) : rest L n.val n i = L n n * L i n := by
  rw [rest_symm, rest_col T, mul_comm]

/-- Before the first row the whole product of the factor and its transpose is left. -/
theorem rest_full (i j : Fin 128) : rest L 0 i j = ∑ k, L i k * L j k := by
  unfold rest
  exact Finset.sum_congr rfl fun k _ => if_pos (Nat.zero_le _)

/-- One step of elimination: the remainder less its column times its row over its pivot is the next remainder. -/
theorem rest_step (T : Tri L) (n i j : Fin 128) :
    rest L n.val i j - rest L n.val i n * (rest L n.val n j * (1 / rest L n.val n n)) = rest L (n.val + 1) i j := by
  rw [rest_succ n i j, rest_col T, rest_row T, rest_row T]
  have := (T.pos n).ne'
  field_simp
  ring

/-- No columns give the sum zero. -/
theorem part_zero (z : Fin 128 → EReal) (i : Fin 128) : part L z 0 i = 0 := by
  unfold part
  exact Finset.sum_eq_zero fun k _ => if_neg (Nat.not_lt_zero _)

/-- One more column adds its entry times its deviate. -/
theorem part_succ (z : Fin 128 → EReal) (n : Fin 128) (i : Fin 128) :
    part L z (n.val + 1) i = part L z n.val i + (L i n : EReal) * z n := by
  unfold part
  have h : ∀ k : Fin 128, (if k.val < n.val + 1 then (L i k : EReal) * z k else 0)
      = (if k.val < n.val then (L i k : EReal) * z k else 0) + (if k = n then (L i n : EReal) * z n else 0) := by
    intro k
    by_cases e : k = n
    · subst e; simp
    · have : (k.val < n.val + 1) ↔ (k.val < n.val) := by
        have : k.val ≠ n.val := fun q => e (Fin.ext q)
        omega
      simp only [e, if_false, this, add_zero]
  rw [Finset.sum_congr rfl fun k _ => h k, Finset.sum_add_distrib, Finset.sum_ite_eq' Finset.univ n]
  simp

/-- All columns give the product of the factor and the deviates. -/
theorem part_full (z : Fin 128 → EReal) (i : Fin 128) : part L z 128 i = ∑ k, (L i k : EReal) * z k := by
  unfold part
  exact Finset.sum_congr rfl fun k _ => if_pos k.isLt

/-- A sum of reals among the extended reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s h ih => rw [Finset.sum_insert h, Finset.sum_insert h, EReal.coe_add, ih]

/-- A quotient of reals by a real that is not zero. -/
theorem div_real (x y : ℝ) (h : y ≠ 0) : Ideal.div (x : EReal) (y : EReal) = ((x / y : ℝ) : EReal) := by
  unfold Ideal.div
  rw [if_neg (by exact_mod_cast h), ← EReal.coe_inv, ← EReal.coe_mul, div_eq_mul_inv]

/-- The root of the square of a positive number is that number. -/
theorem sqrt_real (d : ℝ) (h : 0 < d) : Ideal.sqrt ((d * d : ℝ) : EReal) = (d : EReal) := by
  show (if d * d < 0 then (⊥ : EReal) else ((Real.sqrt (d * d) : ℝ) : EReal)) = _
  rw [if_neg (by nlinarith), Real.sqrt_mul_self h.le]

end Cert.Chol

end
-- ==== Proof.Step.lean ====
/-
  One step of a panel and one whole panel over the extended reals: with a matrix that is the remainder of a lower triangular
  matrix's product with its transpose, a panel gives the remainder sixteen columns further, and adds those columns' products
  with the normals to the sample.
-/
module

public import proofs.«01_k».proof.Proof.Body
public import proofs.«01_k».proof.Proof.Chol
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe
open Cert.Chol

/-- A selection by a decided proposition. -/
theorem select_of (p : Prop) [Decidable p] (x y : EReal) : Scalar.select (BitVec.ofBool (decide p)) x y = if p then x else y := by
  by_cases h : p
  · simp only [h, decide_true, if_true]; rfl
  · simp only [h, decide_false, if_false]; rfl

/-- The comparison of two column numbers as words is their comparison as numbers. -/
theorem sge_word (j n : Fin 128) : IntOp.cmpi CmpIPredicate.sge (BitVec.ofNat 32 j.val) (BitVec.ofNat 32 n.val) = BitVec.ofBool (decide (n ≤ j)) := by
  revert j n; decide +kernel
/-- The comparison of two columns of a panel as words is their comparison as numbers. -/
theorem sge_lane (j n : Fin 16) : IntOp.cmpi CmpIPredicate.sge (BitVec.ofNat 32 j.val) (BitVec.ofNat 32 n.val) = BitVec.ofBool (decide (n ≤ j)) := by
  revert j n; decide +kernel
/-- The mask of the rows below the pivot within the panel, as a proposition. -/
theorem under_word (i : Fin 17) (t : Fin 16) : IntOp.andi (IntOp.cmpi CmpIPredicate.sgt (BitVec.ofNat 32 i.val) (BitVec.ofNat 32 t.val))
    (IntOp.cmpi CmpIPredicate.slt (BitVec.ofNat 32 i.val) 16#32) = BitVec.ofBool (decide (t.val < i.val ∧ i.val < 16)) := by
  revert i t; decide +kernel
/-- Two numbers below 128 are equal as words when they are equal. -/
theorem eq_word (j n : Fin 128) : IntOp.cmpi CmpIPredicate.eq (BitVec.ofNat 32 j.val) (BitVec.ofNat 32 n.val) = BitVec.ofBool (decide (j = n)) := by
  revert j n; decide +kernel

section
variable (t : Fin 16) (base : BitVec 32) (c : FVec Ideal S17x16 .f32) (r : FVec Ideal S17x128 .f32) (y : FVec Ideal S1x128 .f32)

/-- A panel's row among the seventeen. -/
abbrev up (i : Fin 16) : Fin 17 := ⟨i.val, Nat.lt_trans i.isLt (by decide)⟩

/-- Entry j of the scaled row: the row times the reciprocal root of the pivot, from the diagonal on. -/
theorem wRow_apply (j : Fin 128) : wRow t base c r (ix2 0 j)
    = Scalar.select (IntOp.cmpi CmpIPredicate.sge (BitVec.ofNat 32 j.val) (Scalar.addi base (BitVec.ofNat 32 t.val)))
        (r (ix2 (up t) j) * Ideal.rsqrt (c (ix2 (up t) t))) 0 := by
  pointwise [wRow, rowm, mask, rowIx, piv, colv, rowt]
/-- One entry of the panel block after the elimination of a row. -/
theorem cNext_apply (i : Fin 17) (j : Fin 16) : cNext t c (ix2 i j) = c (ix2 i j)
    - Scalar.select (IntOp.cmpi CmpIPredicate.sge (BitVec.ofNat 32 j.val) (BitVec.ofNat 32 t.val))
        (Scalar.select
          (IntOp.andi (IntOp.cmpi CmpIPredicate.sgt (BitVec.ofNat 32 i.val) (BitVec.ofNat 32 t.val))
            (IntOp.cmpi CmpIPredicate.slt (BitVec.ofNat 32 i.val) 16#32))
          (c (ix2 i t) * (c (ix2 (up t) j) * Ideal.div 1 (c (ix2 (up t) t)))) 0) 0 := by
  pointwise [cNext, cdrop, upd, cscale, below, cmask, crow, inv, piv, colv]
/-- One entry of the panel's rows after the elimination of a row. -/
theorem rNext_apply (i : Fin 17) (j : Fin 128) : rNext t base c r (ix2 i j) = r (ix2 i j)
    - Scalar.select (IntOp.cmpi CmpIPredicate.sge (BitVec.ofNat 32 j.val) (Scalar.addi base (BitVec.ofNat 32 t.val)))
        (Scalar.select
          (IntOp.andi (IntOp.cmpi CmpIPredicate.sgt (BitVec.ofNat 32 i.val) (BitVec.ofNat 32 t.val))
            (IntOp.cmpi CmpIPredicate.slt (BitVec.ofNat 32 i.val) 16#32))
          (c (ix2 i t) * (r (ix2 (up t) j) * Ideal.div 1 (c (ix2 (up t) t)))) 0) 0 := by
  pointwise [rNext, updB, rscaleB, rscale, upd, below, inv, rowm, mask, rowIx, rowt, piv, colv]
/-- One entry of the sum after a row: the scaled row times the deviate is added. -/
theorem yNext_apply (j : Fin 128) : yNext t base c r y (ix2 0 j) = y (ix2 0 j) + wRow t base c r (ix2 0 j) * c (ix2 16 t) := by
  pointwise [yNext, zed, colv]
/-- One entry of the panel block at the start: a row times a column of zeros and a one. -/
theorem cols0_apply (i : Fin 17) (j : Fin 16) : cols0 base r (ix2 i j)
    = ∑ x : Fin 128, r (ix2 i x) * (FloatOps.sitofp (F := Ideal) FTy.f32
        (BitVec.setWidth 32 (IntOp.cmpi CmpIPredicate.eq (BitVec.ofNat 32 x.val) (IntOp.addi base (BitVec.ofNat 32 j.val)))) : EReal) := by
  pointwise [cols0]
/-- The first sixteen rows at the start are those of the slab. -/
theorem rows0_apply (z : FVec Ideal S1x128 .f32) (a : FVec Ideal S16x128 .f32) (i : Fin 16) (j : Fin 128) : rows0 z a (ix2 (up i) j) = a (ix2 i j) := by
  pointwise [rows0]
/-- The seventeenth row at the start holds the deviates. -/
theorem rows0_last (z : FVec Ideal S1x128 .f32) (a : FVec Ideal S16x128 .f32) (j : Fin 128) : rows0 z a (ix2 16 j) = z (ix2 0 j) := by
  pointwise [rows0]
/-- One entry of the matrix after a panel: the product of the scaled rows is subtracted. -/
theorem drop_apply (a : FVec Ideal S128x128 .f32) (w : FVec Ideal S16x128 .f32) (i j : Fin 128) :
    drop a w (ix2 i j) = a (ix2 i j) - ∑ x : Fin 16, w (ix2 x i) * w (ix2 x j) := by
  pointwise [drop, k0_pay211]
/-- Row i of the scaled rows is the row that step i made. -/
theorem wAll_apply (i : Fin 16) (j : Fin 128) : wAll base r (ix2 i j) = wAt base r i.val (ix2 0 j) := by
  fin_cases i <;> pointwise [wAll]

end

/-- Lane `i` of the panel that starts at lane `b`. -/
def at16 (b : ℕ) (hb : b + 16 ≤ 128) (i : Fin 16) : Fin 128 := ⟨b + i.val, by omega⟩

section
variable {L : Fin 128 → Fin 128 → ℝ} (T : Tri L) (z : Fin 128 → EReal) (b : ℕ) (hb : b + 16 ≤ 128)

/-- The rows after `n` steps. -/
def RowsOk (L : Fin 128 → Fin 128 → ℝ) (z : Fin 128 → EReal) (b : ℕ) (hb : b + 16 ≤ 128) (n : ℕ) (r : FVec Ideal S17x128 .f32) : Prop :=
  (∀ i : Fin 16, n ≤ i.val → ∀ j : Fin 128, r (ix2 (up i) j) = ((rest L (b + n) (at16 b hb i) j : ℝ) : EReal))
    ∧ ∀ j : Fin 128, r (ix2 16 j) = z j
/-- The panel's own columns after `n` steps. -/
def ColsOk (L : Fin 128 → Fin 128 → ℝ) (z : Fin 128 → EReal) (b : ℕ) (hb : b + 16 ≤ 128) (n : ℕ) (c : FVec Ideal S17x16 .f32) : Prop :=
  (∀ i : Fin 16, n ≤ i.val → ∀ s : Fin 16, c (ix2 (up i) s) = ((rest L (b + n) (at16 b hb i) (at16 b hb s) : ℝ) : EReal))
    ∧ ∀ s : Fin 16, c (ix2 16 s) = z (at16 b hb s)

/-- The word of row t of a panel is the word of its number in the matrix. -/
theorem lane_word (t : Fin 16) : Scalar.addi (BitVec.ofNat 32 b) (BitVec.ofNat 32 t.val) = BitVec.ofNat 32 (at16 b hb t).val := by
  show BitVec.ofNat 32 b + BitVec.ofNat 32 t.val = BitVec.ofNat 32 (b + t.val)
  rw [BitVec.ofNat_add]

include T in
/-- The row a step gives: the factor's column. -/
theorem wRow_ok (t : Fin 16) (c : FVec Ideal S17x16 .f32) (r : FVec Ideal S17x128 .f32) (hc : ColsOk L z b hb t.val c) (hr : RowsOk L z b hb t.val r)
    (j : Fin 128) : wRow t (BitVec.ofNat 32 b) c r (ix2 0 j) = ((L j (at16 b hb t) : ℝ) : EReal) := by
  rw [wRow_apply, lane_word b hb, sge_word, select_of, hr.1 t (le_refl _), hc.1 t (le_refl _)]
  change (if at16 b hb t ≤ j then ((rest L (at16 b hb t).val (at16 b hb t) j : ℝ) : EReal)
    * Ideal.rsqrt ((rest L (at16 b hb t).val (at16 b hb t) (at16 b hb t) : ℝ) : EReal) else 0) = _
  generalize at16 b hb t = n
  by_cases h : n ≤ j
  · rw [if_pos h, rest_row T, rest_row T]
    have p := T.pos n
    have q : Ideal.rsqrt ((L n n * L n n : ℝ) : EReal) = (((L n n)⁻¹ : ℝ) : EReal) := by
      show (if L n n * L n n < 0 then (⊥ : EReal) else if L n n * L n n = 0 then ⊤ else (((Real.sqrt (L n n * L n n))⁻¹ : ℝ) : EReal)) = _
      rw [if_neg (by nlinarith), if_neg (by positivity), Real.sqrt_mul_self p.le]
    rw [q, ← EReal.coe_mul]
    congr 1
    field_simp
  · rw [if_neg h, T.zero j n (not_le.mp h)]
    rfl

include T in
/-- Elimination with row n takes the matrix left before row n to the one left after it. -/
theorem step_real (n i j : Fin 128) : ((rest L n.val i j : ℝ) : EReal) - ((rest L n.val i n : ℝ) : EReal)
      * (((rest L n.val n j : ℝ) : EReal) * Ideal.div 1 ((rest L n.val n n : ℝ) : EReal)) = ((rest L (n.val + 1) i j : ℝ) : EReal) := by
  have h : rest L n.val n n ≠ 0 := by
    rw [rest_row T]; exact (mul_pos (T.pos n) (T.pos n)).ne'
  rw [show (1 : EReal) = ((1 : ℝ) : EReal) from rfl, div_real _ _ h, ← EReal.coe_mul, ← EReal.coe_mul, ← EReal.coe_sub, rest_step T]

include T in
/-- Left of the diagonal nothing is subtracted, and nothing changes. -/
theorem step_zero (n i j : Fin 128) (h : j < n) : ((rest L n.val i j : ℝ) : EReal) - 0 = ((rest L (n.val + 1) i j : ℝ) : EReal) := by
  rw [sub_zero, rest_symm, rest_zero T _ _ _ h, rest_symm, rest_zero T _ _ _ (Nat.lt_succ_of_lt h)]

include T in
/-- The panel block keeps its invariant over one row. -/
theorem cNext_ok (t : Fin 16) (c : FVec Ideal S17x16 .f32) (hc : ColsOk L z b hb t.val c) : ColsOk L z b hb (t.val + 1) (cNext t c) := by
  constructor
  · intro i hi s
    rw [cNext_apply, under_word, sge_lane, select_of, select_of, if_pos (⟨hi, i.isLt⟩ : t.val < (up i).val ∧ (up i).val < 16),
      hc.1 i (by omega), hc.1 t (le_refl _), hc.1 t (le_refl _), hc.1 i (by omega)]
    change ((rest L (at16 b hb t).val (at16 b hb i) (at16 b hb s) : ℝ) : EReal)
      - (if t ≤ s then ((rest L (at16 b hb t).val (at16 b hb i) (at16 b hb t) : ℝ) : EReal)
          * (((rest L (at16 b hb t).val (at16 b hb t) (at16 b hb s) : ℝ) : EReal)
            * Ideal.div 1 ((rest L (at16 b hb t).val (at16 b hb t) (at16 b hb t) : ℝ) : EReal)) else 0)
      = ((rest L ((at16 b hb t).val + 1) (at16 b hb i) (at16 b hb s) : ℝ) : EReal)
    by_cases h : t ≤ s
    · rw [if_pos h]; exact step_real T _ _ _
    · rw [if_neg h]
      exact step_zero T _ _ _ (by show b + s.val < b + t.val; have := not_le.mp h; have : s.val < t.val := this; omega)
  · intro s
    have last : ¬(t.val < (16 : Fin 17).val ∧ (16 : Fin 17).val < 16) := fun h => absurd h.2 (by decide)
    rw [cNext_apply, under_word, sge_lane, select_of, select_of, if_neg last, ite_self, sub_zero]
    exact hc.2 s

include T in
/-- The panel's rows keep their invariant over one row. -/
theorem rNext_ok (t : Fin 16) (c : FVec Ideal S17x16 .f32) (r : FVec Ideal S17x128 .f32) (hc : ColsOk L z b hb t.val c) (hr : RowsOk L z b hb t.val r) :
    RowsOk L z b hb (t.val + 1) (rNext t (BitVec.ofNat 32 b) c r) := by
  constructor
  · intro i hi j
    rw [rNext_apply, lane_word b hb, under_word, sge_word, select_of, select_of, if_pos (⟨hi, i.isLt⟩ : t.val < (up i).val ∧ (up i).val < 16),
      hr.1 i (by omega), hc.1 t (le_refl _), hr.1 t (le_refl _), hc.1 i (by omega)]
    change ((rest L (at16 b hb t).val (at16 b hb i) j : ℝ) : EReal)
      - (if at16 b hb t ≤ j then ((rest L (at16 b hb t).val (at16 b hb i) (at16 b hb t) : ℝ) : EReal)
          * (((rest L (at16 b hb t).val (at16 b hb t) j : ℝ) : EReal)
            * Ideal.div 1 ((rest L (at16 b hb t).val (at16 b hb t) (at16 b hb t) : ℝ) : EReal)) else 0)
      = ((rest L ((at16 b hb t).val + 1) (at16 b hb i) j : ℝ) : EReal)
    by_cases h : at16 b hb t ≤ j
    · rw [if_pos h]; exact step_real T _ _ _
    · rw [if_neg h]
      exact step_zero T _ _ _ (not_le.mp h)
  · intro j
    have last : ¬(t.val < (16 : Fin 17).val ∧ (16 : Fin 17).val < 16) := fun h => absurd h.2 (by decide)
    rw [rNext_apply, lane_word b hb, under_word, sge_word, select_of, select_of, if_neg last, ite_self, sub_zero]
    exact hr.2 j

/-- The panel's own columns are picked from its rows. -/
theorem cols0_ok (r : FVec Ideal S17x128 .f32) (hr : RowsOk L z b hb 0 r) : ColsOk L z b hb 0 (cols0 (BitVec.ofNat 32 b) r) := by
  have key : ∀ (i : Fin 17) (s : Fin 16), cols0 (BitVec.ofNat 32 b) r (ix2 i s) = r (ix2 i (at16 b hb s)) := by
    intro i s
    rw [cols0_apply]
    have h : ∀ x : Fin 128, r (ix2 i x) * (FloatOps.sitofp (F := Ideal) FTy.f32
        (BitVec.setWidth 32 (IntOp.cmpi CmpIPredicate.eq (BitVec.ofNat 32 x.val) (IntOp.addi (BitVec.ofNat 32 b) (BitVec.ofNat 32 s.val)))) : EReal)
        = if x = at16 b hb s then r (ix2 i (at16 b hb s)) else 0 := by
      intro x
      have e := lane_word b hb s
      change IntOp.addi (BitVec.ofNat 32 b) (BitVec.ofNat 32 s.val) = _ at e
      rw [e, eq_word]
      by_cases q : x = at16 b hb s
      · simp only [q, decide_true, if_true]
        have : (FloatOps.sitofp (F := Ideal) FTy.f32 (BitVec.setWidth 32 (BitVec.ofBool true)) : EReal) = 1 := by
          show (((BitVec.setWidth 32 (BitVec.ofBool true)).toInt : ℝ) : EReal) = 1
          simp
        rw [this, mul_one]
      · simp only [q, decide_false, if_false]
        have : (FloatOps.sitofp (F := Ideal) FTy.f32 (BitVec.setWidth 32 (BitVec.ofBool false)) : EReal) = 0 := by
          show (((BitVec.setWidth 32 (BitVec.ofBool false)).toInt : ℝ) : EReal) = 0
          simp
        rw [this, mul_zero]
    rw [Finset.sum_congr rfl fun x _ => h x, Finset.sum_ite_eq' Finset.univ]
    simp
  exact ⟨fun i hi s => by rw [key, hr.1 i hi], fun s => by rw [key, hr.2]⟩

include T in
/-- After `n` steps. -/
theorem at_ok (r : FVec Ideal S17x128 .f32) (hr : RowsOk L z b hb 0 r) (n : ℕ) (hn : n ≤ 16) :
    ColsOk L z b hb n (colsAt (BitVec.ofNat 32 b) r n) ∧ RowsOk L z b hb n (rowsAt (BitVec.ofNat 32 b) r n) := by
  induction n with
  | zero => exact ⟨cols0_ok z b hb r hr, hr⟩
  | succ n ih =>
    have hv : (Fin.ofNat 16 n).val = n := Nat.mod_eq_of_lt (by omega)
    obtain ⟨hc, hr'⟩ := ih (by omega)
    have a := cNext_ok T z b hb (Fin.ofNat 16 n) _ (hv.symm ▸ hc)
    have d := rNext_ok T z b hb (Fin.ofNat 16 n) _ _ (hv.symm ▸ hc) (hv.symm ▸ hr')
    rw [hv] at a d
    exact ⟨a, d⟩

include T in
/-- Each scaled row is a column of the factor. -/
theorem wAt_ok (r : FVec Ideal S17x128 .f32) (hr : RowsOk L z b hb 0 r) (t : Fin 16) (j : Fin 128) :
    wAt (BitVec.ofNat 32 b) r t.val (ix2 0 j) = ((L j (at16 b hb t) : ℝ) : EReal) := by
  obtain ⟨hc, hr'⟩ := at_ok T z b hb r hr t.val t.isLt.le
  have hv : Fin.ofNat 16 t.val = t := Fin.ext (Nat.mod_eq_of_lt t.isLt)
  unfold wAt
  rw [hv]
  exact wRow_ok T z b hb t _ _ hc hr' j

include T in
/-- After n rows of a panel the sum has those columns as well. -/
theorem yAt_ok (r : FVec Ideal S17x128 .f32) (hr : RowsOk L z b hb 0 r) (y : FVec Ideal S1x128 .f32) (hy : ∀ j, y (ix2 0 j) = part L z b j) (n : ℕ) (hn : n ≤ 16)
    (j : Fin 128) : yAt (BitVec.ofNat 32 b) r y n (ix2 0 j) = part L z (b + n) j := by
  induction n with
  | zero => exact hy j
  | succ n ih =>
    have hv : Fin.ofNat 16 n = (⟨n, by omega⟩ : Fin 16) := Fin.ext (Nat.mod_eq_of_lt (by omega))
    obtain ⟨hc, hr'⟩ := at_ok T z b hb r hr n (by omega)
    unfold yAt
    rw [hv, yNext_apply, ih (by omega), wRow_ok T z b hb ⟨n, by omega⟩ _ _ hc hr' j, hc.2]
    exact (part_succ z (at16 b hb ⟨n, by omega⟩) j).symm

include T in
/-- The matrix a panel leaves. -/
theorem drop_ok (a : FVec Ideal S128x128 .f32) (ha : ∀ i j, a (ix2 i j) = ((rest L b i j : ℝ) : EReal)) (w : FVec Ideal S16x128 .f32)
    (hw : ∀ t j, w (ix2 t j) = ((L j (at16 b hb t) : ℝ) : EReal)) (i j : Fin 128) : drop a w (ix2 i j) = ((rest L (b + 16) i j : ℝ) : EReal) := by
  have key : ∀ n : ℕ, (hn : n ≤ 16) → rest L b i j - ∑ t : Fin n, L i (at16 b hb ⟨t.val, by omega⟩) * L j (at16 b hb ⟨t.val, by omega⟩) = rest L (b + n) i j := by
    intro n
    induction n with
    | zero => intro _; simp
    | succ n ih =>
      intro hn
      rw [Fin.sum_univ_castSucc]
      have e := ih (by omega)
      have s := rest_succ (L := L) (at16 b hb ⟨n, by omega⟩) i j
      change rest L (b + n) i j = _ + rest L (b + n + 1) i j at s
      simp only [Fin.val_castSucc, Fin.val_last]
      rw [← add_assoc]
      linarith
  rw [drop_apply, ha, Finset.sum_congr rfl fun x _ => by rw [hw, hw, ← EReal.coe_mul], ← coe_sum, ← EReal.coe_sub]
  congr 1
  exact key 16 (le_refl _)

end

end Cert.KernelIdeal.Hand

end
-- ==== Proof.Run.lean ====
/-
  The kernel's run: `@main` reshapes two arguments, enters the region, whose one step is the body, and reshapes the row the body
  stores. `run` states it at every value type, under the hypothesis that the picked component's number is in range: the
  arguments end unchanged, every semaphore at zero, and the result is the body's row.
-/
module

public import proofs.«01_k».proof.Proof.Body
public import Idealize.ShloMosaic.Adequacy
public import Idealize.ShloMosaic.Lib.Pipeline.ValueKit.Geometry
public import Idealize.ShloMosaic.Lib.VecWindow
public import Idealize.ShloMosaic.Lib.StableHlo.RunRead
public import Idealize.ShloMosaic.Init

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The two semaphores the body's moves signal. -/
abbrev osem0 : Fin 2 → SemLoc sig := fun j => (![SemLoc.dma 3, SemLoc.dma 4] : Fin 2 → SemLoc sig) j
/-- The two semaphores of the copies are distinct and are nobody else's. -/
theorem ownSemFacts0 : Pipeline.OwnSemFacts spec0 osem0 := by decide
/-- The semaphores of the call, written one by one. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 3) 0 ∗ semVal ((c : Thread nD τ), SemLoc.dma 4) 0) := by
  rw [Pipeline.ownSems0_eq_of_list c osem0 [0, 1] (by decide) (by decide)]; rfl
/-- The two arguments the body moves rows from. -/
def H0 : Finset (Ref sig .tc) := {main_arg0, main_arg1}
/-- The two arrays that the copies read are no blocks of the call. -/
theorem H0_sub : H0 ⊆ Pipeline.restRefs sig spec0 := by decide
/-- The two arrays that the copies read, written one by one. -/
theorem hbmPts0_eq (c : Dev nD) :
    (bigSep H0 (fun b => ((c : Thread nD τ).loc b) ↦{fullShare} V m c b) : sProp 𝕄)
      = iprop((meansM.view.loc (c : Thread nD τ) ↦{fullShare} V m c main_arg0) ∗ (covsM.view.loc (c : Thread nD τ) ↦{fullShare} V m c main_arg1)) := by
  rw [BI.bigSep_eq_bigSepL_of_eq [main_arg0, main_arg1] (by decide) (by decide)]; rfl

/-- The covariance buffer is used as a whole. -/
theorem covM_set : covM.view.set = Finset.univ := (Memref.isWhole_whole _).set_eq_univ
/-- The mean buffer is used as a whole. -/
theorem meanM_set : meanM.view.set = Finset.univ := (Memref.isWhole_whole _).set_eq_univ

/-- What the body has at its disposal beside its blocks, written one by one. -/
theorem PhiD0_eq (c : Dev nD) :
    (Pipeline.ΦD osem0 spec0 H0 (V m) c : sProp 𝕄)
      = iprop(iprop((∃ f : FVec F S128x128 .f32, covM.view.loc (c : Thread nD τ) ↦[covM.view.set]{fullShare} f)
            ∗ (∃ f : FVec F S1x128 .f32, meanM.view.loc (c : Thread nD τ) ↦[meanM.view.set]{fullShare} f))
          ∗ (∃ r, prngReg c r)
          ∗ iprop(semVal ((c : Thread nD τ), SemLoc.dma 3) 0 ∗ semVal ((c : Thread nD τ), SemLoc.dma 4) 0)
          ∗ iprop((meansM.view.loc (c : Thread nD τ) ↦{fullShare} V m c main_arg0) ∗ (covsM.view.loc (c : Thread nD τ) ↦{fullShare} V m c main_arg1))) := by
  rw [Pipeline.ΦD_eq, scopedRest0_eq, ownSems00_eq, hbmPts0_eq, covM_set, meanM_set]; rfl

/-- The seed the body reads. -/
def seedOf (c : Dev nD) : BitVec 32 := (iblk m c 0 t0_0 : S1.Idx → BitVec 32) (Shape.Idx.first (by decide))
/-- The weights the body reads. -/
def weightsOf (c : Dev nD) : FVec F S8x128 .f32 := iblk m c 1 t0_0
/-- The number of the component the body picks. -/
abbrev picked (c : Dev nD) : BitVec 32 := pick (seedOf m c) (weightsOf m c)

/-- The row the body stores. -/
def rowOf (c : Dev nD) (h : k0_chk1 (picked m c)) : FVec F S1x128 .f32 :=
  outRow (seedOf m c) (weightsOf m c) (V m c main_arg0) (V m c main_arg1) h

variable (hk : ∀ c, k0_chk1 (picked m c))

/-- The region's data: what each array holds when it is entered, what the body leaves in each staging buffer. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => rowOf m c (hk c)
  Φ _ := Pipeline.ΦD osem0 spec0 H0 (V m) c
  q _ := fullShare
  owed _ := 0

/-- Each window starts with the contents of its array. -/
theorem A_eq (c : Dev nD) (w : Fin cfg0.W) : (dats m hk 0 c).A w = V m c (Pipeline.arrRef spec0 w) := by
  dsimp only [dats]
/-- The seed is unchanged by the body. -/
theorem after0 (c : Dev nD) (t : Fin cfg0.N) : (dats m hk 0 c).after 0 t = iblk m c 0 t := by dsimp only [dats]
/-- The weights are unchanged by the body. -/
theorem after1 (c : Dev nD) (t : Fin cfg0.N) : (dats m hk 0 c).after 1 t = iblk m c 1 t := by dsimp only [dats]
/-- The result of the body is the sample. -/
theorem after2 (c : Dev nD) (t : Fin cfg0.N) : (dats m hk 0 c).after 2 t = rowOf m c (hk c) := by dsimp only [dats]

/-- The body finds the seed in its first block. -/
theorem before0 (c : Dev nD) (t : Fin cfg0.N) (d) : (dats m hk 0 c).before 0 t d = iblk m c 0 t :=
  ((dats m hk 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
/-- The body finds the weights in its second block. -/
theorem before1 (c : Dev nD) (t : Fin cfg0.N) (d) : (dats m hk 0 c).before 1 t d = iblk m c 1 t :=
  ((dats m hk 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)

/-- The one step's state before the body. -/
def bodyPre (c : Dev nD) (t : Fin cfg0.N) : sProp 𝕄 :=
  iprop((dats m hk 0 c).Φ t.castSucc ∗ (dats m hk 0 c).owesAt () t.castSucc
    ∗ ((∃ d, owns (c : Thread nD τ) (st0_0 t) fullShare ((dats m hk 0 c).before 0 t d))
      ∗ (∃ d, owns (c : Thread nD τ) (st0_1 t) fullShare ((dats m hk 0 c).before 1 t d))
      ∗ (∃ d, owns (c : Thread nD τ) (st0_2 t) fullShare ((dats m hk 0 c).before 2 t d))))
/-- The one step's state after the body. -/
def bodyPost (c : Dev nD) (t : Fin cfg0.N) : sProp 𝕄 :=
  iprop((dats m hk 0 c).Φ t.succ ∗ (dats m hk 0 c).owesAt () t.succ
    ∗ (owns (c : Thread nD τ) (st0_0 t) fullShare ((dats m hk 0 c).after 0 t)
      ∗ owns (c : Thread nD τ) (st0_1 t) fullShare ((dats m hk 0 c).after 1 t)
      ∗ owns (c : Thread nD τ) (st0_2 t) fullShare ((dats m hk 0 c).after 2 t)))

/-- A row stored over the whole of its buffer is read back. -/
theorem read_stored (v : View sig .tc .vmem S1x128 .f32) (f : v.ty.Contents (Elt F)) (x : FVec F S1x128 .f32) :
    v.read (Elt F) (v.writes (Elt F) f [⟨Rect.unit (s := S1x128) ![0, 0] S1x128.size inb_S1x128_S1x128_0_0, x⟩]) = x := by
  have e : ∀ (o : Fin 2 → ℕ) (h : ∀ a, o a + S1x128.size a ≤ S1x128.size a), o = (fun _ => 0) →
      (⟨Rect.unit (s := S1x128) o S1x128.size h, x⟩ : View.Piece (Elt F) S1x128 .f32) = ⟨Rect.whole S1x128, x⟩ := by
    intro o h ho; subst ho; rfl
  rw [e _ _ off00]
  exact View.read_writes_whole v f x

/-- The body, from what the call gives it, leaves what the call expects. -/
theorem sound_body (c : Dev nD) (t : Fin cfg0.N) :
    bodyPre m hk c t ⊢ wp frame (wpE (defs₀ (F := F)) Variants.none c none) Set.univ (bodyAt0 t) (fun _ => bodyPost m hk c t) := by
  obtain rfl : t = t0_0 := fin_N0 t
  unfold bodyPre bodyPost bodyAt0
  rw [show (dats m hk 0 c).Φ t0_0.succ = (dats m hk 0 c).Φ t0_0.castSucc from rfl, after0, after1, after2]
  rw [show (dats m hk 0 c).Φ t0_0.castSucc = Pipeline.ΦD osem0 spec0 H0 (V m) c from rfl, PhiD0_eq]
  unfold Dat.owesAt Pipeline.owesWithin
  rw [show (dats m hk 0 c).owed t0_0.castSucc = 0 from rfl, show (dats m hk 0 c).owed t0_0.succ = 0 from rfl]
  unfold owns
  iintro ⟨⟨⟨HS0, HS1⟩, Hg, ⟨Hq0, Hq1⟩, ⟨Hh0, Hh1⟩⟩, ⟨%W, -, HW⟩, ⟨%d0, %f0, %e0, H0⟩, ⟨%d1, %f1, %e1, H1⟩, ⟨%d2, %f2, -, H2⟩⟩
  rw [before0] at e0
  rw [before1] at e1
  iapply (body_run c (st0_0 t0_0) (hstage0_0 0) (st0_1 t0_0) (hstage0_1 0) (st0_2 t0_0) (hstage0_2 0) f0 f1
    (V m c main_arg0) (V m c main_arg1) (weightsOf m c) (seedOf m c)
    (by rw [View.readAt_full, e0]; rfl)
    (by rw [View.readAt_full, e1]; rfl) (hk c) W _)
  isplitl [H0]; · iexact H0
  isplitl [H1]; · iexact H1
  isplitl [H2]; · iexists _; iexact H2
  isplitl [HS0]; · iexact HS0
  isplitl [HS1]; · iexact HS1
  isplitl [Hq0]; · iexact Hq0
  isplitl [Hq1]; · iexact Hq1
  isplitl [Hh0]; · iexact Hh0
  isplitl [Hh1]; · iexact Hh1
  isplitl [HW]; · iexact HW
  iintro ⟨H0, H1, ⟨%f4, H4⟩, HS0, HS1, Hq0, Hq1, Hh0, Hh1, ⟨%W', HW'⟩⟩
  isplitl [HS0 HS1 Hg Hq0 Hq1 Hh0 Hh1]
  · isplitl [HS0 HS1]
    · isplitl [HS0]; · iexact HS0
      iexact HS1
    isplitl [Hg]; · iexact Hg
    isplitl [Hq0 Hq1]
    · isplitl [Hq0]; · iexact Hq0
      iexact Hq1
    isplitl [Hh0]; · iexact Hh0
    iexact Hh1
  isplitl [HW']
  · iexists W'; isplitr; · ipureintro; exact fun _ _ => Or.inl trivial
    iexact HW'
  isplitl [H0]
  · iexists f0; isplitr; · ipureintro; exact e0
    iexact H0
  isplitl [H1]
  · iexists f1; isplitr; · ipureintro; exact e1
    iexact H1
  iexists _; isplitr
  swap; · iexact H4
  ipureintro
  exact read_stored _ f4 _

/-- The function called at a grid step is the body. -/
theorem defs₀_row (t : Fin cfg0.N) :
    defs₀ (F := F) .tc cfg0.body (cfg0.bodyArgs t (cfg0.slots t)) = bodyAt0 t := by
  unfold defs₀; rw [Defs.onTc_tc]

/-- The body meets the call's demand at every grid step. -/
theorem body_obligation (c : Dev nD) : BodyObligation (dats m hk 0 c) (defs₀ (F := F)) Variants.none () Set.univ := fun t => by
  rw [bigSep_W0, bigSep_W0, defs₀_row]
  exact triple_restated (sound_body m hk c t) rfl .rfl fun _ => .rfl

/-- The lines after the region touch neither of the arguments the body moves rows from. -/
theorem sfx_subBut : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  subst hops
  refine Pipeline.sub_tailRefsBut _ _ _ op ((List.forall_iff_forall_mem.mp hostOps1_sub) op hop) (fun k => k.elim0) ?_
  simp only [hostOps1, List.mem_cons, List.mem_nil_iff, or_false] at hop
  subst hop
  intro b hb
  simp only [H0, Finset.mem_insert, Finset.mem_singleton] at hb
  rcases hb with rfl | rfl
  · rw [show (StableHlo.reshape main_v2 main_v3 (rfl : (.f32 : EltTy) = .f32) shapeCasts_S1x128_S128 : HloOp τ sig (Elt F)).bufs = {Proc.devRef .tc main_v2, Proc.devRef .tc main_v3} from rfl]
    simp only [Finset.mem_insert, Finset.mem_singleton, not_or]
    exact ⟨StableHlo.devRef_ne_of_ne (by decide), StableHlo.devRef_ne_of_ne (by decide)⟩
  · rw [show (StableHlo.reshape main_v2 main_v3 (rfl : (.f32 : EltTy) = .f32) shapeCasts_S1x128_S128 : HloOp τ sig (Elt F)).bufs = {Proc.devRef .tc main_v2, Proc.devRef .tc main_v3} from rfl]
    simp only [Finset.mem_insert, Finset.mem_singleton, not_or]
    exact ⟨StableHlo.devRef_ne_of_ne (by decide), StableHlo.devRef_ne_of_ne (by decide)⟩

set_option maxHeartbeats 800000 in
/-- `@main` around the region. -/
theorem around (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

set_option backward.isDefEq.respectTransparency.types false in
/-- The program runs without a fault, with its result and its arguments as stated. -/
theorem run_main : θ_run defs (onTc (τ := τ) (main (F := F))) (s₀ m ρ)
    (fun r => Pipeline.FramePost cfgs (dats m hk) 0 (Pipeline.afterTail₀ cfgs (dats m hk) 0 (V0 m) [hostOps1]) r ∧ r.2.sem = fun _ => 0) :=
  Pipeline.θ_run_frame_dma_around (Q' := _) cfgs (dats m hk) (0 : Fin 1) launch0 osem0 defs₀ Variants.none ownSemFacts0 H0 H0_sub m ρ main
    (hbody := fun c => (body_obligation m hk c).loose) (hshare := fun c => (dats m hk 0 c).share_full fun _ => rfl)
    (howed := fun _ _ => rfl) (V₀ := V0 m) (opss := [hostOps1]) (hsub := sfx_subBut) (hfresh := sfx_fresh) (hkeep := sfx_keeps)
    (hmain := around m Variants.none) (hA := A_eq m hk)
    (hin := fun _ => .rfl) (hout := fun _ => .rfl)

/-- A buffer that is no array of the region and not the result ends as the region found it. -/
theorem kept (c : Dev nD) (b : Ref sig .tc) (hb : b ≠ main_v3) (hw : ∀ w, Pipeline.arrRef spec0 w ≠ b) :
    Pipeline.afterTail₀ cfgs (dats m hk) 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.Forall, StableHlo.reshape_writes, Finset.mem_singleton]
      exact StableHlo.devRef_ne_of_ne hb)),
    Pipeline.withArrays_of_ne _ c (V0 m c) _ b hw]

/-- The region leaves the body's row in its output array. -/
theorem final2 (c : Dev nD) : (dats m hk 0 c).arrAt 2 cfg0.N = rowOf m c (hk c) := by
  refine (dats m hk 0 c).arrAt_eq_of_after_last 2 t0_0 (by decide +kernel) _ fun j => ?_
  rw [after2]
  rfl

/-- The result: the body's row, as a vector. -/
def resultOf (c : Dev nD) (h : k0_chk1 (picked m c)) : FVec F S128 .f32 :=
  shapeCast S128 (rowOf m c h) shapeCasts_S1x128_S128

/-- The result array ends with the sample. -/
theorem result_eq (c : Dev nD) :
    Pipeline.afterTail₀ cfgs (dats m hk) 0 (V0 m) [hostOps1] c main_v3 = resultOf m c (hk c) := by
  unfold Pipeline.afterTail₀ resultOf
  rw [← final2 m hk c]
  rw [show ([hostOps1].flatten : List (HloOp τ sig (Elt F))) = hostOps1 from rfl]
  after_reads_simp
  rw [show Pipeline.withArrays (cfgs 0).spec c (V0 m c) (fun w => (dats m hk 0 c).arrAt w (cfgs 0).N) (Proc.devRef .tc main_v2)
    = (dats m hk 0 c).arrAt 2 cfg0.N from
      Pipeline.withArrays_arr spec0 launch0.win.arr_inj c (V0 m c) (fun w => (dats m hk 0 c).arrAt w (cfgs 0).N) 2]
  rfl

/-- The seed the body reads is the argument's. -/
theorem seedOf_eq (c : Dev nD) : seedOf m c = (m (c, Proc.devRef .tc main_arg3) : S_.Idx → BitVec 32) (fun a => a.elim0) := by
  have e : (V m c main_v0 : S1.Idx → BitVec 32) = shapeCast S1 (m (c, Proc.devRef .tc main_arg3) : S_.Idx → BitVec 32) shapeCasts_S_S1 := by
    show StableHlo.after hostOps0 (fun b => m (c, b)) (Proc.devRef .tc main_v0) = _
    after_reads_simp
    rfl
  have e' : seedOf m c = (V m c main_v0 : S1.Idx → BitVec 32) (((cfg0.win 0).blk t0_0).view.emb (Shape.Idx.first (s := S1) (by decide))) := rfl
  rw [e', e]
  unfold shapeCast
  exact congrArg (m (c, Proc.devRef .tc main_arg3) : S_.Idx → BitVec 32) (funext fun a : Fin 0 => a.elim0)

/-- The weights the body reads are the argument's, in eight rows. -/
theorem weightsOf_eq (c : Dev nD) : weightsOf m c = shapeCast S8x128 (m (c, Proc.devRef .tc main_arg2) : FVec F S1024 .f32) shapeCasts_S1024_S8x128 := by
  have e : (V m c main_v1 : FVec F S8x128 .f32) = shapeCast S8x128 (m (c, Proc.devRef .tc main_arg2) : FVec F S1024 .f32) shapeCasts_S1024_S8x128 := by
    show StableHlo.after hostOps0 (fun b => m (c, b)) (Proc.devRef .tc main_v1) = _
    after_reads_simp
    rfl
  rw [← e]
  funext y
  refine congrArg (V m c main_v1) (funext fun a => Fin.ext ?_)
  blk_simp
  rw [(by decide +kernel : ∀ a, win0_1.index t0_0 a = 0) a, Nat.zero_mul, Nat.zero_add]

/-- The kernel's run. -/
theorem run : θ_run defs (onTc (τ := τ) (main (F := F))) ⟨m, fun _ => 0, ρ⟩ (fun r => (∀ c : Dev nD,
      r.2.mem ((c.tc : Thread nD τ).loc main_v3) = resultOf m c (hk c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
      ⟨((h.1 c).2 main_v3 (Pipeline.mem_restRefs_of main_v3 (by decide) (by decide))).trans (result_eq m hk c),
       ((h.1 c).2 main_arg0 (Pipeline.mem_restRefs_of main_arg0 (by decide) (by decide))).trans ((kept m hk c main_arg0 (by decide) (by decide)).trans (V_main_arg0 m c)),
       ((h.1 c).2 main_arg1 (Pipeline.mem_restRefs_of main_arg1 (by decide) (by decide))).trans ((kept m hk c main_arg1 (by decide) (by decide)).trans (V_main_arg1 m c)),
       ((h.1 c).2 main_arg2 (Pipeline.mem_restRefs_of main_arg2 (by decide) (by decide))).trans ((kept m hk c main_arg2 (by decide) (by decide)).trans (V_main_arg2 m c)),
       ((h.1 c).2 main_arg3 (Pipeline.mem_restRefs_of main_arg3 (by decide) (by decide))).trans ((kept m hk c main_arg3 (by decide) (by decide)).trans (V_main_arg3 m c)),
       ((h.1 c).2 main_arg4 (Pipeline.mem_restRefs_of main_arg4 (by decide) (by decide))).trans ((kept m hk c main_arg4 (by decide) (by decide)).trans (V_main_arg4 m c))⟩, h.2⟩)
    (run_main m ρ hk)

end Cert.KernelIdeal.Hand

end
-- ==== Proof.Count.lean ====
/-
  Running sums of 1024 extended reals and the number of them below a threshold: the arithmetic of drawing a component by its
  cumulative weight, free of any program.
-/
module

public import Idealize.ShloMosaic.PureOps.Ideal
public import Idealize.ShloMosaic.Lib.WordSum
public import Idealize.ShloMosaic.Lib.IdealHost

@[expose] public section

noncomputable section

namespace Cert.Count

open Idealize.ShloMosaic

/-- The sum of the first `n + 1` of the 1024 numbers. -/
def cum (p : Fin 1024 → EReal) (n : Fin 1024) : EReal := ∑ m : Fin 1024, if m ≤ n then p m else 0

/-- Each number over the sum of all. -/
def share (w : Fin 1024 → EReal) (n : Fin 1024) : EReal := Ideal.div (w n) (∑ m, w m)

/-- How many of the numbers lie below `r`. -/
def below (x : Fin 1024 → EReal) (r : EReal) : ℕ := (Finset.univ.filter (fun n => x n < r)).card

/-- The component drawn from weights `w` with the uniform `u`: how many running sums of shares lie below the last of them times `1 - u`. -/
def draw (u : EReal) (w : Fin 1024 → EReal) : ℕ := below (cum (share w)) (cum (share w) 1023 * (1 - u))

/-- Shares of nonnegative weights are all nonnegative, or (when the weights are all zero) all minus infinity. -/
theorem share_cases (w : Fin 1024 → EReal) (h : ∀ n, 0 ≤ w n) : (∀ n, 0 ≤ share w n) ∨ (∀ n, share w n = ⊥) := by
  by_cases t : (∑ m, w m) = 0
  · right
    intro n
    have z : w n = 0 := (Finset.sum_eq_zero_iff_of_nonneg (fun i _ => h i)).1 t n (Finset.mem_univ n)
    simp [share, Ideal.div, t, z]
  · left
    intro n
    have tp : 0 ≤ ∑ m, w m := Finset.sum_nonneg (fun i _ => h i)
    simp only [share, Ideal.div, if_neg t]
    exact mul_nonneg (h n) (EReal.inv_nonneg_of_nonneg tp)

/-- A sum with one term minus infinity is minus infinity. -/
theorem sum_bot_of {ι : Type} (s : Finset ι) (f : ι → EReal) (i : ι) (hi : i ∈ s) (hf : f i = ⊥) : ∑ j ∈ s, f j = ⊥ := by
  classical
  rw [← Finset.add_sum_erase s f hi, hf, EReal.bot_add]

/-- Running sums of such shares are bounded by the last, which is nonnegative or minus infinity. -/
theorem cum_le (w : Fin 1024 → EReal) (h : ∀ n, 0 ≤ w n) :
    (∀ n, cum (share w) n ≤ cum (share w) 1023) ∧ (0 ≤ cum (share w) 1023 ∨ cum (share w) 1023 = ⊥) := by
  rcases share_cases w h with p | p
  · constructor
    · intro n
      unfold cum
      refine Finset.sum_le_sum fun m _ => ?_
      have : m ≤ (1023 : Fin 1024) := by
        rw [Fin.le_def]; have := m.isLt; show m.val ≤ 1023; omega
      rw [if_pos this]
      split
      · exact le_refl _
      · exact p m
    · left
      unfold cum
      refine Finset.sum_nonneg fun m _ => ?_
      split
      · exact p m
      · exact le_refl _
  · have b : ∀ n, cum (share w) n = ⊥ := by
      intro n
      unfold cum
      exact sum_bot_of _ _ n (Finset.mem_univ n) (by rw [if_pos (le_refl n), p n])
    exact ⟨fun n => by rw [b n]; exact bot_le, Or.inr (b _)⟩

/-- Fewer than 1024 running sums lie below the threshold when `0 < 1 - u ≤ 1`. -/
theorem draw_lt (u : EReal) (w : Fin 1024 → EReal) (h : ∀ n, 0 ≤ w n) (u0 : 0 < 1 - u) (u1 : 1 - u ≤ 1) : draw u w < 1024 := by
  have k : ¬ cum (share w) 1023 < cum (share w) 1023 * (1 - u) := by
    rw [not_lt]
    rcases (cum_le w h).2 with p | p
    · calc cum (share w) 1023 * (1 - u) ≤ cum (share w) 1023 * 1 := mul_le_mul_of_nonneg_left u1 p
        _ = _ := mul_one _
    · rw [p, EReal.bot_mul_of_pos u0]
  have : draw u w < (Finset.univ : Finset (Fin 1024)).card := by
    unfold draw below
    refine Finset.card_lt_card ⟨Finset.filter_subset _ _, fun s => ?_⟩
    exact k (Finset.mem_filter.1 (s (Finset.mem_univ 1023))).2
  simpa using this

/-- Adding up a one for each index at which `P` holds counts them, as a word. -/
theorem fold_count {ι : Type} (s : Finset ι) (P : ι → Prop) [DecidablePred P] :
    Finset.fold IntOp.addi (0#32) (fun x => BitVec.setWidth 32 (BitVec.ofBool (decide (P x)))) s
      = BitVec.ofNat 32 (s.filter P).card := by
  classical
  induction s using Finset.induction with
  | empty => rfl
  | insert a s ha ih =>
    rw [Finset.fold_insert ha, ih, Finset.filter_insert]
    by_cases p : P a
    · rw [if_pos p, Finset.card_insert_of_notMem (fun q => ha (Finset.mem_filter.1 q).1)]
      simp only [p, decide_true]
      show (1#32 : BitVec 32) + BitVec.ofNat 32 _ = _
      rw [Nat.add_comm, BitVec.ofNat_add]
    · rw [if_neg p]
      simp only [p, decide_false]
      show (0#32 : BitVec 32) + BitVec.ofNat 32 _ = _
      rw [BitVec.zero_add]

/-- The bit pattern `0xFF800000` denotes minus infinity. -/
theorem neg_inf : Ideal.ofBits FTy.f32 0xFF800000#32 = ⊥ := by simp [Ideal.ofBits, Ideal.ieee]

/-- The largest of the running sums is the last. -/
theorem fold_max_eq {ι : Type} (s : Finset ι) (f : ι → EReal) (i : ι) (hi : i ∈ s) (h : ∀ j ∈ s, f j ≤ f i) :
    Finset.fold max (Ideal.ofBits FTy.f32 0xFF800000#32) f s = f i := by
  rw [neg_inf]
  apply le_antisymm
  · exact Finset.fold_max_le _ |>.2 ⟨bot_le, h⟩
  · exact Finset.le_fold_max _ |>.2 (Or.inr ⟨i, hi, le_refl _⟩)

/-- The number of a row and a lane among 1024. -/
def at1024 (x : Fin 8 × Fin 128) : Fin 1024 := ⟨128 * x.1.val + x.2.val, by have := x.1.isLt; have := x.2.isLt; omega⟩

/-- Rows and lanes number the 1024. -/
def grid : Fin 8 × Fin 128 ≃ Fin 1024 where
  toFun := at1024
  invFun n := (⟨n.val / 128, by have := n.isLt; omega⟩, ⟨n.val % 128, by omega⟩)
  left_inv x := by
    rcases x with ⟨⟨a, ha⟩, ⟨b, hb⟩⟩
    simp only [at1024, Prod.mk.injEq, Fin.mk.injEq]
    omega
  right_inv n := by
    apply Fin.ext
    simp only [at1024]
    omega

/-- A sum over 1024 numbers is the sum over eight rows of 128. -/
theorem sum_grid (f : Fin 1024 → EReal) : ∑ n, f n = ∑ i : Fin 8, ∑ j : Fin 128, f (at1024 (i, j)) := by
  rw [← grid.sum_comp f, Fintype.sum_prod_type]
  rfl

/-- As many of the 1024 numbers have a property as positions in eight rows of 128 do. -/
theorem card_grid (P : Fin 1024 → Prop) [DecidablePred P] :
    (Finset.univ.filter (fun x : Fin 8 × Fin 128 => P (at1024 x))).card = (Finset.univ.filter P).card := by
  refine Finset.card_bij (fun x _ => at1024 x) ?_ ?_ ?_
  · intro x hx; simpa using hx
  · intro x _ y _ e; exact grid.injective e
  · intro n hn; exact ⟨grid.symm n, by
      rw [Finset.mem_filter]; exact ⟨Finset.mem_univ _, (show P (grid (grid.symm n)) by simpa using hn)⟩, grid.apply_symm_apply n⟩

/-- A running sum by rows: the whole rows before, and the lanes of this one up to the index. -/
theorem cum_grid (p : Fin 1024 → EReal) (i : Fin 8) (j : Fin 128) :
    cum p (at1024 (i, j)) = ∑ a : Fin 8, if a < i then ∑ b : Fin 128, p (at1024 (a, b))
      else if a = i then ∑ b : Fin 128, (if b ≤ j then p (at1024 (a, b)) else 0) else 0 := by
  unfold cum
  rw [sum_grid]
  refine Finset.sum_congr rfl fun a _ => ?_
  by_cases l : a < i
  · rw [if_pos l]
    refine Finset.sum_congr rfl fun b _ => if_pos ?_
    rw [Fin.lt_def] at l; rw [Fin.le_def]; simp only [at1024]
    have := b.isLt; omega
  · rw [if_neg l]
    by_cases e : a = i
    · rw [if_pos e]
      refine Finset.sum_congr rfl fun b _ => ?_
      subst e
      refine if_congr ?_ rfl rfl
      rw [Fin.le_def, Fin.le_def]; simp only [at1024]; omega
    · rw [if_neg e]
      refine Finset.sum_eq_zero fun b _ => if_neg ?_
      rw [Fin.lt_def] at l; rw [Fin.ext_iff] at e; rw [Fin.le_def]; simp only [at1024]
      have := b.isLt; have := j.isLt; omega

/-- The words the generator draws from, shifted down nine places, scaled: between zero and one, one excluded. -/
theorem unit_bounds (b : BitVec 32) (s : EReal) (hs : s = (((2 : ℝ) ^ 23)⁻¹ : ℝ)) :
    (0 : EReal) < (1 : EReal) - ((((b >>> 9).toInt : ℝ) : EReal) * s) ∧ (1 : EReal) - ((((b >>> 9).toInt : ℝ) : EReal) * s) ≤ 1 := by
  have hb : (b >>> 9).toNat < 2 ^ 23 := by
    rw [BitVec.toNat_ushiftRight, Nat.shiftRight_eq_div_pow]; have := b.isLt; omega
  have hi : (b >>> 9).toInt = ((b >>> 9).toNat : ℤ) := by
    rw [BitVec.toInt_eq_toNat_cond, if_pos (by omega)]
  rw [hi, hs]
  generalize (b >>> 9).toNat = n at hb
  have hn : (n : ℝ) < 2 ^ 23 := by exact_mod_cast hb
  have e : (1 : EReal) - ((((n : ℤ) : ℝ) : EReal) * (((2 : ℝ) ^ 23)⁻¹ : ℝ)) = ((1 - (n : ℝ) * ((2 : ℝ) ^ 23)⁻¹ : ℝ) : EReal) := by
    push_cast
    rfl
  rw [e]
  have h1 : (n : ℝ) * ((2 : ℝ) ^ 23)⁻¹ < 1 := by
    rw [← div_eq_mul_inv, div_lt_one (by positivity)]; exact hn
  have h0 : (0 : ℝ) ≤ (n : ℝ) * ((2 : ℝ) ^ 23)⁻¹ := by positivity
  constructor
  · rw [EReal.coe_pos]; linarith
  · have : (1 - (n : ℝ) * ((2 : ℝ) ^ 23)⁻¹ : ℝ) ≤ 1 := by linarith
    exact_mod_cast this

end Cert.Count

end
-- ==== Proof.Index.lean ====
/-
  The component the kernel picks, over the extended reals: the cumulative weights it forms in eight rows of 128 are the running
  sums of the weights over their total, and the number of those below the drawn threshold is less than 1024.
-/
module

public import proofs.«01_k».proof.Proof.Run
public import proofs.«01_k».proof.Proof.Count
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe
open Cert.Count

section
variable {F : FTy → Type} [FloatOps F]

/-- The sums of the rows before each row: three doublings, then a move down by one. -/
def cdfCol (x : FVec F S8x1 .f32) : FVec F S8x1 .f32 :=
  let z : ∀ s, FVec F s .f32 := fun s => broadcast s (Scalar.ofBits .f32 0x00000000#32)
  let a := addf x (concatenate S8x1 0 [⟨S1x1, z S1x1⟩, ⟨S7x1, extractStridedSlice S7x1 ![0, 0] x slices_S8x1_o0_0_S7x1⟩] concatenates_S1x1_S7x1_S8x1_d0)
  let b := addf a (concatenate S8x1 0 [⟨S2x1, z S2x1⟩, ⟨S6x1, extractStridedSlice S6x1 ![0, 0] a slices_S8x1_o0_0_S6x1⟩] concatenates_S2x1_S6x1_S8x1_d0)
  let c := addf b (concatenate S8x1 0 [⟨S4x1, z S4x1⟩, ⟨S4x1, extractStridedSlice S4x1 ![0, 0] b slices_S8x1_o0_0_S4x1⟩] concatenates_S4x1_S4x1_S8x1_d0)
  concatenate S8x1 0 [⟨S1x1, z S1x1⟩, ⟨S7x1, extractStridedSlice S7x1 ![0, 0] c slices_S8x1_o0_0_S7x1⟩] concatenates_S1x1_S7x1_S8x1_d0

/-- The cumulative weights. -/
def cdf (w : FVec F S8x128 .f32) : FVec F S8x128 .f32 :=
  addf (broadcastTo S8x128 (cdfCol (k0_pay158 w)) broadcasts_S8x1_S8x128) (k0_pay157 w)

/-- The threshold: the largest cumulative weight times one minus the uniform. -/
def thresh (u : F .f32) (x : FVec F S8x128 .f32) : F .f32 :=
  Scalar.mulf (extractAt ![0, 0, 0] (shapeCast S1x1x1 (multiReduction .maximumf [1, 2] S1 (shapeCast S1x8x128 x shapeCasts_S8x128_S1x8x128) 0xFF800000#32 reduces_S1x8x128_S1 (.inl rfl) rfl) shapeCasts_S1_S1x1x1) inpos_S1x1x1_p0_0_0)
    (Scalar.subf (Scalar.ofBits .f32 0x3F800000#32) u)

/-- How many cumulative weights lie below a threshold. -/
def countV (r : F .f32) (x : FVec F S8x128 .f32) : BitVec 32 :=
  extractAt ![0, 0, 0] (shapeCast S1x1x1 (multiReductionI .add [1, 2] S1 (shapeCast S1x8x128 (extui 32 (cmpf .olt x (broadcast S8x128 r)) natLt_1_32) shapeCasts_S8x128_S1x8x128) 0#32 reduces_S1x8x128_S1 rfl) shapeCasts_S1_S1x1x1) inpos_S1x1x1_p0_0_0

/-- The index is the number of cumulative weights below the threshold. -/
theorem index_eq (u : F .f32) (w : FVec F S8x128 .f32) : index u w = countV (thresh u (cdf w)) (cdf w) := rfl

end

/-- The weights of the eight rows numbered through. -/
def flat (w : FVec Ideal S8x128 .f32) (n : Fin 1024) : EReal := w (ix2 (grid.symm n).1 (grid.symm n).2)

/-- The list of weights has at a position what the grid of weights has there. -/
theorem flat_at (w : FVec Ideal S8x128 .f32) (i : Fin 8) (j : Fin 128) : flat w (at1024 (i, j)) = w (ix2 i j) := by
  show w (ix2 (grid.symm (grid (i, j))).1 (grid.symm (grid (i, j))).2) = _
  rw [Equiv.symm_apply_apply]

/-- A share is the weight over the sum of the whole grid. -/
theorem share_flat (w : FVec Ideal S8x128 .f32) (i : Fin 8) (j : Fin 128) :
    share (flat w) (at1024 (i, j)) = Ideal.div (w (ix2 i j)) (∑ x : Fin 8, ∑ y : Fin 128, w (ix2 x y)) := by
  unfold share
  rw [sum_grid]
  simp only [flat_at]

/-- The comparison's bit as a number. -/
theorem le_bit (x j : Fin 128) : (FloatOps.sitofp (F := Ideal) FTy.f32
    (BitVec.setWidth 32 (IntOp.cmpi CmpIPredicate.sle (BitVec.ofNat 32 x.val) (BitVec.ofNat 32 j.val))) : EReal) = if x ≤ j then 1 else 0 := by
  have h : IntOp.cmpi CmpIPredicate.sle (BitVec.ofNat 32 x.val) (BitVec.ofNat 32 j.val) = BitVec.ofBool (decide (x ≤ j)) := by
    revert x j; decide +kernel
  rw [h]
  by_cases p : x ≤ j
  · simp only [p, decide_true, if_true]
    show (((BitVec.setWidth 32 (BitVec.ofBool true)).toInt : ℝ) : EReal) = 1
    simp
  · simp only [p, decide_false, if_false]
    show (((BitVec.setWidth 32 (BitVec.ofBool false)).toInt : ℝ) : EReal) = 0
    simp

/-- The running sums within a row. -/
theorem lanes_apply (w : FVec Ideal S8x128 .f32) (i : Fin 8) (j : Fin 128) :
    k0_pay157 (F := Ideal) w (ix2 i j) = ∑ b : Fin 128, (if b ≤ j then share (flat w) (at1024 (i, b)) else 0) := by
  pointwise [k0_pay157]
  refine Finset.sum_congr rfl fun b _ => ?_
  rw [le_bit, share_flat]
  split
  · rw [mul_one]
  · rw [mul_zero]

/-- The total of a row is the sum of the shares in it. -/
theorem row_apply (w : FVec Ideal S8x128 .f32) (i : Fin 8) :
    k0_pay158 (F := Ideal) w (ix2 i 0) = ∑ b : Fin 128, share (flat w) (at1024 (i, b)) := by
  have h : k0_pay158 (F := Ideal) w (ix2 i 0) = k0_pay157 (F := Ideal) w (ix2 i 127) := by
    pointwise [k0_pay158]
  rw [h, lanes_apply]
  refine Finset.sum_congr rfl fun b _ => if_pos ?_
  rw [Fin.le_def]; have := b.isLt; show b.val ≤ 127; omega

/-- The sums of the rows before. -/
theorem cdfCol_apply (x : FVec Ideal S8x1 .f32) (i : Fin 8) :
    cdfCol x (ix2 i 0) = ∑ a : Fin 8, if a < i then x (ix2 a 0) else 0 := by
  obtain ⟨g, hg⟩ : ∃ g : Fin 8 → EReal, ∀ a, x (ix2 a 0) = g a := ⟨_, fun _ => rfl⟩
  rw [Fin.sum_univ_eight]
  fin_cases i <;> pointwise [cdfCol] <;> simp [hg] <;> abel

/-- The grid of cumulative weights holds the plain cumulative sums of the shares. -/
theorem cdf_apply (w : FVec Ideal S8x128 .f32) (i : Fin 8) (j : Fin 128) :
    cdf w (ix2 i j) = cum (share (flat w)) (at1024 (i, j)) := by
  have h : cdf w (ix2 i j) = cdfCol (k0_pay158 (F := Ideal) w) (ix2 i 0) + k0_pay157 (F := Ideal) w (ix2 i j) := by
    pointwise [cdf]
  rw [h, cdfCol_apply, lanes_apply, cum_grid]
  simp only [row_apply]
  have d : ∀ a : Fin 8, (if a < i then ∑ b : Fin 128, share (flat w) (at1024 (a, b))
      else if a = i then ∑ b : Fin 128, (if b ≤ j then share (flat w) (at1024 (a, b)) else 0) else 0)
      = (if a < i then ∑ b : Fin 128, share (flat w) (at1024 (a, b)) else 0)
        + (if a = i then ∑ b : Fin 128, (if b ≤ j then share (flat w) (at1024 (a, b)) else 0) else 0) := by
    intro a
    by_cases l : a < i
    · rw [if_pos l, if_pos l, if_neg (ne_of_lt l), add_zero]
    · rw [if_neg l, if_neg l, zero_add]
  rw [Finset.sum_congr rfl (fun a _ => d a), Finset.sum_add_distrib, Finset.sum_ite_eq' Finset.univ i, if_pos (Finset.mem_univ i)]

/-- The count as a word. -/
theorem count_apply (r : EReal) (x : FVec Ideal S8x128 .f32) : countV (F := Ideal) r x
    = BitVec.ofNat 32 (Finset.univ.filter (fun y : Fin 8 × Fin 128 => x (ix2 y.1 y.2) < r)).card := by
  have h : countV (F := Ideal) r x = Finset.fold IntOp.addi 0#32 (fun y : Fin 8 × Fin 128 => BitVec.setWidth 32 (BitVec.ofBool (decide (x (ix2 y.1 y.2) < r)))) Finset.univ := by
    pointwise [countV]
  rw [h]
  exact fold_count Finset.univ (fun y : Fin 8 × Fin 128 => x (ix2 y.1 y.2) < r)

/-- For weights that are not negative the index is the draw, as a word. -/
theorem index_apply (u : EReal) (w : FVec Ideal S8x128 .f32) (h : ∀ n, 0 ≤ flat w n) :
    index (F := Ideal) u w = BitVec.ofNat 32 (draw u (flat w)) := by
  rw [index_eq]
  have t : thresh (F := Ideal) u (cdf w) = cum (share (flat w)) 1023 * (1 - u) := by
    have e : thresh (F := Ideal) u (cdf w) = Finset.fold max (Ideal.ofBits FTy.f32 4286578688#32) (fun x : Fin 8 × Fin 128 => cdf w (ix2 x.1 x.2)) Finset.univ * (1 - u) := by
      pointwise [thresh]
    rw [e]
    congr 1
    simp only [cdf_apply]
    rw [fold_max_eq _ _ ((7 : Fin 8), (127 : Fin 128)) (Finset.mem_univ _)]
    · rfl
    · intro x _
      exact (cum_le _ h).1 _
  rw [t]
  rw [count_apply]
  unfold draw Count.below
  generalize cum (share (flat w)) 1023 * (1 - u) = r
  simp only [cdf_apply]
  rw [← card_grid (fun n => cum (share (flat w)) n < r)]

/-- The uniform the component is drawn with. -/
theorem unit_apply (b : BitVec 32) : 0 < 1 - unitS (F := Ideal) b ∧ 1 - unitS (F := Ideal) b ≤ 1 := by
  have e : unitS (F := Ideal) b = (((b >>> 9).toInt : ℝ) : EReal) * Ideal.ofBits FTy.f32 872415232#32 := by
    pointwise [unitS]
    congr 3
  rw [e]
  refine unit_bounds b _ ?_
  simp [Ideal.ofBits, Ideal.ieee]
  rw [← EReal.coe_mul]
  norm_num

/-- The kernel's index is the draw by the uniform number of the seed. -/
theorem pick_apply (s : BitVec 32) (w : FVec Ideal S8x128 .f32) (h : ∀ n, 0 ≤ flat w n) :
    pick (F := Ideal) s w = BitVec.ofNat 32 (draw (unitS (F := Ideal) (wordI s)) (flat w)) := index_apply _ w h

/-- The component's number is below 1024. -/
theorem pick_lt (s : BitVec 32) (w : FVec Ideal S8x128 .f32) (h : ∀ n, 0 ≤ flat w n) : (pick (F := Ideal) s w).toNat < 1024 := by
  rw [pick_apply s w h]
  have := draw_lt _ (flat w) h (unit_apply (wordI s)).1 (unit_apply (wordI s)).2
  rw [BitVec.toNat_ofNat, Nat.mod_eq_of_lt (by omega)]
  exact this

/-- Its mean and its covariance can be read. -/
theorem chk_of_lt (i : BitVec 32) (h : i.toNat < 1024) : k0_chk1 i := by
  unfold k0_chk1
  constructor
  · intro a
    fin_cases a <;> simp [k0_off1] <;> omega
  · intro a
    fin_cases a <;> simp [k0_off2] <;> omega

end Cert.KernelIdeal.Hand

end
-- ==== Proof.Pre.lean ====
/-
  What the assumption on the arguments says, element by element.
-/
module

public import proofs.«01_k».proof.Pre_positive_definite
public import Idealize.ShloMosaic.Lib.Pointwise

@[expose] public section

set_option maxRecDepth 16384

noncomputable section

namespace Cert.Pre_positive_definite.Hand

open Cert.Pre_positive_definite
open Idealize.ShloMosaic

/-- The side conditions of the assumption's own operations. -/
instance facts : Facts where
  bcast_S_S1024 := by decide
  bcast_S_S1024x128x128 := by decide
  dot_S1024x128x128_S1024x128x128_S1024x128x128_2_2_1_1_0_0_wf := by decide

variable (a0 : FVec Ideal S1024x128 .f32) (a1 : FVec Ideal S1024x128x128 .f32) (a2 : FVec Ideal S1024 .f32) (a3 : IVec S_ 32)
  (a4 : FVec Ideal S1024x128x128 .f32)

/-- A set bit's proposition holds. -/
theorem of_bit {p : Prop} [Decidable p] (e : BitVec.ofBool (decide p) = 1#1) : p := by
  by_cases q : p
  · exact q
  · rw [decide_eq_false q] at e
    exact absurd e (by decide)

/-- No weight is negative. -/
theorem weights (h : (fn (F := Ideal) a0 a1 a2 a3 a4).1 = fun _ => 1#1) (n : Fin 1024) : (0 : EReal) ≤ a2 (ix1 n) := by
  have e := congrFun h (ix1 n)
  pointwise [fn] at e
  exact of_bit e

/-- The factors are finite. -/
theorem finite (h : (fn (F := Ideal) a0 a1 a2 a3 a4).2.1 = fun _ => 1#1) (n : Fin 1024) (i j : Fin 128) :
    a4 (ix3 n i j) ≠ ⊤ ∧ a4 (ix3 n i j) ≠ ⊥ := by
  have e := congrFun h (ix3 n i j)
  pointwise [fn] at e
  have q := of_bit e
  rw [show Ideal.ofBits FTy.f32 2139095040#32 = (⊤ : EReal) by simp [Ideal.ofBits, Ideal.ieee]] at q
  constructor
  · intro t
    rw [t] at q
    exact absurd q (by simp [FloatOps.absf])
  · intro t
    rw [t] at q
    exact absurd q (by simp [FloatOps.absf])

/-- The factors are lower triangular. -/
theorem lower (h : (fn (F := Ideal) a0 a1 a2 a3 a4).2.2.1 = fun _ => 1#1) (n : Fin 1024) (i j : Fin 128) (l : i < j) :
    a4 (ix3 n i j) = (0 : EReal) := by
  have e := congrFun h (ix3 n i j)
  pointwise [fn] at e
  rw [show IntOp.cmpi CmpIPredicate.sge (BitVec.ofNat 32 i.val) (BitVec.ofNat 32 j.val) = 0#1 by
    have : ∀ i j : Fin 128, i < j → IntOp.cmpi CmpIPredicate.sge (BitVec.ofNat 32 i.val) (BitVec.ofNat 32 j.val) = 0#1 := by decide +kernel
    exact this i j l] at e
  exact of_bit ((BitVec.zero_or).symm.trans e)

/-- The factors' diagonals are positive. -/
theorem diagonal (h : (fn (F := Ideal) a0 a1 a2 a3 a4).2.2.2.1 = fun _ => 1#1) (n : Fin 1024) (i : Fin 128) :
    (0 : EReal) < a4 (ix3 n i i) := by
  have e := congrFun h (ix3 n i i)
  pointwise [fn] at e
  rw [show IntOp.cmpi CmpIPredicate.ne (BitVec.ofNat 32 i.val) (BitVec.ofNat 32 i.val) = 0#1 by simp [IntOp.cmpi]] at e
  exact of_bit ((BitVec.zero_or).symm.trans e)

/-- The covariances are the factors times their transposes. -/
theorem product (h : (fn (F := Ideal) a0 a1 a2 a3 a4).2.2.2.2 = fun _ => 1#1) (n : Fin 1024) (i j : Fin 128) :
    a1 (ix3 n i j) = ∑ k : Fin 128, a4 (ix3 n i k) * a4 (ix3 n j k) := by
  have e := congrFun h (ix3 n i j)
  pointwise [fn] at e
  exact of_bit e

end Cert.Pre_positive_definite.Hand

end
-- ==== Proof.Kernel.lean ====
/-
  The kernel's run under the assumption on the arguments, over the extended reals.
-/
module

public import proofs.«01_k».proof.Proof.Index
public import proofs.«01_k».proof.Proof.Pre

@[expose] public section

set_option maxRecDepth 16384

noncomputable section

namespace Cert.KernelIdeal.Hand

open Cert.KernelIdeal Cert.KernelIdeal.Gen
open Idealize.ShloMosaic Idealize.ShloMosaic.TcCoe
open Cert.Count

variable (m : (ℓ : Loc nD τ sig) → Buf (Elt Ideal) ℓ)

/-- The weights among the arguments. -/
def argWeights (c : Dev nD) (n : Fin 1024) : EReal := (m ((c.tc : Thread nD τ).loc main_arg2) : FVec Ideal S1024 .f32) (ix1 n)

/-- The kernel's eight rows of weights are the 1024. -/
theorem flat_weights (c : Dev nD) : flat (weightsOf m c) = argWeights m c := by
  funext n
  obtain ⟨x, rfl⟩ := grid.surjective n
  rcases x with ⟨i, j⟩
  show flat _ (at1024 (i, j)) = _
  rw [flat_at, weightsOf_eq]
  pointwise
  refine congrArg (argWeights m c) (Fin.ext ?_)
  show i.val * 128 + j.val = 128 * i.val + j.val
  omega

/-- With no weight negative, the picked component is one of the 1024. -/
theorem picked_lt (h : ∀ c n, 0 ≤ argWeights m c n) (c : Dev nD) : (picked (F := Ideal) m c).toNat < 1024 :=
  pick_lt _ _ (by rw [flat_weights]; exact h c)

/-- For weights that are not negative the index is in range on every device. -/
theorem picked_chk (h : ∀ c n, 0 ≤ argWeights m c n) (c : Dev nD) : k0_chk1 (picked (F := Ideal) m c) := chk_of_lt _ (picked_lt m h c)

/-- Its number is the draw's. -/
theorem picked_eq (h : ∀ c n, 0 ≤ argWeights m c n) (c : Dev nD) :
    (picked (F := Ideal) m c) = BitVec.ofNat 32 (draw (unitS (F := Ideal) (wordI (seedOf m c))) (argWeights m c)) := by
  rw [← flat_weights]
  exact pick_apply _ _ (by rw [flat_weights]; exact h c)

end Cert.KernelIdeal.Hand

end
-- ==== Proof.Value.lean ====
/-
  The sample the kernel leaves, over the extended reals: with the picked covariance the product of a lower triangular matrix
  with its transpose, the picked mean plus that matrix's product with the normals.
-/
module

public import proofs.«01_k».proof.Proof.Step
public import proofs.«01_k».proof.Proof.Kernel

@[expose] public section

set_option maxRecDepth 16384

noncomputable section

namespace Cert.KernelIdeal.Hand

open Cert.KernelIdeal Cert.KernelIdeal.Gen
open Idealize.ShloMosaic Idealize.ShloMosaic.TcCoe
open Cert.Chol Cert.Count

/-- A panel number is below eight. -/
theorem trips_le (k : Fin k0_t1_loop.trips) : k.val < 8 := Nat.lt_of_lt_of_le k.isLt k0_t1_abs.2.1
/-- There are eight panels. -/
theorem trips_eq : k0_t1_loop.trips = 8 := by decide +kernel

/-- The first row of panel k is row 16 k. -/
theorem base_eq (k : Fin k0_t1_loop.trips) : baseOf k = BitVec.ofNat 32 (16 * k.val) := by
  have h : ∀ q : Fin 8, Scalar.muli 16#32 (Scf.iv 0#32 1#32 q.val) = BitVec.ofNat 32 (16 * q.val) := by decide +kernel
  exact h ⟨k.val, trips_le k⟩

/-- The offset of the slab of panel k is 16 k. -/
theorem off3_eq (k : Fin k0_t1_loop.trips) : k0_off3 k = ![16 * k.val, 0] := by
  have h : ∀ q : Fin 8, (![(Scalar.indexCast (Scalar.muli 16#32 (Scf.iv 0#32 1#32 q.val)) : Index).toNat, 0] : Fin 2 → ℕ) = ![16 * q.val, 0] := by decide +kernel
  exact h ⟨k.val, trips_le k⟩

/-- The rows of a panel are rows of the matrix. -/
theorem pan (k : Fin k0_t1_loop.trips) : 16 * k.val + 16 ≤ 128 := by have := trips_le k; omega

/-- Row i of the slab is row 16 k + i of the matrix. -/
theorem slab_apply (X : FVec Ideal S128x128 .f32) (k : Fin k0_t1_loop.trips) (i : Fin 16) (j : Fin 128) :
    slab k X (ix2 i j) = X (ix2 (at16 (16 * k.val) (pan k) i) j) := by
  show X _ = X _
  congr 1
  funext a
  have h := congrFun (off3_eq k)
  fin_cases a
  · apply Fin.ext
    show k0_off3 k 0 + 1 * i.val = 16 * k.val + i.val
    rw [h 0]; simp
  · apply Fin.ext
    show k0_off3 k 1 + 1 * j.val = j.val
    rw [h 1]; simp

/-- The matrix that the first copy brings is the covariance of the index. -/
theorem covAt_apply (C : FVec Ideal S1024x128x128 .f32) (n : Fin 1024) (w : BitVec 32) (e : w = BitVec.ofNat 32 n.val) (h : k0_chk1 w) (i j : Fin 128) :
    covAt C w h (ix2 i j) = C (ix3 n i j) := by
  subst e
  have q : (BitVec.ofNat 32 n.val).toNat = n.val := by rw [BitVec.toNat_ofNat]; exact Nat.mod_eq_of_lt (by omega)
  have r : ∀ x : FVec Ideal S1x128x128 .f32, shapeCast S128x128 x (squeezes_S1x128x128_S128x128).numel_eq (ix2 i j) = x (ix3 0 i j) := by
    intro x
    pointwise []
  refine (r ((covsM.slice (Rect.unit (s := S1024x128x128) (k0_off1 (BitVec.ofNat 32 n.val)) S1x128x128.size (k0_off1_inb _ h)) (fun _ => rfl)).view.read (Elt Ideal) C)).trans ?_
  show C _ = C _
  congr 1
  funext a
  fin_cases a
  · apply Fin.ext
    show (BitVec.ofNat 32 n.val).toNat + 1 * 0 = n.val
    rw [q, Nat.mul_zero, Nat.add_zero]
  · apply Fin.ext
    show 0 + 1 * i.val = i.val
    omega
  · apply Fin.ext
    show 0 + 1 * j.val = j.val
    omega

/-- The row that the second copy brings is the mean of the index. -/
theorem meanAt_apply (M : FVec Ideal S1024x128 .f32) (n : Fin 1024) (w : BitVec 32) (e : w = BitVec.ofNat 32 n.val) (h : k0_chk1 w) (j : Fin 128) :
    meanAt M w h (ix2 0 j) = M (ix2 n j) := by
  subst e
  show M _ = M _
  congr 1
  have q : (BitVec.ofNat 32 n.val).toNat = n.val := by rw [BitVec.toNat_ofNat]; exact Nat.mod_eq_of_lt (by omega)
  funext a
  fin_cases a
  · apply Fin.ext
    show (BitVec.ofNat 32 n.val).toNat + 1 * 0 = n.val
    rw [q, Nat.mul_zero, Nat.add_zero]
  · apply Fin.ext
    show 0 + 1 * j.val = j.val
    omega

section
variable {L : Fin 128 → Fin 128 → ℝ} (T : Tri L) (z : FVec Ideal S1x128 .f32) (A : FVec Ideal S128x128 .f32)
  (hA : ∀ i j, A (ix2 i j) = ((∑ k, L i k * L j k : ℝ) : EReal))

include T hA in
/-- The matrix and the sample before panel `k`. -/
theorem state_ok (y : FVec Ideal S1x128 .f32) (hy : ∀ j, y (ix2 0 j) = (0 : EReal)) (k : ℕ) (hk : k ≤ k0_t1_loop.trips) :
    (∀ i j, (state z A y k).1 (ix2 i j) = ((rest L (16 * k) i j : ℝ) : EReal))
      ∧ ∀ j, (state z A y k).2 (ix2 0 j) = part L (fun l => z (ix2 0 l)) (16 * k) j := by
  induction k with
  | zero =>
    refine ⟨fun i j => ?_, fun j => ?_⟩
    · show A (ix2 i j) = _
      rw [hA, Nat.mul_zero, rest_full]
    · show y (ix2 0 j) = _
      rw [hy, Nat.mul_zero, part_zero]
  | succ k ih =>
    obtain ⟨h1, h2⟩ := ih (by omega)
    have e := state_succ z A y ⟨k, hk⟩
    change state z A y (k + 1) = _ at e
    rw [e]
    have hr : RowsOk L (fun l => z (ix2 0 l)) (16 * k) (pan ⟨k, hk⟩) 0 (rows0 z (slab ⟨k, hk⟩ (state z A y k).1)) := by
      refine ⟨fun i _ j => ?_, fun j => ?_⟩
      · rw [rows0_apply, slab_apply, h1]; rfl
      · rw [rows0_last]
    refine ⟨fun i j => ?_, fun j => ?_⟩
    · refine drop_ok T (16 * k) (pan ⟨k, hk⟩) _ h1 _ (fun t j => ?_) i j
      rw [wAll_apply, base_eq]
      exact wAt_ok T _ _ _ _ hr t j
    · show yAt (baseOf ⟨k, hk⟩) _ _ 16 (ix2 0 j) = _
      rw [base_eq]
      exact yAt_ok T _ _ _ _ hr _ h2 16 (le_refl _) j

end

variable (m : (ℓ : Loc nD τ sig) → Buf (Elt Ideal) ℓ)

/-- The component drawn. -/
abbrev drawn (c : Dev nD) : ℕ := draw (unitS (F := Ideal) (wordI (seedOf m c))) (argWeights m c)

/-- The means. -/
def argMeans (c : Dev nD) (n : Fin 1024) (j : Fin 128) : EReal := (m (c.tc.loc main_arg0)) (ix2 n j)
/-- The covariances. -/
def argCovs (c : Dev nD) (n : Fin 1024) (i j : Fin 128) : EReal := (m (c.tc.loc main_arg1)) (ix3 n i j)

/-- The sample: the mean plus the factor's product with the normals. -/
theorem result_value (c : Dev nD) (n : Fin 1024) (hn : picked m c = BitVec.ofNat 32 n.val) (hk : k0_chk1 (picked m c))
    (L : Fin 128 → Fin 128 → ℝ) (T : Tri L)
    (hA : ∀ i j : Fin 128, argCovs m c n i j = ((∑ k, L i k * L j k : ℝ) : EReal)) (j : Fin 128) :
    (resultOf m c hk (ix1 j) : EReal) = argMeans m c n j
      + ∑ k : Fin 128, (L j k : EReal) * normals (F := Ideal) (wordsS (seedOf m c)) (ix2 0 k) := by
  have e := (state_ok T (normals (wordsS (seedOf m c))) (covAt (V m c main_arg1) _ hk)
    (fun i j => by rw [covAt_apply _ n _ hn, V_main_arg1]; exact hA i j)
    (lit 0#32) (fun j => by pointwise [lit]) k0_t1_loop.trips (le_refl _)).2 j
  rw [trips_eq] at e
  change _ = part L _ 128 j at e
  rw [part_full] at e
  have r : resultOf m c hk (ix1 j) = rowOf m c hk (ix2 0 j) := by
    pointwise [resultOf]
  have q : meanAt (F := Ideal) (V m c main_arg0) (picked m c) hk (ix2 0 j) = argMeans m c n j := by
    rw [meanAt_apply _ n _ hn hk, V_main_arg0]
    rfl
  rw [r, ← e, ← q]
  rfl

end Cert.KernelIdeal.Hand

end
-- ==== Proof.RefRun.lean ====
/-
  The reference's run: every execution ends, its counters at zero, its arguments unchanged, and its result in the buffer the
  operations after the loop leave it in.
-/
module

public import proofs.«01_k».proof.Proof.Gen.ReferenceIdeal.Run
public import Idealize.ShloMosaic.Lib.Quiescent

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.StableHlo
open Idealize.SL.Sem

variable {F : FTy → Type} [FloatOps F]
variable (m : (ℓ : Loc nD τ sig) → Buf (Elt F) ℓ) (ρ : Dev nD → PrngReg)

/-- The buffers written before the loop. -/
abbrev preW : List (Ref sig .tc) := hostOps0_W ++ hostOps0_1_W ++ hostOps0_2_W ++ hostOps0_3_W ++ hostOps0_4_W ++ hostOps0_5_W
  ++ hostOps0_6_W ++ hostOps0_7_W ++ hostOps0_8_W ++ hostOps0_9_W ++ hostOps0_10_W
/-- The buffers a trip of the loop writes. -/
abbrev tripW : List (Ref sig .tc) := condOps_W ++ while0Ops0_W ++ while0Ops0_1_W ++ while0Ops0_2_W ++ while0Ops0_3_W ++ while0Ops0_4_W

/-- The buffers written after it. -/
abbrev postW : List (Ref sig .tc) := [main_v193, main_v194]
/-- The operations after the loop write only the buffers listed. -/
theorem post_writes : (hostOps0_11 : List (HloOp τ sig (Elt F))).Forall fun op => op.writes ⊆ (postW.map (Proc.devRef (τ := τ) .tc)).toFinset :=
  StableHlo.forall_writes_sub_of_map rfl

/-- What is written neither before the loop enters it as it was at the start. -/
theorem entry_keep (c : Dev nD) (r : Ref sig .tc) (h : r ∉ preW) :
    entryContents preI m c (Proc.devRef .tc r) = m ((c.tc : Thread nD τ).loc r) := by
  simp only [preW, List.mem_append, not_or] at h
  obtain ⟨⟨⟨⟨⟨⟨⟨⟨⟨⟨h0, h1⟩, h2⟩, h3⟩, h4⟩, h5⟩, h6⟩, h7⟩, h8⟩, h9⟩, h10⟩ := h
  simp only [entryContents, afterL_cons, afterL_nil]
  rw [after_of_writes_sub hostOps0_10 _ hostOps0_10_writes h10, after_of_writes_sub hostOps0_9 _ hostOps0_9_writes h9,
    after_of_writes_sub hostOps0_8 _ hostOps0_8_writes h8, after_of_writes_sub hostOps0_7 _ hostOps0_7_writes h7,
    after_of_writes_sub hostOps0_6 _ hostOps0_6_writes h6, after_of_writes_sub hostOps0_5 _ hostOps0_5_writes h5,
    after_of_writes_sub hostOps0_4 _ hostOps0_4_writes h4, after_of_writes_sub hostOps0_3 _ hostOps0_3_writes h3,
    after_of_writes_sub hostOps0_2 _ hostOps0_2_writes h2, after_of_writes_sub hostOps0_1 _ hostOps0_1_writes h1,
    after_of_writes_sub hostOps0 _ hostOps0_writes h0]

/-- What a trip does not write is at every trip as at the loop's entry. -/
theorem trip_keep (c : Dev nD) (r : Ref sig .tc) (h : r ∉ tripW) (k : ℕ) :
    atK m k c (Proc.devRef .tc r) = entryContents preI m c (Proc.devRef .tc r) := by
  have h' := h
  simp only [tripW, List.mem_append, not_or] at h'
  obtain ⟨⟨⟨⟨⟨hc, h0⟩, h1⟩, h2⟩, h3⟩, h4⟩ := h'
  induction k with
  | zero => rfl
  | succ k ih =>
    rw [← ih, show atK m (k + 1) c = afterL bodyI (after condOps (atK m k c)) from rfl]
    simp only [afterL_cons, afterL_nil]
    rw [after_of_writes_sub while0Ops0_4 _ while0Ops0_4_writes h4, after_of_writes_sub while0Ops0_3 _ while0Ops0_3_writes h3,
      after_of_writes_sub while0Ops0_2 _ while0Ops0_2_writes h2, after_of_writes_sub while0Ops0_1 _ while0Ops0_1_writes h1,
      after_of_writes_sub while0Ops0 _ while0Ops0_writes h0, after_of_writes_sub condOps _ condOps_writes hc]

/-- The value before the operations after the loop, of a buffer no trip writes. -/
theorem exit_keep (c : Dev nD) (r : Ref sig .tc) (h : r ∉ tripW) :
    after condOps (atK m 128 c) (Proc.devRef .tc r) = entryContents preI m c (Proc.devRef .tc r) := by
  have hc : r ∉ condOps_W := fun q => h (by simp only [tripW, List.mem_append]; simp [q])
  rw [after_of_writes_sub condOps _ condOps_writes hc, trip_keep m c r h]

/-- What no operation writes ends as it began. -/
theorem final_keep (c : Dev nD) (r : Ref sig .tc) (hp : r ∉ preW) (ht : r ∉ tripW) (he : r ∉ postW) :
    finalContents condOps preI bodyI postI 128 m c (Proc.devRef .tc r) = m ((c.tc : Thread nD τ).loc r) := by
  show after hostOps0_11 (after condOps (atK m 128 c)) (Proc.devRef .tc r) = _
  rw [after_of_writes_sub hostOps0_11 _ post_writes he, exit_keep m c r ht, entry_keep m c r hp]

/-- The run. -/
theorem run : θ_run (defs (F := F)) (onTc (τ := τ) (main (F := F))) ⟨m, fun _ => 0, ρ⟩ (fun r => (∀ c : Dev nD,
      r.2.mem ((c.tc : Thread nD τ).loc main_v194) = after hostOps0_11 (after condOps (atK m 128 c)) (Proc.devRef .tc main_v194)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run _ _ _).mono (fun r h => ⟨fun c => ⟨h c main_v194 rfl,
      (h c main_arg0 rfl).trans (final_keep m c main_arg0 (by decide +kernel) (by decide +kernel) (by decide +kernel)),
      (h c main_arg1 rfl).trans (final_keep m c main_arg1 (by decide +kernel) (by decide +kernel) (by decide +kernel)),
      (h c main_arg2 rfl).trans (final_keep m c main_arg2 (by decide +kernel) (by decide +kernel) (by decide +kernel)),
      (h c main_arg3 rfl).trans (final_keep m c main_arg3 (by decide +kernel) (by decide +kernel) (by decide +kernel)),
      (h c main_arg4 rfl).trans (final_keep m c main_arg4 (by decide +kernel) (by decide +kernel) (by decide +kernel))⟩,
    sem_eq_zero_of_no_sems (by decide) r.2⟩) (run_fold m ρ)

end Cert.ReferenceIdeal.Hand

end
-- ==== Proof.Fry.lean ====
/-
  The reference's three evaluations of the Threefry block function, read off its operations four rounds and a key injection at a
  time: each is the block function of the kernel's, word by word.
-/
module

public import proofs.«01_k».proof.Proof.RefRun
public import proofs.«01_k».proof.Proof.Head
public import Idealize.ShloMosaic.Lib.StableHlo.RunRead

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.StableHlo

variable {F : FTy → Type} [FloatOps F]

/-! ## The rounds on arrays of words -/

/-- Two arrays of words. -/
abbrev P2 (s : Shape) : Type := IVec s 32 × IVec s 32
/-- An array filled with one word. -/
def word (s : Shape) (n : ℕ) : IVec s 32 := fun _ => BitVec.ofNat 32 n
/-- One round. -/
def hmix {s : Shape} (r : ℕ) (x : P2 s) : P2 s :=
  (addi x.1 x.2, xori (addi x.1 x.2) (ori (Host.shli x.2 (word s r)) (Host.shrui x.2 (word s (32 - r)))))
/-- Four rounds at the even rotations. -/
def hmixA {s : Shape} (x : P2 s) : P2 s := hmix 6 (hmix 26 (hmix 15 (hmix 13 x)))
/-- Four rounds at the odd rotations. -/
def hmixB {s : Shape} (x : P2 s) : P2 s := hmix 24 (hmix 16 (hmix 29 (hmix 17 x)))
/-- A key injection. -/
def hinj {s : Shape} (a b : IVec s 32) (n : ℕ) (x : P2 s) : P2 s := (addi x.1 a, addi (addi x.2 b) (word s n))
/-- The third key word. -/
def hkey {s : Shape} (a b : IVec s 32) : IVec s 32 := xori (xori a b) (word s 466688986)
/-- The block function of the key words `a`, `b` and the third, `k`, at the counters `x`. -/
def htf {s : Shape} (a b k : IVec s 32) (x : P2 s) : P2 s :=
  hinj k a 5 (hmixA (hinj b k 4 (hmixB (hinj a b 3 (hmixA (hinj k a 2 (hmixB (hinj b k 1 (hmixA (addi x.1 a, addi x.2 b))))))))))

/-- The two words at an index. -/
def at2 {s : Shape} (x : P2 s) (i : s.Idx) : BitVec 32 × BitVec 32 := (x.1 i, x.2 i)

open Cert.KernelIdeal.Hand (mix mixA mixB inj key2 tf)

/-- A round on arrays is the round on words in each place. -/
theorem at2_hmix {s : Shape} (r : ℕ) (h0 : 0 < r) (h : r < 32) (x : P2 s) (i : s.Idx) : at2 (hmix r x) i = mix r (at2 x i) := by
  have e : ∀ n, n < 32 → (BitVec.ofNat 32 n).toNat < 32 := fun n hn => by
    rw [BitVec.toNat_ofNat]; exact Nat.lt_of_le_of_lt (Nat.mod_le _ _) hn
  have l : ∀ (u : ArithUnit) (a : BitVec 32) (n : ℕ), n < 32 → IntOp.shli u a (BitVec.ofNat 32 n) = a <<< (BitVec.ofNat 32 n) :=
    fun u a n hn => if_pos (e n hn)
  have q : ∀ (u : ArithUnit) (a : BitVec 32) (n : ℕ), n < 32 → IntOp.shrui u a (BitVec.ofNat 32 n) = a >>> (BitVec.ofNat 32 n) :=
    fun u a n hn => if_pos (e n hn)
  refine Prod.ext rfl ?_
  show IntOp.xori (IntOp.addi (x.1 i) (x.2 i)) (IntOp.ori (IntOp.shli .host (x.2 i) (BitVec.ofNat 32 r)) (IntOp.shrui .host (x.2 i) (BitVec.ofNat 32 (32 - r))))
    = IntOp.xori (IntOp.ori (IntOp.shli .scalar (x.2 i) (BitVec.ofNat 32 r)) (IntOp.shrui .scalar (x.2 i) (BitVec.ofNat 32 (32 - r)))) (IntOp.addi (x.1 i) (x.2 i))
  rw [l _ _ r h, l _ _ r h, q _ _ (32 - r) (by omega), q _ _ (32 - r) (by omega)]
  exact BitVec.xor_comm _ _

/-- A key injection on arrays is the one on words in each place. -/
theorem at2_hinj {s : Shape} (a b : IVec s 32) (n : ℕ) (x : P2 s) (i : s.Idx) : at2 (hinj a b n x) i = inj (a i) (b i) n (at2 x i) := rfl

/-- The block function at an index is the block function of the words there. -/
theorem at2_htf {s : Shape} (a b k : IVec s 32) (x : P2 s) (i : s.Idx) (hk : k i = key2 (a i) (b i)) :
    at2 (htf a b k x) i = tf (a i) (b i) (x.1 i) (x.2 i) := by
  simp only [htf, hmixA, hmixB, at2_hinj, at2_hmix _ (by decide : 0 < 13) (by decide), at2_hmix _ (by decide : 0 < 15) (by decide),
    at2_hmix _ (by decide : 0 < 26) (by decide), at2_hmix _ (by decide : 0 < 6) (by decide), at2_hmix _ (by decide : 0 < 17) (by decide),
    at2_hmix _ (by decide : 0 < 29) (by decide), at2_hmix _ (by decide : 0 < 16) (by decide), at2_hmix _ (by decide : 0 < 24) (by decide), hk]
  rfl

section
variable (V : Valuation τ sig (Elt F))

/-! ## Stretch 1 -/

/-- Rounds 1 to 4 and their injection. -/
def part1_1 : List (HloOp τ sig (Elt F)) := (hostOps0_1.take 63).drop 13
/-- Rounds 5 to 8 and their injection. -/
def part1_2 : List (HloOp τ sig (Elt F)) := (hostOps0_1.take 106).drop 63
/-- Rounds 9 to 12 and their injection. -/
def part1_3 : List (HloOp τ sig (Elt F)) := (hostOps0_1.take 149).drop 106
/-- Rounds 13 to 16 and their injection. -/
def part1_4 : List (HloOp τ sig (Elt F)) := (hostOps0_1.take 192).drop 149
/-- Rounds 17 to 20 and their injection. -/
def part1_5 : List (HloOp τ sig (Elt F)) := (hostOps0_1.take 235).drop 192
/-- The first four rounds and their key injection. -/
theorem part1_1_words : (after part1_1 V (Proc.devRef .tc main_call0_call0_v35), after part1_1 V (Proc.devRef .tc main_call0_call0_v39))
    = hinj (broadcastInDim S2 ![] bcast_S_S2 (V (Proc.devRef .tc main_call0_v3))) (broadcastInDim S2 ![] bcast_S_S2 (hkey (V (Proc.devRef .tc main_call0_v1)) (V (Proc.devRef .tc main_call0_v3)))) 1 (hmixA (addi (V (Proc.devRef .tc main_call0_v10)) (broadcastInDim S2 ![] bcast_S_S2 (V (Proc.devRef .tc main_call0_v1))), addi (V (Proc.devRef .tc main_call0_v9)) (broadcastInDim S2 ![] bcast_S_S2 (V (Proc.devRef .tc main_call0_v3))))) := by
  simp only [part1_1, hostOps0_1, List.drop_succ_cons, List.take_succ_cons, List.drop_zero, List.take_zero]
  after_reads_simp
  rfl
/-- The first word of the key after the first four rounds. -/
theorem part1_1_a : after part1_1 V (Proc.devRef .tc main_call0_v1) = V (Proc.devRef .tc main_call0_v1) := by
  simp only [part1_1, hostOps0_1, List.drop_succ_cons, List.take_succ_cons, List.drop_zero, List.take_zero]
  after_reads_simp
/-- The second word of the key after the first four rounds. -/
theorem part1_1_b : after part1_1 V (Proc.devRef .tc main_call0_v3) = V (Proc.devRef .tc main_call0_v3) := by
  simp only [part1_1, hostOps0_1, List.drop_succ_cons, List.take_succ_cons, List.drop_zero, List.take_zero]
  after_reads_simp
/-- The third word of the key after the first four rounds. -/
theorem part1_1_k : after part1_1 V (Proc.devRef .tc main_call0_call0_v1) = hkey (V (Proc.devRef .tc main_call0_v1)) (V (Proc.devRef .tc main_call0_v3)) := by
  simp only [part1_1, hostOps0_1, List.drop_succ_cons, List.take_succ_cons, List.drop_zero, List.take_zero]
  after_reads_simp
  rfl
/-- The second four rounds and their key injection. -/
theorem part1_2_words : (after part1_2 V (Proc.devRef .tc main_call0_call0_v69), after part1_2 V (Proc.devRef .tc main_call0_call0_v73))
    = hinj (broadcastInDim S2 ![] bcast_S_S2 (V (Proc.devRef .tc main_call0_call0_v1))) (broadcastInDim S2 ![] bcast_S_S2 (V (Proc.devRef .tc main_call0_v1))) 2 (hmixB ((V (Proc.devRef .tc main_call0_call0_v35)), (V (Proc.devRef .tc main_call0_call0_v39)))) := by
  simp only [part1_2, hostOps0_1, List.drop_succ_cons, List.take_succ_cons, List.drop_zero, List.take_zero]
  after_reads_simp
  rfl
/-- The first word of the key after the second four rounds. -/
theorem part1_2_a : after part1_2 V (Proc.devRef .tc main_call0_v1) = V (Proc.devRef .tc main_call0_v1) := by
  simp only [part1_2, hostOps0_1, List.drop_succ_cons, List.take_succ_cons, List.drop_zero, List.take_zero]
  after_reads_simp
/-- The second word of the key after the second four rounds. -/
theorem part1_2_b : after part1_2 V (Proc.devRef .tc main_call0_v3) = V (Proc.devRef .tc main_call0_v3) := by
  simp only [part1_2, hostOps0_1, List.drop_succ_cons, List.take_succ_cons, List.drop_zero, List.take_zero]
  after_reads_simp
/-- The third word of the key after the second four rounds. -/
theorem part1_2_k : after part1_2 V (Proc.devRef .tc main_call0_call0_v1) = V (Proc.devRef .tc main_call0_call0_v1) := by
  simp only [part1_2, hostOps0_1, List.drop_succ_cons, List.take_succ_cons, List.drop_zero, List.take_zero]
  after_reads_simp
/-- The third four rounds and their key injection. -/
theorem part1_3_words : (after part1_3 V (Proc.devRef .tc main_call0_call0_v103), after part1_3 V (Proc.devRef .tc main_call0_call0_v107))
    = hinj (broadcastInDim S2 ![] bcast_S_S2 (V (Proc.devRef .tc main_call0_v1))) (broadcastInDim S2 ![] bcast_S_S2 (V (Proc.devRef .tc main_call0_v3))) 3 (hmixA ((V (Proc.devRef .tc main_call0_call0_v69)), (V (Proc.devRef .tc main_call0_call0_v73)))) := by
  simp only [part1_3, hostOps0_1, List.drop_succ_cons, List.take_succ_cons, List.drop_zero, List.take_zero]
  after_reads_simp
  rfl
/-- The first word of the key after the third four rounds. -/
theorem part1_3_a : after part1_3 V (Proc.devRef .tc main_call0_v1) = V (Proc.devRef .tc main_call0_v1) := by
  simp only [part1_3, hostOps0_1, List.drop_succ_cons, List.take_succ_cons, List.drop_zero, List.take_zero]
  after_reads_simp
/-- The second word of the key after the third four rounds. -/
theorem part1_3_b : after part1_3 V (Proc.devRef .tc main_call0_v3) = V (Proc.devRef .tc main_call0_v3) := by
  simp only [part1_3, hostOps0_1, List.drop_succ_cons, List.take_succ_cons, List.drop_zero, List.take_zero]
  after_reads_simp
/-- The third word of the key after the third four rounds. -/
theorem part1_3_k : after part1_3 V (Proc.devRef .tc main_call0_call0_v1) = V (Proc.devRef .tc main_call0_call0_v1) := by
  simp only [part1_3, hostOps0_1, List.drop_succ_cons, List.take_succ_cons, List.drop_zero, List.take_zero]
  after_reads_simp
/-- The fourth four rounds and their key injection. -/
theorem part1_4_words : (after part1_4 V (Proc.devRef .tc main_call0_call0_v137), after part1_4 V (Proc.devRef .tc main_call0_call0_v141))
    = hinj (broadcastInDim S2 ![] bcast_S_S2 (V (Proc.devRef .tc main_call0_v3))) (broadcastInDim S2 ![] bcast_S_S2 (V (Proc.devRef .tc main_call0_call0_v1))) 4 (hmixB ((V (Proc.devRef .tc main_call0_call0_v103)), (V (Proc.devRef .tc main_call0_call0_v107)))) := by
  simp only [part1_4, hostOps0_1, List.drop_succ_cons, List.take_succ_cons, List.drop_zero, List.take_zero]
  after_reads_simp
  rfl
/-- The first word of the key after the fourth four rounds. -/
theorem part1_4_a : after part1_4 V (Proc.devRef .tc main_call0_v1) = V (Proc.devRef .tc main_call0_v1) := by
  simp only [part1_4, hostOps0_1, List.drop_succ_cons, List.take_succ_cons, List.drop_zero, List.take_zero]
  after_reads_simp
/-- The second word of the key after the fourth four rounds. -/
theorem part1_4_b : after part1_4 V (Proc.devRef .tc main_call0_v3) = V (Proc.devRef .tc main_call0_v3) := by
  simp only [part1_4, hostOps0_1, List.drop_succ_cons, List.take_succ_cons, List.drop_zero, List.take_zero]
  after_reads_simp
/-- The third word of the key after the fourth four rounds. -/
theorem part1_4_k : after part1_4 V (Proc.devRef .tc main_call0_call0_v1) = V (Proc.devRef .tc main_call0_call0_v1) := by
  simp only [part1_4, hostOps0_1, List.drop_succ_cons, List.take_succ_cons, List.drop_zero, List.take_zero]
  after_reads_simp
/-- The fifth four rounds and their key injection. -/
theorem part1_5_words : (after part1_5 V (Proc.devRef .tc main_call0_v11_0), after part1_5 V (Proc.devRef .tc main_call0_v11_1))
    = hinj (broadcastInDim S2 ![] bcast_S_S2 (V (Proc.devRef .tc main_call0_call0_v1))) (broadcastInDim S2 ![] bcast_S_S2 (V (Proc.devRef .tc main_call0_v1))) 5 (hmixA ((V (Proc.devRef .tc main_call0_call0_v137)), (V (Proc.devRef .tc main_call0_call0_v141)))) := by
  simp only [part1_5, hostOps0_1, List.drop_succ_cons, List.take_succ_cons, List.drop_zero, List.take_zero]
  after_reads_simp
  rfl
/-- The whole block function. -/
theorem words1 : ((after part1_5 (after part1_4 (after part1_3 (after part1_2 (after part1_1 V))))) (Proc.devRef .tc main_call0_v11_0), (after part1_5 (after part1_4 (after part1_3 (after part1_2 (after part1_1 V))))) (Proc.devRef .tc main_call0_v11_1))
    = htf (broadcastInDim S2 ![] bcast_S_S2 (V (Proc.devRef .tc main_call0_v1))) (broadcastInDim S2 ![] bcast_S_S2 (V (Proc.devRef .tc main_call0_v3))) (broadcastInDim S2 ![] bcast_S_S2 (hkey (V (Proc.devRef .tc main_call0_v1)) (V (Proc.devRef .tc main_call0_v3)))) ((V (Proc.devRef .tc main_call0_v10)), (V (Proc.devRef .tc main_call0_v9))) := by
  rw [part1_5_words, part1_4_words, part1_3_words, part1_2_words, part1_1_words]
  simp only [part1_4_a, part1_4_b, part1_4_k, part1_3_a, part1_3_b, part1_3_k, part1_2_a, part1_2_b, part1_2_k, part1_1_a, part1_1_b, part1_1_k]
  rfl

/-! ## Stretch 5 -/

/-- Rounds 1 to 4 and their injection. -/
def part5_1 : List (HloOp τ sig (Elt F)) := (hostOps0_5.take 37).drop 0
/-- Rounds 5 to 8 and their injection. -/
def part5_2 : List (HloOp τ sig (Elt F)) := (hostOps0_5.take 69).drop 37
/-- Rounds 9 to 12 and their injection. -/
def part5_3 : List (HloOp τ sig (Elt F)) := (hostOps0_5.take 101).drop 69
/-- Rounds 13 to 16 and their injection. -/
def part5_4 : List (HloOp τ sig (Elt F)) := (hostOps0_5.take 133).drop 101
/-- Rounds 17 to 20 and their injection. -/
def part5_5 : List (HloOp τ sig (Elt F)) := (hostOps0_5.take 165).drop 133
/-- The first four rounds and their key injection. -/
theorem part5_1_words : (after part5_1 V (Proc.devRef .tc main_call2_v24), after part5_1 V (Proc.devRef .tc main_call2_v26))
    = hinj (V (Proc.devRef .tc main_v21)) (hkey (V (Proc.devRef .tc main_v19)) (V (Proc.devRef .tc main_v21))) 1 (hmixA (addi (V (Proc.devRef .tc main_c_1)) (V (Proc.devRef .tc main_v19)), addi (V (Proc.devRef .tc main_c_2)) (V (Proc.devRef .tc main_v21)))) := by
  simp only [part5_1, hostOps0_5, List.drop_succ_cons, List.take_succ_cons, List.drop_zero, List.take_zero]
  after_reads_simp
  rfl
/-- The first word of the key after the first four rounds. -/
theorem part5_1_a : after part5_1 V (Proc.devRef .tc main_v19) = V (Proc.devRef .tc main_v19) := by
  simp only [part5_1, hostOps0_5, List.drop_succ_cons, List.take_succ_cons, List.drop_zero, List.take_zero]
  after_reads_simp
/-- The second word of the key after the first four rounds. -/
theorem part5_1_b : after part5_1 V (Proc.devRef .tc main_v21) = V (Proc.devRef .tc main_v21) := by
  simp only [part5_1, hostOps0_5, List.drop_succ_cons, List.take_succ_cons, List.drop_zero, List.take_zero]
  after_reads_simp
/-- The third word of the key after the first four rounds. -/
theorem part5_1_k : after part5_1 V (Proc.devRef .tc main_call2_v1) = hkey (V (Proc.devRef .tc main_v19)) (V (Proc.devRef .tc main_v21)) := by
  simp only [part5_1, hostOps0_5, List.drop_succ_cons, List.take_succ_cons, List.drop_zero, List.take_zero]
  after_reads_simp
  rfl
/-- The second four rounds and their key injection. -/
theorem part5_2_words : (after part5_2 V (Proc.devRef .tc main_call2_v47), after part5_2 V (Proc.devRef .tc main_call2_v49))
    = hinj (V (Proc.devRef .tc main_call2_v1)) (V (Proc.devRef .tc main_v19)) 2 (hmixB ((V (Proc.devRef .tc main_call2_v24)), (V (Proc.devRef .tc main_call2_v26)))) := by
  simp only [part5_2, hostOps0_5, List.drop_succ_cons, List.take_succ_cons, List.drop_zero, List.take_zero]
  after_reads_simp
  rfl
/-- The first word of the key after the second four rounds. -/
theorem part5_2_a : after part5_2 V (Proc.devRef .tc main_v19) = V (Proc.devRef .tc main_v19) := by
  simp only [part5_2, hostOps0_5, List.drop_succ_cons, List.take_succ_cons, List.drop_zero, List.take_zero]
  after_reads_simp
/-- The second word of the key after the second four rounds. -/
theorem part5_2_b : after part5_2 V (Proc.devRef .tc main_v21) = V (Proc.devRef .tc main_v21) := by
  simp only [part5_2, hostOps0_5, List.drop_succ_cons, List.take_succ_cons, List.drop_zero, List.take_zero]
  after_reads_simp
/-- The third word of the key after the second four rounds. -/
theorem part5_2_k : after part5_2 V (Proc.devRef .tc main_call2_v1) = V (Proc.devRef .tc main_call2_v1) := by
  simp only [part5_2, hostOps0_5, List.drop_succ_cons, List.take_succ_cons, List.drop_zero, List.take_zero]
  after_reads_simp
/-- The third four rounds and their key injection. -/
theorem part5_3_words : (after part5_3 V (Proc.devRef .tc main_call2_v70), after part5_3 V (Proc.devRef .tc main_call2_v72))
    = hinj (V (Proc.devRef .tc main_v19)) (V (Proc.devRef .tc main_v21)) 3 (hmixA ((V (Proc.devRef .tc main_call2_v47)), (V (Proc.devRef .tc main_call2_v49)))) := by
  simp only [part5_3, hostOps0_5, List.drop_succ_cons, List.take_succ_cons, List.drop_zero, List.take_zero]
  after_reads_simp
  rfl
/-- The first word of the key after the third four rounds. -/
theorem part5_3_a : after part5_3 V (Proc.devRef .tc main_v19) = V (Proc.devRef .tc main_v19) := by
  simp only [part5_3, hostOps0_5, List.drop_succ_cons, List.take_succ_cons, List.drop_zero, List.take_zero]
  after_reads_simp
/-- The second word of the key after the third four rounds. -/
theorem part5_3_b : after part5_3 V (Proc.devRef .tc main_v21) = V (Proc.devRef .tc main_v21) := by
  simp only [part5_3, hostOps0_5, List.drop_succ_cons, List.take_succ_cons, List.drop_zero, List.take_zero]
  after_reads_simp
/-- The third word of the key after the third four rounds. -/
theorem part5_3_k : after part5_3 V (Proc.devRef .tc main_call2_v1) = V (Proc.devRef .tc main_call2_v1) := by
  simp only [part5_3, hostOps0_5, List.drop_succ_cons, List.take_succ_cons, List.drop_zero, List.take_zero]
  after_reads_simp
/-- The fourth four rounds and their key injection. -/
theorem part5_4_words : (after part5_4 V (Proc.devRef .tc main_call2_v93), after part5_4 V (Proc.devRef .tc main_call2_v95))
    = hinj (V (Proc.devRef .tc main_v21)) (V (Proc.devRef .tc main_call2_v1)) 4 (hmixB ((V (Proc.devRef .tc main_call2_v70)), (V (Proc.devRef .tc main_call2_v72)))) := by
  simp only [part5_4, hostOps0_5, List.drop_succ_cons, List.take_succ_cons, List.drop_zero, List.take_zero]
  after_reads_simp
  rfl
/-- The first word of the key after the fourth four rounds. -/
theorem part5_4_a : after part5_4 V (Proc.devRef .tc main_v19) = V (Proc.devRef .tc main_v19) := by
  simp only [part5_4, hostOps0_5, List.drop_succ_cons, List.take_succ_cons, List.drop_zero, List.take_zero]
  after_reads_simp
/-- The second word of the key after the fourth four rounds. -/
theorem part5_4_b : after part5_4 V (Proc.devRef .tc main_v21) = V (Proc.devRef .tc main_v21) := by
  simp only [part5_4, hostOps0_5, List.drop_succ_cons, List.take_succ_cons, List.drop_zero, List.take_zero]
  after_reads_simp
/-- The third word of the key after the fourth four rounds. -/
theorem part5_4_k : after part5_4 V (Proc.devRef .tc main_call2_v1) = V (Proc.devRef .tc main_call2_v1) := by
  simp only [part5_4, hostOps0_5, List.drop_succ_cons, List.take_succ_cons, List.drop_zero, List.take_zero]
  after_reads_simp
/-- The fifth four rounds and their key injection. -/
theorem part5_5_words : (after part5_5 V (Proc.devRef .tc main_v22_0), after part5_5 V (Proc.devRef .tc main_v22_1))
    = hinj (V (Proc.devRef .tc main_call2_v1)) (V (Proc.devRef .tc main_v19)) 5 (hmixA ((V (Proc.devRef .tc main_call2_v93)), (V (Proc.devRef .tc main_call2_v95)))) := by
  simp only [part5_5, hostOps0_5, List.drop_succ_cons, List.take_succ_cons, List.drop_zero, List.take_zero]
  after_reads_simp
  rfl
/-- The whole block function. -/
theorem words5 : ((after part5_5 (after part5_4 (after part5_3 (after part5_2 (after part5_1 V))))) (Proc.devRef .tc main_v22_0), (after part5_5 (after part5_4 (after part5_3 (after part5_2 (after part5_1 V))))) (Proc.devRef .tc main_v22_1))
    = htf (V (Proc.devRef .tc main_v19)) (V (Proc.devRef .tc main_v21)) (hkey (V (Proc.devRef .tc main_v19)) (V (Proc.devRef .tc main_v21))) ((V (Proc.devRef .tc main_c_1)), (V (Proc.devRef .tc main_c_2))) := by
  rw [part5_5_words, part5_4_words, part5_3_words, part5_2_words, part5_1_words]
  rw [part5_4_a, part5_4_k, part5_3_a, part5_3_b, part5_3_k, part5_2_a, part5_2_b, part5_2_k, part5_1_a, part5_1_b, part5_1_k]
  rfl

/-! ## Stretch 7 -/

/-- Rounds 1 to 4 and their injection. -/
def part7_1 : List (HloOp τ sig (Elt F)) := (hostOps0_7.take 50).drop 0
/-- Rounds 5 to 8 and their injection. -/
def part7_2 : List (HloOp τ sig (Elt F)) := (hostOps0_7.take 93).drop 50
/-- Rounds 9 to 12 and their injection. -/
def part7_3 : List (HloOp τ sig (Elt F)) := (hostOps0_7.take 136).drop 93
/-- Rounds 13 to 16 and their injection. -/
def part7_4 : List (HloOp τ sig (Elt F)) := (hostOps0_7.take 179).drop 136
/-- Rounds 17 to 20 and their injection. -/
def part7_5 : List (HloOp τ sig (Elt F)) := (hostOps0_7.take 222).drop 179
/-- The first four rounds and their key injection. -/
theorem part7_1_words : (after part7_1 V (Proc.devRef .tc main_call3_v35), after part7_1 V (Proc.devRef .tc main_call3_v39))
    = hinj (broadcastInDim S128 ![] bcast_S_S128 (V (Proc.devRef .tc main_v37))) (broadcastInDim S128 ![] bcast_S_S128 (hkey (V (Proc.devRef .tc main_v35)) (V (Proc.devRef .tc main_v37)))) 1 (hmixA (addi (V (Proc.devRef .tc main_v44)) (broadcastInDim S128 ![] bcast_S_S128 (V (Proc.devRef .tc main_v35))), addi (V (Proc.devRef .tc main_v43)) (broadcastInDim S128 ![] bcast_S_S128 (V (Proc.devRef .tc main_v37))))) := by
  simp only [part7_1, hostOps0_7, List.drop_succ_cons, List.take_succ_cons, List.drop_zero, List.take_zero]
  after_reads_simp
  rfl
/-- The first word of the key after the first four rounds. -/
theorem part7_1_a : after part7_1 V (Proc.devRef .tc main_v35) = V (Proc.devRef .tc main_v35) := by
  simp only [part7_1, hostOps0_7, List.drop_succ_cons, List.take_succ_cons, List.drop_zero, List.take_zero]
  after_reads_simp
/-- The second word of the key after the first four rounds. -/
theorem part7_1_b : after part7_1 V (Proc.devRef .tc main_v37) = V (Proc.devRef .tc main_v37) := by
  simp only [part7_1, hostOps0_7, List.drop_succ_cons, List.take_succ_cons, List.drop_zero, List.take_zero]
  after_reads_simp
/-- The third word of the key after the first four rounds. -/
theorem part7_1_k : after part7_1 V (Proc.devRef .tc main_call3_v1) = hkey (V (Proc.devRef .tc main_v35)) (V (Proc.devRef .tc main_v37)) := by
  simp only [part7_1, hostOps0_7, List.drop_succ_cons, List.take_succ_cons, List.drop_zero, List.take_zero]
  after_reads_simp
  rfl
/-- The second four rounds and their key injection. -/
theorem part7_2_words : (after part7_2 V (Proc.devRef .tc main_call3_v69), after part7_2 V (Proc.devRef .tc main_call3_v73))
    = hinj (broadcastInDim S128 ![] bcast_S_S128 (V (Proc.devRef .tc main_call3_v1))) (broadcastInDim S128 ![] bcast_S_S128 (V (Proc.devRef .tc main_v35))) 2 (hmixB ((V (Proc.devRef .tc main_call3_v35)), (V (Proc.devRef .tc main_call3_v39)))) := by
  simp only [part7_2, hostOps0_7, List.drop_succ_cons, List.take_succ_cons, List.drop_zero, List.take_zero]
  after_reads_simp
  rfl
/-- The first word of the key after the second four rounds. -/
theorem part7_2_a : after part7_2 V (Proc.devRef .tc main_v35) = V (Proc.devRef .tc main_v35) := by
  simp only [part7_2, hostOps0_7, List.drop_succ_cons, List.take_succ_cons, List.drop_zero, List.take_zero]
  after_reads_simp
/-- The second word of the key after the second four rounds. -/
theorem part7_2_b : after part7_2 V (Proc.devRef .tc main_v37) = V (Proc.devRef .tc main_v37) := by
  simp only [part7_2, hostOps0_7, List.drop_succ_cons, List.take_succ_cons, List.drop_zero, List.take_zero]
  after_reads_simp
/-- The third word of the key after the second four rounds. -/
theorem part7_2_k : after part7_2 V (Proc.devRef .tc main_call3_v1) = V (Proc.devRef .tc main_call3_v1) := by
  simp only [part7_2, hostOps0_7, List.drop_succ_cons, List.take_succ_cons, List.drop_zero, List.take_zero]
  after_reads_simp
/-- The third four rounds and their key injection. -/
theorem part7_3_words : (after part7_3 V (Proc.devRef .tc main_call3_v103), after part7_3 V (Proc.devRef .tc main_call3_v107))
    = hinj (broadcastInDim S128 ![] bcast_S_S128 (V (Proc.devRef .tc main_v35))) (broadcastInDim S128 ![] bcast_S_S128 (V (Proc.devRef .tc main_v37))) 3 (hmixA ((V (Proc.devRef .tc main_call3_v69)), (V (Proc.devRef .tc main_call3_v73)))) := by
  simp only [part7_3, hostOps0_7, List.drop_succ_cons, List.take_succ_cons, List.drop_zero, List.take_zero]
  after_reads_simp
  rfl
/-- The first word of the key after the third four rounds. -/
theorem part7_3_a : after part7_3 V (Proc.devRef .tc main_v35) = V (Proc.devRef .tc main_v35) := by
  simp only [part7_3, hostOps0_7, List.drop_succ_cons, List.take_succ_cons, List.drop_zero, List.take_zero]
  after_reads_simp
/-- The second word of the key after the third four rounds. -/
theorem part7_3_b : after part7_3 V (Proc.devRef .tc main_v37) = V (Proc.devRef .tc main_v37) := by
  simp only [part7_3, hostOps0_7, List.drop_succ_cons, List.take_succ_cons, List.drop_zero, List.take_zero]
  after_reads_simp
/-- The third word of the key after the third four rounds. -/
theorem part7_3_k : after part7_3 V (Proc.devRef .tc main_call3_v1) = V (Proc.devRef .tc main_call3_v1) := by
  simp only [part7_3, hostOps0_7, List.drop_succ_cons, List.take_succ_cons, List.drop_zero, List.take_zero]
  after_reads_simp
/-- The fourth four rounds and their key injection. -/
theorem part7_4_words : (after part7_4 V (Proc.devRef .tc main_call3_v137), after part7_4 V (Proc.devRef .tc main_call3_v141))
    = hinj (broadcastInDim S128 ![] bcast_S_S128 (V (Proc.devRef .tc main_v37))) (broadcastInDim S128 ![] bcast_S_S128 (V (Proc.devRef .tc main_call3_v1))) 4 (hmixB ((V (Proc.devRef .tc main_call3_v103)), (V (Proc.devRef .tc main_call3_v107)))) := by
  simp only [part7_4, hostOps0_7, List.drop_succ_cons, List.take_succ_cons, List.drop_zero, List.take_zero]
  after_reads_simp
  rfl
/-- The first word of the key after the fourth four rounds. -/
theorem part7_4_a : after part7_4 V (Proc.devRef .tc main_v35) = V (Proc.devRef .tc main_v35) := by
  simp only [part7_4, hostOps0_7, List.drop_succ_cons, List.take_succ_cons, List.drop_zero, List.take_zero]
  after_reads_simp
/-- The second word of the key after the fourth four rounds. -/
theorem part7_4_b : after part7_4 V (Proc.devRef .tc main_v37) = V (Proc.devRef .tc main_v37) := by
  simp only [part7_4, hostOps0_7, List.drop_succ_cons, List.take_succ_cons, List.drop_zero, List.take_zero]
  after_reads_simp
/-- The third word of the key after the fourth four rounds. -/
theorem part7_4_k : after part7_4 V (Proc.devRef .tc main_call3_v1) = V (Proc.devRef .tc main_call3_v1) := by
  simp only [part7_4, hostOps0_7, List.drop_succ_cons, List.take_succ_cons, List.drop_zero, List.take_zero]
  after_reads_simp
/-- The fifth four rounds and their key injection. -/
theorem part7_5_words : (after part7_5 V (Proc.devRef .tc main_v45_0), after part7_5 V (Proc.devRef .tc main_v45_1))
    = hinj (broadcastInDim S128 ![] bcast_S_S128 (V (Proc.devRef .tc main_call3_v1))) (broadcastInDim S128 ![] bcast_S_S128 (V (Proc.devRef .tc main_v35))) 5 (hmixA ((V (Proc.devRef .tc main_call3_v137)), (V (Proc.devRef .tc main_call3_v141)))) := by
  simp only [part7_5, hostOps0_7, List.drop_succ_cons, List.take_succ_cons, List.drop_zero, List.take_zero]
  after_reads_simp
  rfl
/-- The whole block function. -/
theorem words7 : ((after part7_5 (after part7_4 (after part7_3 (after part7_2 (after part7_1 V))))) (Proc.devRef .tc main_v45_0), (after part7_5 (after part7_4 (after part7_3 (after part7_2 (after part7_1 V))))) (Proc.devRef .tc main_v45_1))
    = htf (broadcastInDim S128 ![] bcast_S_S128 (V (Proc.devRef .tc main_v35))) (broadcastInDim S128 ![] bcast_S_S128 (V (Proc.devRef .tc main_v37))) (broadcastInDim S128 ![] bcast_S_S128 (hkey (V (Proc.devRef .tc main_v35)) (V (Proc.devRef .tc main_v37)))) ((V (Proc.devRef .tc main_v44)), (V (Proc.devRef .tc main_v43))) := by
  rw [part7_5_words, part7_4_words, part7_3_words, part7_2_words, part7_1_words]
  simp only [part7_4_a, part7_4_b, part7_4_k, part7_3_a, part7_3_b, part7_3_k, part7_2_a, part7_2_b, part7_2_k, part7_1_a, part7_1_b, part7_1_k]
  rfl

end

end Cert.ReferenceIdeal.Hand

end
-- ==== Proof.RefRead.lean ====
/-
  What the reference's operations before the loop make of the contents before each stretch of them.
-/
module

public import proofs.«01_k».proof.Proof.Fry

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.StableHlo

variable {F : FTy → Type} [FloatOps F]

/-! ## The values -/

/-- The seed's upper and lower words. -/
def seedWords (s : IVec S_ 32) : IVec S2 32 :=
  concatenate S2 0 [⟨S1, broadcastInDim S1 ![] bcast_S_S1 (Host.shrui s (constantI S_ 32 32#32))⟩,
    ⟨S1, broadcastInDim S1 ![] bcast_S_S1 (andi s (constantI S_ 32 4294967295#32))⟩] concatenates_S1_S1_S2_d0
/-- The weights over their sum. -/
def shares (w : FVec F S1024 .f32) : FVec F S1024 .f32 :=
  Host.divf w (broadcastInDim S1024 ![] bcast_S_S1024 (Host.reduceAdd w (constant S_ .f32 0x00000000#32) reducesTo_S1024_S_d0 h_S_))
/-- The first and the second of two words. -/
def fst2 (x : IVec S2 32) : IVec S_ 32 := shapeCast S_ (extractStridedSlice S1 ![0] x slices_S2_S1_0) shapeCasts_S1_S_
/-- The second of two words. -/
def snd2 (x : IVec S2 32) : IVec S_ 32 := shapeCast S_ (extractStridedSlice S1 ![1] x slices_S2_S1_1) shapeCasts_S1_S_
/-- The lower and the upper words of the numbers below 2 and below 128. -/
def lo2 : IVec S2 32 := trunci 32 (muli (broadcastInDim S2 ![] bcast_S_S2 (constantI S_ 64 1#64)) (iotaInDim S2 64 0)) natLt_32_64
/-- The upper words of the two counters. -/
def hi2 : IVec S2 32 :=
  trunci 32 (Host.shrui (muli (broadcastInDim S2 ![] bcast_S_S2 (constantI S_ 64 1#64)) (iotaInDim S2 64 0)) (broadcastInDim S2 ![] bcast_S_S2 (constantI S_ 64 32#64))) natLt_32_64
/-- The lower words of the 128 counters. -/
def lo128 : IVec S128 32 := trunci 32 (muli (broadcastInDim S128 ![] bcast_S_S128 (constantI S_ 64 1#64)) (iotaInDim S128 64 0)) natLt_32_64
/-- The upper words of the 128 counters. -/
def hi128 : IVec S128 32 :=
  trunci 32 (Host.shrui (muli (broadcastInDim S128 ![] bcast_S_S128 (constantI S_ 64 1#64)) (iotaInDim S128 64 0)) (broadcastInDim S128 ![] bcast_S_S128 (constantI S_ 64 32#64))) natLt_32_64
/-- Two columns side by side. -/
def beside (a b : IVec S2 32) : IVec S2x2 32 :=
  concatenate S2x2 1 [⟨S2x1, broadcastInDim S2x1 ![0] bcast_S2_S2x1_0 a⟩, ⟨S2x1, broadcastInDim S2x1 ![0] bcast_S2_S2x1_0 b⟩] concatenates_S2x1_S2x1_S2x2_d1
/-- The rows of two. -/
def row0 (x : IVec S2x2 32) : IVec S2 32 := shapeCast S2 (extractStridedSlice S1x2 ![0, 0] x slices_S2x2_S1x2_0_0) shapeCasts_S1x2_S2
/-- The second of two rows of words. -/
def row1 (x : IVec S2x2 32) : IVec S2 32 := shapeCast S2 (extractStridedSlice S1x2 ![1, 0] x slices_S2x2_S1x2_1_0) shapeCasts_S1x2_S2
/-- The running sums. -/
def sums (x : FVec F S1024 .f32) : FVec F S1024 .f32 :=
  Host.reduceWindowAdd ![1024] ![1] ![1023] ![0] x (broadcastInDim S_ ![] bcast_S_S_ (constant S_ .f32 0x00000000#32)) reduceWindows_S1024_S1024_w1024s1p1023_0 h_S_
/-- The last of them. -/
def last (x : FVec F S1024 .f32) : FVec F S_ .f32 := shapeCast S_ (extractStridedSlice S1 ![1023] x slices_S1024_S1_1023) shapeCasts_S1_S_
/-- The threshold of the draw. -/
def thresh (b0 b1 : IVec S_ 32) (t : FVec F S_ .f32) : FVec F S_ .f32 :=
  mulf t (subf (constant S_ .f32 0x3F800000#32) (mulf (sitofp .f32 (Host.shrui (xori b0 b1) (constantI S_ 32 9#32))) (constant S_ .f32 0x34000000#32)))
/-- How many of the sums lie below it. -/
def counted (x : FVec F S1024 .f32) (r : FVec F S_ .f32) : IVec S_ 32 :=
  Host.reduce IntOp.addi (extui 32 (cmpf .olt x (broadcastInDim S1024 ![] bcast_S_S1024 r)) natLt_1_32) (constantI S_ 32 0#32) reducesTo_S1024_S_d0 h_S_
/-- A row filled with one literal. -/
def rlit (b : BitVec 32) : FVec F S128 .f32 := broadcastInDim S128 ![] bcast_S_S128 (constant S_ .f32 b)
/-- The uniforms on (-1, 1). -/
def runiform (b0 b1 : IVec S128 32) : FVec F S128 .f32 :=
  maximumf (rlit 0xBF7FFFFF#32) (addf (mulf (mulf (sitofp .f32 (Host.shrui (xori b0 b1) (broadcastInDim S128 ![] bcast_S_S128 (constantI S_ 32 9#32)))) (rlit 0x34000000#32))
    (broadcastInDim S128 ![] bcast_S_S128 (subf (constant S_ .f32 0x3F800000#32) (constant S_ .f32 0xBF7FFFFF#32)))) (rlit 0xBF7FFFFF#32))
/-- `-log (1 - x²)`. -/
def rlogw (x : FVec F S128 .f32) : FVec F S128 .f32 := Host.negf (Host.log1p (mulf (Host.negf x) x))
/-- A step of Horner's rule. -/
def rstep (c : BitVec 32) (w p : FVec F S128 .f32) : FVec F S128 .f32 := addf (rlit c) (mulf p w)
/-- The polynomial for the centre. -/
def rcenter (w : FVec F S128 .f32) : FVec F S128 .f32 :=
  rstep 0x3FC02E2F#32 w (rstep 0x3E7C8F63#32 w (rstep 0xBB88E4EF#32 w (rstep 0xBAA45408#32 w (rstep 0x396532DB#32 w
    (rstep 0xB6935AC1#32 w (rstep 0xB66C7357#32 w (rstep 0x34B84B36#32 w (rstep 0x32F16588#32 w (rlit 0x00000000#32)))))))))
/-- The polynomial for the tails. -/
def rtail (w : FVec F S128 .f32) : FVec F S128 .f32 :=
  rstep 0x40354F7E#32 w (rstep 0x3F8036DB#32 w (rstep 0x3C1AA57E#32 w (rstep 0xBBF9C5D7#32 w (rstep 0x3BBC127B#32 w (rstep 0xBB70BDE7#32 w
    (rstep 0x3AB0DC72#32 w (rstep 0x38D3B56B#32 w (rstep 0xB951F09B#32 w (rlit 0x00000000#32)))))))))
/-- The number or, were it negative, that plus 1024. -/
def wrapN (j : IVec S_ 32) : IVec S_ 32 := select (cmpi .slt j (constantI S_ 32 0#32)) (addi j (constantI S_ 32 1024#32)) j
/-- Zero or, were it negative, 128. -/
def zeroN : IVec S_ 32 := select (cmpi .slt (constantI S_ 32 0#32) (constantI S_ 32 0#32)) (addi (constantI S_ 32 0#32) (constantI S_ 32 128#32)) (constantI S_ 32 0#32)
/-- The mean numbered `j`. -/
def meanOf (x : FVec F S1024x128 .f32) (j : IVec S_ 32) : FVec F S128 .f32 :=
  shapeCast S128 (Host.dynamicSlice S1x128 x (fun k => ((![wrapN j, zeroN] : Fin 2 → IVec S_ 32) k (Shape.Idx.first h_S_)).toInt) sliceFits_S1024x128_S1x128) shapeCasts_S1x128_S128
/-- The covariance numbered `j`. -/
def covOf (x : FVec F S1024x128x128 .f32) (j : IVec S_ 32) : FVec F S128x128 .f32 :=
  shapeCast S128x128 (Host.dynamicSlice S1x128x128 x (fun k => ((![wrapN j, zeroN, zeroN] : Fin 3 → IVec S_ 32) k (Shape.Idx.first h_S_)).toInt) sliceFits_S1024x128x128_S1x128x128) shapeCasts_S1x128x128_S128x128

/-! ## The stretches -/

section
variable (V : Valuation τ sig (Elt F))

/-- What this stretch leaves in one buffer. -/
theorem read0_v6 : after hostOps0 V (Proc.devRef .tc main_v6) = seedWords (V (Proc.devRef .tc main_arg3)) := by
  after_reads_simp
  rfl
/-- What this stretch leaves in one buffer. -/
theorem read0_v9 : after hostOps0 V (Proc.devRef .tc main_v9) = shares (F := F) (V (Proc.devRef .tc main_arg2)) := by
  after_reads_simp
  rfl

/-- The operations before the first block function, and those after it. -/
def pre1 : List (HloOp τ sig (Elt F)) := hostOps0_1.take 13
/-- The operations of the stretch of the keys that follow the last round. -/
def post1 : List (HloOp τ sig (Elt F)) := hostOps0_1.drop 235
/-- The stretch of the keys in its parts. -/
theorem split1 : (hostOps0_1 : List (HloOp τ sig (Elt F))) = pre1 ++ (part1_1 ++ (part1_2 ++ (part1_3 ++ (part1_4 ++ (part1_5 ++ post1))))) := rfl
/-- The stretch of the random word of the index in its parts. -/
theorem split5 : (hostOps0_5 : List (HloOp τ sig (Elt F))) = part5_1 ++ (part5_2 ++ (part5_3 ++ (part5_4 ++ part5_5))) := rfl
/-- The stretch of the random words of the deviates in its parts. -/
theorem split7 : (hostOps0_7 : List (HloOp τ sig (Elt F))) = part7_1 ++ (part7_2 ++ (part7_3 ++ (part7_4 ++ part7_5))) := rfl

/-- What this stretch leaves in one buffer. -/
theorem pre1_v1 : after pre1 V (Proc.devRef .tc main_call0_v1) = fst2 (V (Proc.devRef .tc main_v6)) := by
  simp only [pre1, hostOps0_1, List.take_succ_cons, List.take_zero]
  after_reads_simp
  rfl
/-- What this stretch leaves in one buffer. -/
theorem pre1_v3 : after pre1 V (Proc.devRef .tc main_call0_v3) = snd2 (V (Proc.devRef .tc main_v6)) := by
  simp only [pre1, hostOps0_1, List.take_succ_cons, List.take_zero]
  after_reads_simp
  rfl
/-- What this stretch leaves in one buffer. -/
theorem pre1_v9 : after pre1 V (Proc.devRef .tc main_call0_v9) = lo2 := by
  simp only [pre1, hostOps0_1, List.take_succ_cons, List.take_zero]
  after_reads_simp
  rfl
/-- What this stretch leaves in one buffer. -/
theorem pre1_v10 : after pre1 V (Proc.devRef .tc main_call0_v10) = hi2 := by
  simp only [pre1, hostOps0_1, List.take_succ_cons, List.take_zero]
  after_reads_simp
  rfl
/-- What this stretch leaves in one buffer. -/
theorem post1_v10 : after post1 V (Proc.devRef .tc main_v10) = beside (V (Proc.devRef .tc main_call0_v11_0)) (V (Proc.devRef .tc main_call0_v11_1)) := by
  simp only [post1, hostOps0_1, List.drop_succ_cons, List.drop_zero]
  after_reads_simp
  rfl
/-- The block function of one key at the numbers below 2. -/
def keys (x : IVec S2 32) : P2 S2 := htf (broadcastInDim S2 ![] bcast_S_S2 (fst2 x)) (broadcastInDim S2 ![] bcast_S_S2 (snd2 x)) (broadcastInDim S2 ![] bcast_S_S2 (hkey (fst2 x) (snd2 x))) (hi2, lo2)
/-- What the stretch of the keys leaves: the two keys, side by side. -/
theorem read1 : after hostOps0_1 V (Proc.devRef .tc main_v10) = beside (keys (V (Proc.devRef .tc main_v6))).1 (keys (V (Proc.devRef .tc main_v6))).2 := by
  rw [split1]
  simp only [StableHlo.after_append]
  rw [post1_v10]
  have h := words1 (after pre1 V)
  rw [pre1_v1, pre1_v3, pre1_v9, pre1_v10] at h
  rw [show keys (V (Proc.devRef .tc main_v6)) = _ from h.symm]

/-- What this stretch leaves in one buffer. -/
theorem read2_v12 : after hostOps0_2 V (Proc.devRef .tc main_v12) = row0 (V (Proc.devRef .tc main_v10)) := by
  after_reads_simp
  rfl
/-- What this stretch leaves in one buffer. -/
theorem read2_v14 : after hostOps0_2 V (Proc.devRef .tc main_v14) = row1 (V (Proc.devRef .tc main_v10)) := by
  after_reads_simp
  rfl
/-- What the stretch of the cumulative sums leaves. -/
theorem read3 : after hostOps0_3 V (Proc.devRef .tc main_v15) = sums (F := F) (V (Proc.devRef .tc main_v9)) := by
  after_reads_simp
  rfl
/-- What this stretch leaves in one buffer. -/
theorem read4_v17 : after hostOps0_4 V (Proc.devRef .tc main_v17) = last (F := F) (V (Proc.devRef .tc main_v15)) := by
  after_reads_simp
  rfl
/-- What this stretch leaves in one buffer. -/
theorem read4_v19 : after hostOps0_4 V (Proc.devRef .tc main_v19) = fst2 (V (Proc.devRef .tc main_v12)) := by
  after_reads_simp
  rfl
/-- What this stretch leaves in one buffer. -/
theorem read4_v21 : after hostOps0_4 V (Proc.devRef .tc main_v21) = snd2 (V (Proc.devRef .tc main_v12)) := by
  after_reads_simp
  rfl
/-- What this stretch leaves in one buffer. -/
theorem read4_c1 : after hostOps0_4 V (Proc.devRef .tc main_c_1) = constantI S_ 32 0#32 := by
  after_reads_simp
/-- What this stretch leaves in one buffer. -/
theorem read4_c2 : after hostOps0_4 V (Proc.devRef .tc main_c_2) = constantI S_ 32 0#32 := by
  after_reads_simp
/-- What the stretch of the random word of the index leaves. -/
theorem read5 : (after hostOps0_5 V (Proc.devRef .tc main_v22_0), after hostOps0_5 V (Proc.devRef .tc main_v22_1))
    = htf (V (Proc.devRef .tc main_v19)) (V (Proc.devRef .tc main_v21)) (hkey (V (Proc.devRef .tc main_v19)) (V (Proc.devRef .tc main_v21))) (V (Proc.devRef .tc main_c_1), V (Proc.devRef .tc main_c_2)) := by
  rw [split5]
  simp only [StableHlo.after_append]
  exact words5 V
/-- What this stretch leaves in one buffer. -/
theorem read6_v33 : after hostOps0_6 V (Proc.devRef .tc main_v33)
    = counted (F := F) (V (Proc.devRef .tc main_v15)) (thresh (V (Proc.devRef .tc main_v22_0)) (V (Proc.devRef .tc main_v22_1)) (V (Proc.devRef .tc main_v17))) := by
  after_reads_simp
  rfl
/-- What this stretch leaves in one buffer. -/
theorem read6_v35 : after hostOps0_6 V (Proc.devRef .tc main_v35) = fst2 (V (Proc.devRef .tc main_v14)) := by
  after_reads_simp
  rfl
/-- What this stretch leaves in one buffer. -/
theorem read6_v37 : after hostOps0_6 V (Proc.devRef .tc main_v37) = snd2 (V (Proc.devRef .tc main_v14)) := by
  after_reads_simp
  rfl
/-- What this stretch leaves in one buffer. -/
theorem read6_v43 : after hostOps0_6 V (Proc.devRef .tc main_v43) = lo128 := by
  after_reads_simp
  rfl
/-- What this stretch leaves in one buffer. -/
theorem read6_v44 : after hostOps0_6 V (Proc.devRef .tc main_v44) = hi128 := by
  after_reads_simp
  rfl
/-- What the stretch of the random words of the deviates leaves. -/
theorem read7 : (after hostOps0_7 V (Proc.devRef .tc main_v45_0), after hostOps0_7 V (Proc.devRef .tc main_v45_1))
    = htf (broadcastInDim S128 ![] bcast_S_S128 (V (Proc.devRef .tc main_v35))) (broadcastInDim S128 ![] bcast_S_S128 (V (Proc.devRef .tc main_v37)))
        (broadcastInDim S128 ![] bcast_S_S128 (hkey (V (Proc.devRef .tc main_v35)) (V (Proc.devRef .tc main_v37)))) (V (Proc.devRef .tc main_v44), V (Proc.devRef .tc main_v43)) := by
  rw [split7]
  simp only [StableHlo.after_append]
  exact words7 V

/-- The uniforms and their logarithms, the polynomial for the centre, that for the tails, and the comparison. -/
def part8_1 : List (HloOp τ sig (Elt F)) := hostOps0_8.take 24
/-- The operations of the central polynomial. -/
def part8_2 : List (HloOp τ sig (Elt F)) := (hostOps0_8.take 89).drop 24
/-- The operations of the polynomial of the tails. -/
def part8_3 : List (HloOp τ sig (Elt F)) := (hostOps0_8.take 163).drop 89
/-- The operations that compare and select. -/
def part8_4 : List (HloOp τ sig (Elt F)) := hostOps0_8.drop 163
/-- The stretch of the inverse error function in its parts. -/
theorem split8 : (hostOps0_8 : List (HloOp τ sig (Elt F))) = part8_1 ++ (part8_2 ++ (part8_3 ++ part8_4)) := rfl

/-- What this stretch leaves in one buffer. -/
theorem part8_1_v59 : after part8_1 V (Proc.devRef .tc main_v59) = runiform (F := F) (V (Proc.devRef .tc main_v45_0)) (V (Proc.devRef .tc main_v45_1)) := by
  simp only [part8_1, hostOps0_8, List.take_succ_cons, List.take_zero]
  after_reads_simp
  rfl
/-- What this stretch leaves in one buffer. -/
theorem part8_1_v63 : after part8_1 V (Proc.devRef .tc main_v63) = rlogw (F := F) (runiform (V (Proc.devRef .tc main_v45_0)) (V (Proc.devRef .tc main_v45_1))) := by
  simp only [part8_1, hostOps0_8, List.take_succ_cons, List.take_zero]
  after_reads_simp
  rfl
/-- What this stretch leaves in one buffer. -/
theorem part8_2_v109 : after part8_2 V (Proc.devRef .tc main_v109) = rcenter (F := F) (subf (V (Proc.devRef .tc main_v63)) (rlit 0x40200000#32)) := by
  simp only [part8_2, hostOps0_8, List.drop_succ_cons, List.take_succ_cons, List.drop_zero, List.take_zero]
  after_reads_simp
  rfl
/-- What this stretch leaves in one buffer. -/
theorem part8_2_v63 : after part8_2 V (Proc.devRef .tc main_v63) = V (Proc.devRef .tc main_v63) := by
  simp only [part8_2, hostOps0_8, List.drop_succ_cons, List.take_succ_cons, List.drop_zero, List.take_zero]
  after_reads_simp
/-- What this stretch leaves in one buffer. -/
theorem part8_2_v59 : after part8_2 V (Proc.devRef .tc main_v59) = V (Proc.devRef .tc main_v59) := by
  simp only [part8_2, hostOps0_8, List.drop_succ_cons, List.take_succ_cons, List.drop_zero, List.take_zero]
  after_reads_simp
/-- What this stretch leaves in one buffer. -/
theorem part8_3_v164 : after part8_3 V (Proc.devRef .tc main_v164) = rtail (F := F) (subf (Host.sqrt (V (Proc.devRef .tc main_v63) : FVec F S128 .f32)) (rlit 0x40400000#32)) := by
  simp only [part8_3, hostOps0_8, List.drop_succ_cons, List.take_succ_cons, List.drop_zero, List.take_zero]
  after_reads_simp
  rfl
/-- What this stretch leaves in one buffer. -/
theorem part8_3_v63 : after part8_3 V (Proc.devRef .tc main_v63) = V (Proc.devRef .tc main_v63) := by
  simp only [part8_3, hostOps0_8, List.drop_succ_cons, List.take_succ_cons, List.drop_zero, List.take_zero]
  after_reads_simp
/-- What this stretch leaves in one buffer. -/
theorem part8_3_v59 : after part8_3 V (Proc.devRef .tc main_v59) = V (Proc.devRef .tc main_v59) := by
  simp only [part8_3, hostOps0_8, List.drop_succ_cons, List.take_succ_cons, List.drop_zero, List.take_zero]
  after_reads_simp
/-- What this stretch leaves in one buffer. -/
theorem part8_3_v109 : after part8_3 V (Proc.devRef .tc main_v109) = V (Proc.devRef .tc main_v109) := by
  simp only [part8_3, hostOps0_8, List.drop_succ_cons, List.take_succ_cons, List.drop_zero, List.take_zero]
  after_reads_simp
/-- What this stretch leaves in one buffer. -/
theorem part8_4_v166 : after part8_4 V (Proc.devRef .tc main_v166) = cmpf .olt (V (Proc.devRef .tc main_v63) : FVec F S128 .f32) (rlit 0x40A00000#32) := by
  simp only [part8_4, hostOps0_8, List.drop_succ_cons, List.drop_zero]
  after_reads_simp
  rfl
/-- What this stretch leaves in one buffer. -/
theorem part8_4_v59 : after part8_4 V (Proc.devRef .tc main_v59) = V (Proc.devRef .tc main_v59) := by
  simp only [part8_4, hostOps0_8, List.drop_succ_cons, List.drop_zero]
  after_reads_simp
/-- What this stretch leaves in one buffer. -/
theorem part8_4_v109 : after part8_4 V (Proc.devRef .tc main_v109) = V (Proc.devRef .tc main_v109) := by
  simp only [part8_4, hostOps0_8, List.drop_succ_cons, List.drop_zero]
  after_reads_simp
/-- What this stretch leaves in one buffer. -/
theorem part8_4_v164 : after part8_4 V (Proc.devRef .tc main_v164) = V (Proc.devRef .tc main_v164) := by
  simp only [part8_4, hostOps0_8, List.drop_succ_cons, List.drop_zero]
  after_reads_simp

/-- What this stretch leaves in one buffer. -/
theorem read8_v59 : after hostOps0_8 V (Proc.devRef .tc main_v59) = runiform (F := F) (V (Proc.devRef .tc main_v45_0)) (V (Proc.devRef .tc main_v45_1)) := by
  rw [split8]
  simp only [StableHlo.after_append]
  rw [part8_4_v59, part8_3_v59, part8_2_v59, part8_1_v59]
/-- What this stretch leaves in one buffer. -/
theorem read8_v109 : after hostOps0_8 V (Proc.devRef .tc main_v109)
    = rcenter (F := F) (subf (rlogw (runiform (V (Proc.devRef .tc main_v45_0)) (V (Proc.devRef .tc main_v45_1)))) (rlit 0x40200000#32)) := by
  rw [split8]
  simp only [StableHlo.after_append]
  rw [part8_4_v109, part8_3_v109, part8_2_v109, part8_1_v63]
/-- What this stretch leaves in one buffer. -/
theorem read8_v164 : after hostOps0_8 V (Proc.devRef .tc main_v164)
    = rtail (F := F) (subf (Host.sqrt (rlogw (runiform (V (Proc.devRef .tc main_v45_0)) (V (Proc.devRef .tc main_v45_1))))) (rlit 0x40400000#32)) := by
  rw [split8]
  simp only [StableHlo.after_append]
  rw [part8_4_v164, part8_3_v164, part8_2_v63, part8_1_v63]
/-- What this stretch leaves in one buffer. -/
theorem read8_v166 : after hostOps0_8 V (Proc.devRef .tc main_v166)
    = cmpf .olt (rlogw (F := F) (runiform (V (Proc.devRef .tc main_v45_0)) (V (Proc.devRef .tc main_v45_1)))) (rlit 0x40A00000#32) := by
  rw [split8]
  simp only [StableHlo.after_append]
  rw [part8_4_v166, part8_3_v63, part8_2_v63, part8_1_v63]

/-- What the stretch of the selection leaves: one of the two polynomials. -/
theorem read9 : after hostOps0_9 V (Proc.devRef .tc main_v167) = select (V (Proc.devRef .tc main_v166)) (V (Proc.devRef .tc main_v109) : FVec F S128 .f32) (V (Proc.devRef .tc main_v164)) := by
  after_reads_simp
  rfl
/-- What this stretch leaves in one buffer. -/
theorem read10_v170 : after hostOps0_10 V (Proc.devRef .tc main_v170) = mulf (rlit (F := F) 0x3FB504F3#32) (mulf (V (Proc.devRef .tc main_v167)) (V (Proc.devRef .tc main_v59))) := by
  after_reads_simp
  rfl
/-- What this stretch leaves in one buffer. -/
theorem read10_v192_1 : after hostOps0_10 V (Proc.devRef .tc main_v192_1) = iotaInDim S128 32 0 := by
  after_reads_simp
  rfl
/-- What this stretch leaves in one buffer. -/
theorem read10_v192_3 : after hostOps0_10 V (Proc.devRef .tc main_v192_3) = (fun _ => 0#32 : IVec S_ 32) := by
  after_reads_simp
  rfl
/-- What this stretch leaves in one buffer. -/
theorem read10_v192_4 : after hostOps0_10 V (Proc.devRef .tc main_v192_4) = broadcastInDim S128x128 ![] bcast_S_S128x128 (constant (F := F) S_ .f32 0x00000000#32) := by
  after_reads_simp
  rfl

end

end Cert.ReferenceIdeal.Hand

end
-- ==== Proof.RefEntry.lean ====
/-
  What the reference's operations before the loop make of the contents before each stretch of them.
-/
module

public import proofs.«01_k».proof.Proof.RefRead

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.StableHlo

variable {F : FTy → Type} [FloatOps F]

section
variable (V : Valuation τ sig (Elt F))

/-- The row of the means at the index, read after the last stretch. -/
theorem read10_v178 : after hostOps0_10 V (Proc.devRef .tc main_v178) = meanOf (F := F) (V (Proc.devRef .tc main_arg0)) (V (Proc.devRef .tc main_v33)) := by
  after_reads_simp [unaryIndexed_result_read, indexContents_cons, indexContents_empty]
  rfl
/-- The covariance matrix at the index, read after the last stretch. -/
theorem read10_v192_0 : after hostOps0_10 V (Proc.devRef .tc main_v192_0) = covOf (F := F) (V (Proc.devRef .tc main_arg1)) (V (Proc.devRef .tc main_v33)) := by
  after_reads_simp [unaryIndexed_result_read, indexContents_cons, indexContents_empty]
  rfl

end

/-! ## The values from the arguments -/

/-- The keys of the component's draw and of the normals' draw. -/
def rkeyI (s : IVec S_ 32) : IVec S2 32 := row0 (beside (keys (seedWords s)).1 (keys (seedWords s)).2)
/-- The key of the deviates, from the seed. -/
def rkeyS (s : IVec S_ 32) : IVec S2 32 := row1 (beside (keys (seedWords s)).1 (keys (seedWords s)).2)
/-- The words of the component's draw. -/
def rwordI (s : IVec S_ 32) : P2 S_ :=
  htf (fst2 (rkeyI s)) (snd2 (rkeyI s)) (hkey (fst2 (rkeyI s)) (snd2 (rkeyI s))) (constantI S_ 32 0#32, constantI S_ 32 0#32)
/-- The words of the normals' draw. -/
def rwordsS (s : IVec S_ 32) : P2 S128 :=
  htf (broadcastInDim S128 ![] bcast_S_S128 (fst2 (rkeyS s))) (broadcastInDim S128 ![] bcast_S_S128 (snd2 (rkeyS s)))
    (broadcastInDim S128 ![] bcast_S_S128 (hkey (fst2 (rkeyS s)) (snd2 (rkeyS s)))) (hi128, lo128)
/-- The component drawn. -/
def rindex (s : IVec S_ 32) (w : FVec F S1024 .f32) : IVec S_ 32 :=
  counted (sums (shares w)) (thresh (rwordI s).1 (rwordI s).2 (last (sums (shares w))))
/-- The normals of two arrays of words. -/
def rnormals (b : P2 S128) : FVec F S128 .f32 :=
  mulf (rlit 0x3FB504F3#32) (mulf (select (cmpf .olt (rlogw (F := F) (runiform b.1 b.2)) (rlit 0x40A00000#32))
    (rcenter (subf (rlogw (runiform b.1 b.2)) (rlit 0x40200000#32))) (rtail (subf (Host.sqrt (rlogw (runiform b.1 b.2))) (rlit 0x40400000#32)))) (runiform b.1 b.2))

section
variable (m : (ℓ : Loc nD τ sig) → Buf (Elt F) ℓ) (c : Dev nD)

/-- The contents after 1 stretches. -/
def st1 : Valuation τ sig (Elt F) := after hostOps0 (launchContents m c)
/-- The contents after 2 stretches. -/
def st2 : Valuation τ sig (Elt F) := after hostOps0_1 (st1 m c)
/-- The contents after 3 stretches. -/
def st3 : Valuation τ sig (Elt F) := after hostOps0_2 (st2 m c)
/-- The contents after 4 stretches. -/
def st4 : Valuation τ sig (Elt F) := after hostOps0_3 (st3 m c)
/-- The contents after 5 stretches. -/
def st5 : Valuation τ sig (Elt F) := after hostOps0_4 (st4 m c)
/-- The contents after 6 stretches. -/
def st6 : Valuation τ sig (Elt F) := after hostOps0_5 (st5 m c)
/-- The contents after 7 stretches. -/
def st7 : Valuation τ sig (Elt F) := after hostOps0_6 (st6 m c)
/-- The contents after 8 stretches. -/
def st8 : Valuation τ sig (Elt F) := after hostOps0_7 (st7 m c)
/-- The contents after 9 stretches. -/
def st9 : Valuation τ sig (Elt F) := after hostOps0_8 (st8 m c)
/-- The contents after 10 stretches. -/
def st10 : Valuation τ sig (Elt F) := after hostOps0_9 (st9 m c)
/-- The loop is entered with what the last stretch leaves. -/
theorem entry_eq : entryContents preI m c = after hostOps0_10 (st10 m c) := rfl

/-- The arguments. -/
def argSeed : IVec S_ 32 := m ((c.tc : Thread nD τ).loc main_arg3)
/-- The weights that the program starts with. -/
def argWts : FVec F S1024 .f32 := m ((c.tc : Thread nD τ).loc main_arg2)
/-- The means that the program starts with. -/
def argMean : FVec F S1024x128 .f32 := m ((c.tc : Thread nD τ).loc main_arg0)
/-- The covariances that the program starts with. -/
def argCov : FVec F S1024x128x128 .f32 := m ((c.tc : Thread nD τ).loc main_arg1)

/-- The stretches between leave this buffer as it is. -/
theorem keep_v9_1_3 : st3 m c (Proc.devRef .tc main_v9) = st1 m c (Proc.devRef .tc main_v9) := by
  unfold st3 st2
  rw [after_of_writes_sub hostOps0_2 _ hostOps0_2_writes (by decide +kernel), after_of_writes_sub hostOps0_1 _ hostOps0_1_writes (by decide +kernel)]
/-- The stretches between leave this buffer as it is. -/
theorem keep_v12_3_4 : st4 m c (Proc.devRef .tc main_v12) = st3 m c (Proc.devRef .tc main_v12) := by
  unfold st4
  rw [after_of_writes_sub hostOps0_3 _ hostOps0_3_writes (by decide +kernel)]
/-- The stretches between leave this buffer as it is. -/
theorem keep_v14_3_6 : st6 m c (Proc.devRef .tc main_v14) = st3 m c (Proc.devRef .tc main_v14) := by
  unfold st6 st5 st4
  rw [after_of_writes_sub hostOps0_5 _ hostOps0_5_writes (by decide +kernel), after_of_writes_sub hostOps0_4 _ hostOps0_4_writes (by decide +kernel), after_of_writes_sub hostOps0_3 _ hostOps0_3_writes (by decide +kernel)]
/-- The stretches between leave this buffer as it is. -/
theorem keep_v15_4_6 : st6 m c (Proc.devRef .tc main_v15) = st4 m c (Proc.devRef .tc main_v15) := by
  unfold st6 st5
  rw [after_of_writes_sub hostOps0_5 _ hostOps0_5_writes (by decide +kernel), after_of_writes_sub hostOps0_4 _ hostOps0_4_writes (by decide +kernel)]
/-- The stretches between leave this buffer as it is. -/
theorem keep_v17_5_6 : st6 m c (Proc.devRef .tc main_v17) = st5 m c (Proc.devRef .tc main_v17) := by
  unfold st6
  rw [after_of_writes_sub hostOps0_5 _ hostOps0_5_writes (by decide +kernel)]
/-- The stretches between leave this buffer as it is. -/
theorem keep_v33_7_10 : st10 m c (Proc.devRef .tc main_v33) = st7 m c (Proc.devRef .tc main_v33) := by
  unfold st10 st9 st8
  rw [after_of_writes_sub hostOps0_9 _ hostOps0_9_writes (by decide +kernel), after_of_writes_sub hostOps0_8 _ hostOps0_8_writes (by decide +kernel), after_of_writes_sub hostOps0_7 _ hostOps0_7_writes (by decide +kernel)]
/-- The stretches between leave this buffer as it is. -/
theorem keep_v59_9_10 : st10 m c (Proc.devRef .tc main_v59) = st9 m c (Proc.devRef .tc main_v59) := by
  unfold st10
  rw [after_of_writes_sub hostOps0_9 _ hostOps0_9_writes (by decide +kernel)]
/-- The stretches between leave this buffer as it is. -/
theorem keep_arg0_0_10 : st10 m c (Proc.devRef .tc main_arg0) = launchContents m c (Proc.devRef .tc main_arg0) := by
  unfold st10 st9 st8 st7 st6 st5 st4 st3 st2 st1
  rw [after_of_writes_sub hostOps0_9 _ hostOps0_9_writes (by decide +kernel), after_of_writes_sub hostOps0_8 _ hostOps0_8_writes (by decide +kernel), after_of_writes_sub hostOps0_7 _ hostOps0_7_writes (by decide +kernel), after_of_writes_sub hostOps0_6 _ hostOps0_6_writes (by decide +kernel), after_of_writes_sub hostOps0_5 _ hostOps0_5_writes (by decide +kernel), after_of_writes_sub hostOps0_4 _ hostOps0_4_writes (by decide +kernel), after_of_writes_sub hostOps0_3 _ hostOps0_3_writes (by decide +kernel), after_of_writes_sub hostOps0_2 _ hostOps0_2_writes (by decide +kernel), after_of_writes_sub hostOps0_1 _ hostOps0_1_writes (by decide +kernel), after_of_writes_sub hostOps0 _ hostOps0_writes (by decide +kernel)]
/-- The stretches between leave this buffer as it is. -/
theorem keep_arg1_0_10 : st10 m c (Proc.devRef .tc main_arg1) = launchContents m c (Proc.devRef .tc main_arg1) := by
  unfold st10 st9 st8 st7 st6 st5 st4 st3 st2 st1
  rw [after_of_writes_sub hostOps0_9 _ hostOps0_9_writes (by decide +kernel), after_of_writes_sub hostOps0_8 _ hostOps0_8_writes (by decide +kernel), after_of_writes_sub hostOps0_7 _ hostOps0_7_writes (by decide +kernel), after_of_writes_sub hostOps0_6 _ hostOps0_6_writes (by decide +kernel), after_of_writes_sub hostOps0_5 _ hostOps0_5_writes (by decide +kernel), after_of_writes_sub hostOps0_4 _ hostOps0_4_writes (by decide +kernel), after_of_writes_sub hostOps0_3 _ hostOps0_3_writes (by decide +kernel), after_of_writes_sub hostOps0_2 _ hostOps0_2_writes (by decide +kernel), after_of_writes_sub hostOps0_1 _ hostOps0_1_writes (by decide +kernel), after_of_writes_sub hostOps0 _ hostOps0_writes (by decide +kernel)]

/-- After its stretch: the two words of the seed. -/
theorem st1_v6 : st1 m c (Proc.devRef .tc main_v6) = seedWords (argSeed m c) := read0_v6 _
/-- After its stretch: the shares of the weights. -/
theorem st1_v9 : st1 m c (Proc.devRef .tc main_v9) = shares (argWts m c) := read0_v9 _
/-- After its stretch: the two keys. -/
theorem st2_v10 : st2 m c (Proc.devRef .tc main_v10) = beside (keys (seedWords (argSeed m c))).1 (keys (seedWords (argSeed m c))).2 := by
  unfold st2
  rw [read1, st1_v6]
/-- After its stretch: the key of the index. -/
theorem st3_v12 : st3 m c (Proc.devRef .tc main_v12) = rkeyI (argSeed m c) := by
  unfold st3
  rw [read2_v12, st2_v10]
  rfl
/-- After its stretch: the key of the deviates. -/
theorem st3_v14 : st3 m c (Proc.devRef .tc main_v14) = rkeyS (argSeed m c) := by
  unfold st3
  rw [read2_v14, st2_v10]
  rfl
/-- After its stretch: the cumulative sums. -/
theorem st4_v15 : st4 m c (Proc.devRef .tc main_v15) = sums (shares (argWts m c)) := by
  unfold st4
  rw [read3, keep_v9_1_3, st1_v9]
/-- After its stretch: the last cumulative sum. -/
theorem st5_v17 : st5 m c (Proc.devRef .tc main_v17) = last (sums (shares (argWts m c))) := by
  unfold st5
  rw [read4_v17, st4_v15]
/-- After its stretch: the first word of the key of the index. -/
theorem st5_v19 : st5 m c (Proc.devRef .tc main_v19) = fst2 (rkeyI (argSeed m c)) := by
  unfold st5
  rw [read4_v19, keep_v12_3_4, st3_v12]
/-- After its stretch: the second word of the key of the index. -/
theorem st5_v21 : st5 m c (Proc.devRef .tc main_v21) = snd2 (rkeyI (argSeed m c)) := by
  unfold st5
  rw [read4_v21, keep_v12_3_4, st3_v12]
/-- After its stretch: the two words drawn for the index. -/
theorem st6_v22 : (st6 m c (Proc.devRef .tc main_v22_0), st6 m c (Proc.devRef .tc main_v22_1)) = rwordI (argSeed m c) := by
  unfold st6
  rw [read5, st5_v19, st5_v21]
  unfold st5
  rw [read4_c1, read4_c2]
  rfl
/-- After its stretch: the index. -/
theorem st7_v33 : st7 m c (Proc.devRef .tc main_v33) = rindex (argSeed m c) (argWts m c) := by
  unfold st7
  rw [read6_v33, keep_v15_4_6, st4_v15, keep_v17_5_6, st5_v17]
  unfold rindex
  rw [← st6_v22]
/-- After its stretch: the first word of the key of the deviates. -/
theorem st7_v35 : st7 m c (Proc.devRef .tc main_v35) = fst2 (rkeyS (argSeed m c)) := by
  unfold st7
  rw [read6_v35, keep_v14_3_6, st3_v14]
/-- After its stretch: the second word of the key of the deviates. -/
theorem st7_v37 : st7 m c (Proc.devRef .tc main_v37) = snd2 (rkeyS (argSeed m c)) := by
  unfold st7
  rw [read6_v37, keep_v14_3_6, st3_v14]
/-- After its stretch: the words drawn for the deviates. -/
theorem st8_v45 : (st8 m c (Proc.devRef .tc main_v45_0), st8 m c (Proc.devRef .tc main_v45_1)) = rwordsS (argSeed m c) := by
  unfold st8
  rw [read7, st7_v35, st7_v37]
  unfold st7
  rw [read6_v43, read6_v44]
  rfl
/-- After its stretch: the choice between the two polynomials. -/
theorem st10_v167 : st10 m c (Proc.devRef .tc main_v167)
    = select (cmpf .olt (rlogw (F := F) (runiform (rwordsS (argSeed m c)).1 (rwordsS (argSeed m c)).2)) (rlit 0x40A00000#32))
        (rcenter (subf (rlogw (runiform (rwordsS (argSeed m c)).1 (rwordsS (argSeed m c)).2)) (rlit 0x40200000#32)))
        (rtail (subf (Host.sqrt (rlogw (runiform (rwordsS (argSeed m c)).1 (rwordsS (argSeed m c)).2))) (rlit 0x40400000#32))) := by
  unfold st10
  rw [read9]
  unfold st9
  rw [read8_v166, read8_v109, read8_v164, ← st8_v45]
/-- After its stretch: the uniform numbers of the deviates. -/
theorem st10_v59 : st10 m c (Proc.devRef .tc main_v59) = runiform (F := F) (rwordsS (argSeed m c)).1 (rwordsS (argSeed m c)).2 := by
  rw [keep_v59_9_10]
  unfold st9
  rw [read8_v59, ← st8_v45]

/-! ## What the loop is entered with -/

/-- The loop is entered with the deviates in their buffer. -/
theorem entry_v170 : entryContents preI m c (Proc.devRef .tc main_v170) = rnormals (F := F) (rwordsS (argSeed m c)) := by
  rw [entry_eq, read10_v170, st10_v167, st10_v59]
  rfl
/-- The loop is entered with the mean at the index in its buffer. -/
theorem entry_v178 : entryContents preI m c (Proc.devRef .tc main_v178) = meanOf (F := F) (argMean m c) (rindex (argSeed m c) (argWts m c)) := by
  rw [entry_eq, read10_v178, keep_v33_7_10, st7_v33, keep_arg0_0_10]
  rfl
/-- The loop is entered with the covariance at the index in its buffer. -/
theorem entry_v192_0 : entryContents preI m c (Proc.devRef .tc main_v192_0) = covOf (F := F) (argCov m c) (rindex (argSeed m c) (argWts m c)) := by
  rw [entry_eq, read10_v192_0, keep_v33_7_10, st7_v33, keep_arg1_0_10]
  rfl
/-- The loop is entered with the row numbers in their buffer. -/
theorem entry_v192_1 : entryContents preI m c (Proc.devRef .tc main_v192_1) = iotaInDim S128 32 0 := by
  rw [entry_eq, read10_v192_1]
/-- The loop is entered with column number zero. -/
theorem entry_v192_3 : entryContents preI m c (Proc.devRef .tc main_v192_3) = (fun _ => 0#32 : IVec S_ 32) := by
  rw [entry_eq, read10_v192_3]
/-- The loop is entered with a matrix of zeros. -/
theorem entry_v192_4 : entryContents preI m c (Proc.devRef .tc main_v192_4) = broadcastInDim S128x128 ![] bcast_S_S128x128 (constant (F := F) S_ .f32 0x00000000#32) := by
  rw [entry_eq, read10_v192_4]

end

end Cert.ReferenceIdeal.Hand

end
-- ==== Proof.RefLoop.lean ====
/-
  The reference's loop over the columns, over the extended reals: of a product of a lower triangular matrix with its transpose it
  finds the lower triangular matrix, and the sample is the mean plus that matrix's product with the normals.
-/
module

public import proofs.«01_k».proof.Proof.RefRun
public import proofs.«01_k».proof.Proof.Chol
public import Idealize.ShloMosaic.Lib.Pointwise
public import Idealize.ShloMosaic.Lib.StableHlo.RunRead

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.StableHlo
open Cert.Chol

/-- The column's number or, were it negative, that plus 128. -/
def wrap (j : IVec S_ 32) : IVec S_ 32 := select (cmpi .slt j (constantI S_ 32 0#32)) (addi j (constantI S_ 32 128#32)) j
/-- Column `j`'s remainder. -/
def restV (a l : FVec Ideal S128x128 .f32) (j : IVec S_ 32) : FVec Ideal S128 .f32 :=
  subf (shapeCast S128 (Host.dynamicSlice S128x1 a (fun k => (((![wrap (constantI S_ 32 0#32), wrap j] : Fin 2 → IVec S_ 32)) k (Shape.Idx.first h_S_)).toInt) sliceFits_S128x128_S128x1) shapeCasts_S128x1_S128)
    (Host.dotGeneral dot_S128x128_S128_S128_1_0_0_n_n_n none l (shapeCast S128 (Host.dynamicSlice S1x128 l (fun k => (((![wrap j, wrap (constantI S_ 32 0#32)] : Fin 2 → IVec S_ 32)) k (Shape.Idx.first h_S_)).toInt) sliceFits_S128x128_S1x128) shapeCasts_S1x128_S128))
/-- The factor with column `j` filled in. -/
def fill (a l : FVec Ideal S128x128 .f32) (r : IVec S128 32) (j : IVec S_ 32) : FVec Ideal S128x128 .f32 :=
  select (broadcastInDim S128x128 ![0, 1] bcast_S1x128_S128x128_0_1 (cmpi .eq (broadcastInDim S1x128 ![1] bcast_S128_S1x128_1 r) (broadcastInDim S1x128 ![] bcast_S_S1x128 j)))
    (broadcastInDim S128x128 ![0, 1] bcast_S128x1_S128x128_0_1 (broadcastInDim S128x1 ![0] bcast_S128_S128x1_0
      (select (cmpi .sge r (broadcastInDim S128 ![] bcast_S_S128 j))
        (Host.divf (restV a l j) (broadcastInDim S128 ![] bcast_S_S128 (Host.sqrt (shapeCast S_ (Host.dynamicSlice S1 (restV a l j) (fun k => (((![wrap j] : Fin 1 → IVec S_ 32)) k (Shape.Idx.first h_S_)).toInt) sliceFits_S128_S1) shapeCasts_S1_S_))))
        (broadcastInDim S128 ![] bcast_S_S128 (constant S_ .f32 0x00000000#32))))) l

/-- The printed body of the loop writes the column that `fill` writes. -/
theorem step_eq (V0 : Valuation τ sig (Elt Ideal)) : step_main_v192_4 V0
    = fill (V0 (Proc.devRef .tc main_v192_0)) (V0 (Proc.devRef .tc main_v192_4)) (V0 (Proc.devRef .tc main_v192_1)) (V0 (Proc.devRef .tc main_v192_3)) := rfl

/-- A column number that is not negative is not moved. -/
theorem wrap_word (n : Fin 128) : wrap (fun _ => BitVec.ofNat 32 n.val) = fun _ => BitVec.ofNat 32 n.val := by
  have h : ∀ n : Fin 128, Scalar.select (IntOp.cmpi .slt (BitVec.ofNat 32 n.val) 0#32) (IntOp.addi (BitVec.ofNat 32 n.val) 128#32) (BitVec.ofNat 32 n.val) = BitVec.ofNat 32 n.val := by
    decide +kernel
  funext i
  exact h n

/-- A start within its bounds is not moved. -/
theorem clamp_word (n m : ℕ) (h : n ≤ m) (hm : m < 2048) : (min (max (BitVec.ofNat 32 n).toInt 0) (m : Int)).toNat = n := by
  have e : (BitVec.ofNat 32 n).toInt = n := by
    rw [BitVec.toInt_eq_toNat_of_lt (by rw [BitVec.toNat_ofNat, Nat.mod_eq_of_lt (by omega)]; omega), BitVec.toNat_ofNat, Nat.mod_eq_of_lt (by omega)]
  rw [e]
  omega

/-- Entry i of the rest of column n: the matrix less the product of the rows of the columns so far. -/
theorem restV_apply (a l : FVec Ideal S128x128 .f32) (n i : Fin 128) : restV a l (fun _ => BitVec.ofNat 32 n.val) (ix1 i)
    = a (ix2 i n) - ∑ k : Fin 128, l (ix2 i k) * l (ix2 n k) := by
  unfold restV
  rw [wrap_word, show wrap (constantI S_ 32 0#32) = fun _ => 0#32 from wrap_word 0]
  have q := clamp_word n.val 127 (by omega) (by decide)
  have q0 : ∀ m : ℕ, (min (max (0#32).toInt 0) (m : Int)).toNat = 0 := by intro m; simp
  pointwise []
  have u : ∀ (x y : Fin 128), x.val = i.val → y.val = n.val → a (ix2 x y) = a (ix2 i n) := by
    intro x y h1 h2
    rw [Fin.ext h1, Fin.ext h2]
  have w : ∀ (k x y : Fin 128), x.val = n.val → y.val = k.val → l (ix2 x y) = l (ix2 n k) := by
    intro k x y h1 h2
    rw [Fin.ext h1, Fin.ext h2]
  congr 1
  · refine u _ _ ?_ q
    show (min (max (0#32).toInt 0) ((0 : ℕ) : Int)).toNat + i.val = i.val
    rw [q0, Nat.zero_add]
  · refine Finset.sum_congr rfl fun k _ => ?_
    congr 1
    refine w k _ _ q ?_
    show (min (max (0#32).toInt 0) ((0 : ℕ) : Int)).toNat + k.val = k.val
    rw [q0, Nat.zero_add]

/-- The matrix after one round: the new column where the column number is n, what was there elsewhere. -/
theorem fill_apply (a l : FVec Ideal S128x128 .f32) (r : IVec S128 32) (n i k : Fin 128) : fill a l r (fun _ => BitVec.ofNat 32 n.val) (ix2 i k)
    = Scalar.select (IntOp.cmpi CmpIPredicate.eq (r (ix1 k)) (BitVec.ofNat 32 n.val))
        (Scalar.select (IntOp.cmpi CmpIPredicate.sge (r (ix1 i)) (BitVec.ofNat 32 n.val))
          (Ideal.div (restV a l (fun _ => BitVec.ofNat 32 n.val) (ix1 i)) (Ideal.sqrt (restV a l (fun _ => BitVec.ofNat 32 n.val) (ix1 n)))) 0)
        (l (ix2 i k)) := by
  unfold fill
  rw [wrap_word]
  have q := clamp_word n.val 127 (by omega) (by decide)
  pointwise []
  have u : ∀ (x : Fin 128) (p q : BitVec 1) (s t : EReal), x.val = n.val →
      Scalar.select p (Scalar.select q (Ideal.div s (Ideal.sqrt (restV a l (fun _ => BitVec.ofNat 32 n.val) (ix1 x)))) 0) t
        = Scalar.select p (Scalar.select q (Ideal.div s (Ideal.sqrt (restV a l (fun _ => BitVec.ofNat 32 n.val) (ix1 n)))) 0) t := by
    intro x p q s t h
    rw [Fin.ext h]
  exact u _ _ _ _ _ q

/-- A selection by a decided proposition. -/
theorem select_of (p : Prop) [Decidable p] (x y : EReal) : Scalar.select (BitVec.ofBool (decide p)) x y = if p then x else y := by
  by_cases h : p
  · simp only [h, decide_true, if_true]; rfl
  · simp only [h, decide_false, if_false]; rfl
/-- The comparison of two row numbers as words is their comparison as numbers. -/
theorem sge_word (j n : Fin 128) : IntOp.cmpi CmpIPredicate.sge (BitVec.ofNat 32 j.val) (BitVec.ofNat 32 n.val) = BitVec.ofBool (decide (n ≤ j)) := by
  revert j n; decide +kernel
/-- Two row numbers are equal as words when they are equal. -/
theorem eq_word (j n : Fin 128) : IntOp.cmpi CmpIPredicate.eq (BitVec.ofNat 32 j.val) (BitVec.ofNat 32 n.val) = BitVec.ofBool (decide (j = n)) := by
  revert j n; decide +kernel

section
variable {L : Fin 128 → Fin 128 → ℝ} (T : Tri L)

/-- The factor's first `n` columns. -/
def FillOk (L : Fin 128 → Fin 128 → ℝ) (n : ℕ) (l : FVec Ideal S128x128 .f32) : Prop :=
  ∀ i k : Fin 128, l (ix2 i k) = if k.val < n then ((L i k : ℝ) : EReal) else 0

/-- If the columns so far are those of the factor, the rest of column n is what is left of it. -/
theorem rest_of (n : Fin 128) (a l : FVec Ideal S128x128 .f32) (ha : ∀ i j, a (ix2 i j) = ((∑ k, L i k * L j k : ℝ) : EReal)) (hl : FillOk L n.val l)
    (i : Fin 128) : restV a l (fun _ => BitVec.ofNat 32 n.val) (ix1 i) = ((rest L n.val i n : ℝ) : EReal) := by
  have e : ∀ k : Fin 128, l (ix2 i k) * l (ix2 n k) = (((if k.val < n.val then L i k * L n k else 0) : ℝ) : EReal) := by
    intro k
    rw [hl, hl]
    by_cases h : k.val < n.val
    · rw [if_pos h, if_pos h, if_pos h, EReal.coe_mul]
    · rw [if_neg h, if_neg h, if_neg h, mul_zero, EReal.coe_zero]
  rw [restV_apply, ha, Finset.sum_congr rfl fun k _ => e k, ← coe_sum, ← EReal.coe_sub]
  congr 1
  unfold rest
  rw [← Finset.sum_sub_distrib]
  refine Finset.sum_congr rfl fun k _ => ?_
  by_cases h : k.val < n.val
  · rw [if_pos h, if_neg (not_le.mpr h), sub_self]
  · rw [if_neg h, if_pos (not_lt.mp h), sub_zero]

include T in
/-- A trip fills in the next column. -/
theorem fill_ok (n : Fin 128) (a l : FVec Ideal S128x128 .f32) (ha : ∀ i j, a (ix2 i j) = ((∑ k, L i k * L j k : ℝ) : EReal)) (hl : FillOk L n.val l)
    (r : IVec S128 32) (hr : ∀ i : Fin 128, r (ix1 i) = BitVec.ofNat 32 i.val) : FillOk L (n.val + 1) (fill a l r (fun _ => BitVec.ofNat 32 n.val)) := by
  intro i k
  rw [fill_apply, hr, hr, eq_word, sge_word, select_of, select_of, rest_of n a l ha hl, rest_of n a l ha hl, rest_col T, rest_col T, sqrt_real _ (T.pos n),
    div_real _ _ (T.pos n).ne', mul_div_assoc, div_self (T.pos n).ne', mul_one, hl]
  by_cases h : k = n
  · subst h
    rw [if_pos rfl, if_pos (Nat.lt_succ_self _)]
    by_cases q : k ≤ i
    · rw [if_pos q]
    · rw [if_neg q, T.zero i k (not_le.mp q), EReal.coe_zero]
  · have : (k.val < n.val) ↔ (k.val < n.val + 1) := by
      have : k.val ≠ n.val := fun q => h (Fin.ext q)
      omega
    simp only [if_neg h, this]

variable (V : Valuation τ sig (Elt Ideal))

include T in
/-- The carried buffers after `n` trips. -/
theorem iter_ok (a : FVec Ideal S128x128 .f32) (h0 : V (Proc.devRef .tc main_v192_0) = a) (ha : ∀ i j, a (ix2 i j) = ((∑ k, L i k * L j k : ℝ) : EReal))
    (h1 : ∀ i : Fin 128, (V (Proc.devRef .tc main_v192_1) : IVec S128 32) (ix1 i) = BitVec.ofNat 32 i.val)
    (h3 : V (Proc.devRef .tc main_v192_3) = (fun _ => 0#32 : IVec S_ 32))
    (h4 : ∀ i k : Fin 128, (V (Proc.devRef .tc main_v192_4) : FVec Ideal S128x128 .f32) (ix2 i k) = (0 : EReal)) (n : ℕ) (hn : n ≤ 128) :
    (STEP^[n] V) (Proc.devRef .tc main_v192_0) = a
      ∧ (STEP^[n] V) (Proc.devRef .tc main_v192_1) = V (Proc.devRef .tc main_v192_1)
      ∧ (STEP^[n] V) (Proc.devRef .tc main_v192_3) = (fun _ => BitVec.ofNat 32 n : IVec S_ 32)
      ∧ FillOk L n ((STEP^[n] V) (Proc.devRef .tc main_v192_4)) := by
  induction n with
  | zero => exact ⟨h0, rfl, h3, fun i k => by rw [if_neg (Nat.not_lt_zero _)]; exact h4 i k⟩
  | succ n ih =>
    obtain ⟨e0, e1, e3, e4⟩ := ih (by omega)
    rw [Function.iterate_succ_apply']
    refine ⟨(STEP_main_v192_0 _).trans e0, (STEP_main_v192_1 _).trans e1, ?_, ?_⟩
    · rw [STEP_main_v192_3]
      unfold step_main_v192_3
      rw [e3]
      funext i
      show BitVec.ofNat 32 n + 1#32 = BitVec.ofNat 32 (n + 1)
      rw [BitVec.ofNat_add]
    · rw [STEP_main_v192_4, step_eq, e0, e1, e3]
      exact fill_ok T ⟨n, by omega⟩ a _ ha e4 _ h1

end

/-- The mean plus the factor's product with the normals. -/
def sample (p z : FVec Ideal S128 .f32) (l : FVec Ideal S128x128 .f32) : FVec Ideal S128 .f32 :=
  addf p (Host.dotGeneral dot_S128x128_S128_S128_1_0_0_n_n_n none l z)

/-- What the operations after the loop make of the factor, the normals and the mean. -/
theorem post_read (V : Valuation τ sig (Elt Ideal)) : after hostOps0_11 V (Proc.devRef .tc main_v194)
    = sample (V (Proc.devRef .tc main_v178)) (V (Proc.devRef .tc main_v170)) (V (Proc.devRef .tc main_v192_4)) := by
  after_reads_simp
  rfl

/-- The sample is the mean plus the product of the matrix and the deviates. -/
theorem post_apply (p z : FVec Ideal S128 .f32) (l : FVec Ideal S128x128 .f32) (j : Fin 128) :
    sample p z l (ix1 j) = p (ix1 j) + ∑ k : Fin 128, l (ix2 j k) * z (ix1 k) := by
  pointwise [sample]

variable (m : (ℓ : Loc nD τ sig) → Buf (Elt Ideal) ℓ)

/-- The sample, of the contents before the operations after the loop. -/
theorem sample_of (X : Valuation τ sig (Elt Ideal)) {L : Fin 128 → Fin 128 → ℝ} (p z : FVec Ideal S128 .f32)
    (hp : X (Proc.devRef .tc main_v178) = p) (hz : X (Proc.devRef .tc main_v170) = z) (hl : FillOk L 128 (X (Proc.devRef .tc main_v192_4))) (j : Fin 128) :
    ((after hostOps0_11 X (Proc.devRef .tc main_v194)) : FVec Ideal S128 .f32) (ix1 j) = p (ix1 j) + ∑ k : Fin 128, ((L j k : ℝ) : EReal) * z (ix1 k) := by
  rw [post_read, hp, hz, post_apply]
  congr 1
  refine Finset.sum_congr rfl fun k _ => ?_
  rw [hl j k, if_pos k.isLt]

/-- The factor the loop's conditions see. -/
theorem fill_at (c : Dev nD) {L : Fin 128 → Fin 128 → ℝ} (T : Tri L) (a : FVec Ideal S128x128 .f32)
    (h0 : entryContents preI m c (Proc.devRef .tc main_v192_0) = a) (ha : ∀ i j, a (ix2 i j) = ((∑ k, L i k * L j k : ℝ) : EReal))
    (h1 : ∀ i : Fin 128, (entryContents preI m c (Proc.devRef .tc main_v192_1) : IVec S128 32) (ix1 i) = BitVec.ofNat 32 i.val)
    (h3 : entryContents preI m c (Proc.devRef .tc main_v192_3) = (fun _ => 0#32 : IVec S_ 32))
    (h4 : ∀ i k : Fin 128, (entryContents preI m c (Proc.devRef .tc main_v192_4) : FVec Ideal S128x128 .f32) (ix2 i k) = (0 : EReal)) (n : ℕ) (hn : n ≤ 128) :
    FillOk L n (after condOps (atK m n c) (Proc.devRef .tc main_v192_4)) := by
  have e := (iter_ok T (entryContents preI m c) a h0 ha h1 h3 h4 n hn).2.2.2
  have q : after condOps (atK m n c) (Proc.devRef .tc main_v192_4) = (STEP^[n] (entryContents preI m c)) (Proc.devRef .tc main_v192_4) :=
    (cond_keeps (atK m n c) main_v192_4 (by decide)).trans (atK_agree m c n main_v192_4 (by decide))
  rw [q]
  exact e

/-- The sample, of the values the loop is entered with. -/
theorem sample_value (c : Dev nD) {L : Fin 128 → Fin 128 → ℝ} (T : Tri L) (p z : FVec Ideal S128 .f32) (a : FVec Ideal S128x128 .f32)
    (hp : entryContents preI m c (Proc.devRef .tc main_v178) = p) (hz : entryContents preI m c (Proc.devRef .tc main_v170) = z)
    (h0 : entryContents preI m c (Proc.devRef .tc main_v192_0) = a) (ha : ∀ i j, a (ix2 i j) = ((∑ k, L i k * L j k : ℝ) : EReal))
    (h1 : ∀ i : Fin 128, (entryContents preI m c (Proc.devRef .tc main_v192_1) : IVec S128 32) (ix1 i) = BitVec.ofNat 32 i.val)
    (h3 : entryContents preI m c (Proc.devRef .tc main_v192_3) = (fun _ => 0#32 : IVec S_ 32))
    (h4 : ∀ i k : Fin 128, (entryContents preI m c (Proc.devRef .tc main_v192_4) : FVec Ideal S128x128 .f32) (ix2 i k) = (0 : EReal)) (j : Fin 128) :
    ((after hostOps0_11 (after condOps (atK m 128 c)) (Proc.devRef .tc main_v194)) : FVec Ideal S128 .f32) (ix1 j)
      = p (ix1 j) + ∑ k : Fin 128, ((L j k : ℝ) : EReal) * z (ix1 k) :=
  sample_of (after condOps (atK m 128 c)) p z ((exit_keep m c main_v178 (by decide +kernel)).trans hp)
    ((exit_keep m c main_v170 (by decide +kernel)).trans hz) (fill_at m c T a h0 ha h1 h3 h4 128 (le_refl _)) j

end Cert.ReferenceIdeal.Hand

end
-- ==== Proof.RefValue.lean ====
/-
  The reference's drawn component and normals, over the extended reals: they are the kernel's.
-/
module

public import proofs.«01_k».proof.Proof.RefEntry
public import proofs.«01_k».proof.Proof.RefLoop
public import proofs.«01_k».proof.Proof.Value

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.StableHlo
open Cert.Count
open Cert.KernelIdeal.Hand (tf key2 keyI keyS wordI wordsS normals unitS)

/-- The first of two words. -/
theorem fst2_apply (x : IVec S2 32) : fst2 x ix0 = x (ix1 0) := by
  pointwise [fst2]
/-- The second of two words. -/
theorem snd2_apply (x : IVec S2 32) : snd2 x ix0 = x (ix1 1) := by
  pointwise [snd2]
/-- The first word of the seed is zero. -/
theorem seed0 (s : IVec S_ 32) : seedWords s (ix1 0) = 0#32 := by
  pointwise [seedWords]
  simp [IntOp.shrui, IntOp.cornerWord]
/-- The second word of the seed is the argument. -/
theorem seed1 (s : IVec S_ 32) : seedWords s (ix1 1) = s ix0 := by
  pointwise [seedWords]
  exact BitVec.and_allOnes (x := s ix0)
/-- The first key is made of the first words. -/
theorem row0_apply (a b : IVec S2 32) : row0 (beside a b) (ix1 0) = a (ix1 0) ∧ row0 (beside a b) (ix1 1) = b (ix1 0) := by
  constructor
  · pointwise [row0, beside]
  · pointwise [row0, beside]
/-- The second key is made of the second words. -/
theorem row1_apply (a b : IVec S2 32) : row1 (beside a b) (ix1 0) = a (ix1 1) ∧ row1 (beside a b) (ix1 1) = b (ix1 1) := by
  constructor
  · pointwise [row1, beside]
  · pointwise [row1, beside]
/-- The two counters are zero and one. -/
theorem lo2_apply (i : Fin 2) : lo2 (ix1 i) = BitVec.ofNat 32 i.val ∧ hi2 (ix1 i) = 0#32 := by
  constructor
  · pointwise [lo2]
    revert i; decide +kernel
  · pointwise [hi2]
    revert i; decide +kernel
/-- The counters are the numbers below 128. -/
theorem lo128_apply (i : Fin 128) : lo128 (ix1 i) = BitVec.ofNat 32 i.val ∧ hi128 (ix1 i) = 0#32 := by
  constructor
  · pointwise [lo128]
    revert i; decide +kernel
  · pointwise [hi128]
    revert i; decide +kernel
/-- The last of 1024 numbers. -/
theorem last_apply (x : FVec Ideal S1024 .f32) : last x ix0 = x (ix1 1023) := by
  pointwise [last]
/-- Every unit shifts right by nine alike. -/
theorem shr9 (u : ArithUnit) (x : BitVec 32) : IntOp.shrui u x 9#32 = x >>> 9 := rfl
/-- The threshold: the last cumulative sum times one minus the uniform number. -/
theorem thresh_apply (a b : IVec S_ 32) (t : FVec Ideal S_ .f32) : thresh a b t ix0 = t ix0 * (1 - unitS (F := Ideal) (IntOp.xori (a ix0) (b ix0))) := by
  pointwise [thresh, unitS]
  rfl
/-- The reference's shares are the shares of the weights. -/
theorem shares_apply (w : FVec Ideal S1024 .f32) (n : Fin 1024) : shares w (ix1 n) = share (fun n => w (ix1 n)) n := by
  pointwise [shares]
  rfl
/-- The reference's count is the number of entries below the threshold. -/
theorem counted_apply (x : FVec Ideal S1024 .f32) (r : FVec Ideal S_ .f32) : counted x r ix0 = BitVec.ofNat 32 (below (fun n => x (ix1 n)) (r ix0)) := by
  pointwise [counted]
  exact fold_count Finset.univ (fun k : Fin 1024 => x (ix1 k) < r ix0)

/-- Adding one by one gives the sum. -/
theorem foldl_sum {N : ℕ} (g : Fin N → EReal) (a : EReal) : (List.finRange N).foldl (fun r n => r + g n) a = a + ∑ n, g n := by
  have h : ∀ (l : List (Fin N)) (a : EReal), l.foldl (fun r n => r + g n) a = a + (l.map g).sum := by
    intro l
    induction l with
    | nil => intro a; simp
    | cons x l ih => intro a; rw [List.foldl_cons, ih, List.map_cons, List.sum_cons, add_assoc]
  rw [h, Fin.sum_univ_def]

/-- Windows of 1024 ending at each place hold the numbers up to it. -/
theorem window_sum (f : Fin 1024 → EReal) (j : Fin 1024) :
    (∑ n : Fin 1024, if h : 1023 ≤ j.val + n.val then f ⟨j.val + n.val - 1023, by omega⟩ else 0) = cum f j := by
  unfold cum
  have e : ∀ n : Fin 1024, (if h : 1023 ≤ j.val + n.val then f ⟨j.val + n.val - 1023, by omega⟩ else 0)
      = if 1023 ≤ j.val + n.val then f ⟨j.val + n.val - 1023, by omega⟩ else 0 := fun n => by
    split <;> rfl
  rw [Finset.sum_congr rfl fun n _ => e n, ← Finset.sum_filter, ← Finset.sum_filter]
  refine Finset.sum_bij' (fun n _ => ⟨j.val + n.val - 1023, by omega⟩) (fun m hm => ⟨m.val + 1023 - j.val, ?_⟩) ?_ ?_ ?_ ?_ ?_
  · have := (Finset.mem_filter.1 hm).2
    rw [Fin.le_def] at this
    omega
  · intro n hn
    have := (Finset.mem_filter.1 hn).2
    refine Finset.mem_filter.2 ⟨Finset.mem_univ _, ?_⟩
    rw [Fin.le_def]
    show j.val + n.val - 1023 ≤ j.val
    omega
  · intro m hm
    have := (Finset.mem_filter.1 hm).2
    rw [Fin.le_def] at this
    refine Finset.mem_filter.2 ⟨Finset.mem_univ _, ?_⟩
    show 1023 ≤ j.val + (m.val + 1023 - j.val)
    omega
  · intro n hn
    have := (Finset.mem_filter.1 hn).2
    apply Fin.ext
    show j.val + n.val - 1023 + 1023 - j.val = n.val
    omega
  · intro m hm
    have := (Finset.mem_filter.1 hm).2
    rw [Fin.le_def] at this
    apply Fin.ext
    show j.val + (m.val + 1023 - j.val) - 1023 = m.val
    omega
  · intro n hn
    rfl

/-- The places of an array of rank one are its indices in order. -/
theorem place {N : ℕ} (n : Fin (⟨1, ![N]⟩ : Shape).numel) : (((⟨1, ![N]⟩ : Shape).rowMajor.symm n) 0).val = n.val := by
  have hN : (⟨1, ![N]⟩ : Shape).numel = N := Shape.numel_rank1 _
  have h : (⟨1, ![N]⟩ : Shape).rowMajor.symm n = ix1 (n.cast hN) :=
    ((⟨1, ![N]⟩ : Shape).rowMajor.symm_apply_eq).2 (Fin.ext (by rw [Shape.rowMajor_val_one]; rfl))
  rw [h]
  rfl

/-- A fold over an equal number of steps that do the same is equal. -/
theorem foldl_cast {N M : ℕ} (h : N = M) (f : EReal → Fin N → EReal) (g : EReal → Fin M → EReal) (a : EReal) (e : ∀ r n, f r n = g r (n.cast h)) :
    (List.finRange N).foldl f a = (List.finRange M).foldl g a := by
  subst h
  have : f = g := funext fun r => funext fun n => e r n
  rw [this]

/-- The reference's cumulative sums are the plain ones. -/
theorem sums_apply (x : FVec Ideal S1024 .f32) (j : Fin 1024) : sums x (ix1 j) = cum (fun n => x (ix1 n)) j := by
  have e : sums x (ix1 j) = (List.finRange 1024).foldl (fun r n => r + (if h : 1023 ≤ j.val + n.val then x (ix1 ⟨j.val + n.val - 1023, by omega⟩) else 0)) 0 := by
    have hv : (broadcastInDim S_ ![] bcast_S_S_ (constant (F := Ideal) S_ .f32 0x00000000#32)) (Shape.Idx.first h_S_) = (0 : EReal) := by
      rw [show Shape.Idx.first h_S_ = ix0 from funext fun a => a.elim0]
      pointwise []
    show Host.reduceWindow (fun a b : EReal => a + b) ![1024] ![1] ![1023] ![0] x
      (fun _ : (⟨0, ![]⟩ : Shape).Idx => (broadcastInDim S_ ![] bcast_S_S_ (constant (F := Ideal) S_ .f32 0x00000000#32)) (Shape.Idx.first h_S_))
      reduceWindows_S1024_S1024_w1024s1p1023_0 h_S_ (ix1 j) = _
    rw [hv]
    unfold Host.reduceWindow
    refine foldl_cast (Shape.numel_rank1 _) _ _ _ fun r n => ?_
    have q := place (N := 1024) n
    have hn : n.val < 1024 := (n.cast (Shape.numel_rank1 _)).isLt
    have hj := j.isLt
    dsimp only
    congr 1
    by_cases h : 1023 ≤ j.val + n.val
    · rw [dif_pos (show 1023 ≤ j.val + (n.cast (Shape.numel_rank1 _)).val from h), dif_pos]
      · congr 1
        funext a
        fin_cases a
        apply Fin.ext
        show j.val * 1 + (((⟨1, ![1024]⟩ : Shape).rowMajor.symm n) 0).val - 1023 = j.val + n.val - 1023
        rw [q, Nat.mul_one]
      · intro a
        fin_cases a
        show 1023 ≤ j.val * 1 + (((⟨1, ![1024]⟩ : Shape).rowMajor.symm n) 0).val ∧ j.val * 1 + (((⟨1, ![1024]⟩ : Shape).rowMajor.symm n) 0).val - 1023 < 1024
        rw [q, Nat.mul_one]
        omega
    · rw [dif_neg (show ¬ 1023 ≤ j.val + (n.cast (Shape.numel_rank1 _)).val from h), dif_neg]
      intro hin
      have := (hin 0).1
      have t : 1023 ≤ j.val * 1 + (((⟨1, ![1024]⟩ : Shape).rowMajor.symm n) 0).val := this
      rw [q, Nat.mul_one] at t
      exact h t
  rw [e, foldl_sum, zero_add, window_sum (fun n => x (ix1 n))]

/-- An index that is not negative is not moved. -/
theorem wrapN_word (n : Fin 1024) : wrapN (fun _ => BitVec.ofNat 32 n.val) = fun _ => BitVec.ofNat 32 n.val := by
  have h : ∀ n : Fin 1024, Scalar.select (IntOp.cmpi .slt (BitVec.ofNat 32 n.val) 0#32) (IntOp.addi (BitVec.ofNat 32 n.val) 1024#32) (BitVec.ofNat 32 n.val) = BitVec.ofNat 32 n.val := by
    decide +kernel
  funext i
  exact h n
/-- The other start indices are zero. -/
theorem zeroN_word : zeroN = fun _ => 0#32 := rfl
/-- A start index of zero stays zero. -/
theorem clamp_zero (m k : ℕ) : (min (max (0#32).toInt 0) (m : Int)).toNat + k = k := by simp
/-- The row read from the means is that of the index. -/
theorem meanOf_apply (x : FVec Ideal S1024x128 .f32) (n : Fin 1024) (j : Fin 128) : meanOf x (fun _ => BitVec.ofNat 32 n.val) (ix1 j) = x (ix2 n j) := by
  unfold meanOf
  rw [wrapN_word, zeroN_word]
  pointwise []
  have u : ∀ (p : Fin 1024) (q : Fin 128), p.val = n.val → q.val = j.val → x (ix2 p q) = x (ix2 n j) := by
    intro p q h1 h2
    rw [Fin.ext h1, Fin.ext h2]
  exact u _ _ (clamp_word n.val 1023 (by omega) (by decide)) (clamp_zero 0 j.val)
/-- The matrix read from the covariances is that of the index. -/
theorem covOf_apply (x : FVec Ideal S1024x128x128 .f32) (n : Fin 1024) (i j : Fin 128) : covOf x (fun _ => BitVec.ofNat 32 n.val) (ix2 i j) = x (ix3 n i j) := by
  unfold covOf
  rw [wrapN_word, zeroN_word]
  pointwise []
  have u : ∀ (p : Fin 1024) (q r : Fin 128), p.val = n.val → q.val = i.val → r.val = j.val → x (ix3 p q r) = x (ix3 n i j) := by
    intro p q r h1 h2 h3
    rw [Fin.ext h1, Fin.ext h2, Fin.ext h3]
  exact u _ _ _ (clamp_word n.val 1023 (by omega) (by decide)) (clamp_zero 0 i.val) (clamp_zero 0 j.val)

open Cert.KernelIdeal.Hand (logw uniform center tail lit hstep tail5 unitV wc wt)
/-- The central polynomial is the same in both programs. -/
theorem rcenter_apply (w : FVec Ideal S128 .f32) (v : FVec Ideal Cert.KernelIdeal.S1x128 .f32) (k : Fin 128) (h : w (ix1 k) = v (ix2 0 k)) :
    rcenter w (ix1 k) = center v (ix2 0 k) := by
  pointwise [rcenter, center, rstep, hstep, rlit, lit]
  rw [h, zero_mul, add_zero]
/-- The polynomial of the tails is the same in both programs. -/
theorem rtail_apply (w : FVec Ideal S128 .f32) (v : FVec Ideal Cert.KernelIdeal.S1x128 .f32) (k : Fin 128) (h : w (ix1 k) = v (ix2 0 k)) :
    rtail w (ix1 k) = tail v (ix2 0 k) := by
  pointwise [rtail, tail, tail5, rstep, hstep, rlit, lit]
  rw [h, zero_mul, add_zero]
/-- The uniform numbers are the same in both programs. -/
theorem runiform_apply (a b : IVec S128 32) (v : IVec Cert.KernelIdeal.S1x128 32) (k : Fin 128) (h : xori a b (ix1 k) = v (ix2 0 k)) :
    runiform (F := Ideal) a b (ix1 k) = uniform (F := Ideal) v (ix2 0 k) := by
  unfold runiform
  generalize xori a b = z at h
  pointwise [uniform, rlit, lit, unitV]
  rw [h, shr9, shr9]
/-- The logarithm that the polynomials are taken of is the same in both programs. -/
theorem rlogw_apply (w : FVec Ideal S128 .f32) (v : FVec Ideal Cert.KernelIdeal.S1x128 .f32) (k : Fin 128) (h : w (ix1 k) = v (ix2 0 k)) :
    rlogw w (ix1 k) = logw v (ix2 0 k) := by
  pointwise [rlogw, logw, lit]
  rw [h, zero_sub, zero_sub]

/-! ## The draws -/

/-- The two keys are the cipher of the counters zero and one under the seed. -/
theorem keys_apply (s : IVec S_ 32) (i : Fin 2) :
    ((keys (seedWords s)).1 (ix1 i), (keys (seedWords s)).2 (ix1 i)) = tf 0#32 (s ix0) 0#32 (BitVec.ofNat 32 i.val) := by
  have h := at2_htf (broadcastInDim S2 ![] bcast_S_S2 (fst2 (seedWords s))) (broadcastInDim S2 ![] bcast_S_S2 (snd2 (seedWords s)))
    (broadcastInDim S2 ![] bcast_S_S2 (hkey (fst2 (seedWords s)) (snd2 (seedWords s)))) (hi2, lo2) (ix1 i) rfl
  have b : ∀ x : IVec S_ 32, broadcastInDim S2 ![] bcast_S_S2 x (ix1 i) = x ix0 := fun x => by pointwise []
  rw [b, b, fst2_apply, snd2_apply, seed0, seed1] at h
  refine h.trans ?_
  show tf 0#32 (s ix0) (hi2 (ix1 i)) (lo2 (ix1 i)) = _
  rw [(lo2_apply i).1, (lo2_apply i).2]

/-- The reference's key of the index is the kernel's. -/
theorem keyI_words (s : IVec S_ 32) : fst2 (rkeyI s) ix0 = (keyI (s ix0)).1 ∧ snd2 (rkeyI s) ix0 = (keyI (s ix0)).2 := by
  have h := keys_apply s 0
  unfold rkeyI keyI
  rw [fst2_apply, snd2_apply, (row0_apply _ _).1, (row0_apply _ _).2]
  exact ⟨congrArg Prod.fst h, congrArg Prod.snd h⟩
/-- The reference's key of the deviates is the kernel's. -/
theorem keyS_words (s : IVec S_ 32) : fst2 (rkeyS s) ix0 = (keyS (s ix0)).1 ∧ snd2 (rkeyS s) ix0 = (keyS (s ix0)).2 := by
  have h := keys_apply s 1
  unfold rkeyS keyS
  rw [fst2_apply, snd2_apply, (row1_apply _ _).1, (row1_apply _ _).2]
  exact ⟨congrArg Prod.fst h, congrArg Prod.snd h⟩

/-- The word of the component's draw is the kernel's. -/
theorem wordI_eq (s : IVec S_ 32) : IntOp.xori ((rwordI s).1 ix0) ((rwordI s).2 ix0) = wordI (s ix0) := by
  have h := at2_htf (fst2 (rkeyI s)) (snd2 (rkeyI s)) (hkey (fst2 (rkeyI s)) (snd2 (rkeyI s))) (constantI S_ 32 0#32, constantI S_ 32 0#32) ix0 rfl
  rw [(keyI_words s).1, (keyI_words s).2] at h
  have h1 : (rwordI s).1 ix0 = (tf (keyI (s ix0)).1 (keyI (s ix0)).2 0#32 0#32).1 := congrArg Prod.fst h
  have h2 : (rwordI s).2 ix0 = (tf (keyI (s ix0)).1 (keyI (s ix0)).2 0#32 0#32).2 := congrArg Prod.snd h
  rw [h1, h2]
  rfl

/-- So are the words of the normals' draw. -/
theorem wordsS_eq (s : IVec S_ 32) (k : Fin 128) : xori (rwordsS s).1 (rwordsS s).2 (ix1 k) = wordsS (s ix0) (ix2 0 k) := by
  have h := at2_htf (broadcastInDim S128 ![] bcast_S_S128 (fst2 (rkeyS s))) (broadcastInDim S128 ![] bcast_S_S128 (snd2 (rkeyS s)))
    (broadcastInDim S128 ![] bcast_S_S128 (hkey (fst2 (rkeyS s)) (snd2 (rkeyS s)))) (hi128, lo128) (ix1 k) rfl
  have b : ∀ x : IVec S_ 32, broadcastInDim S128 ![] bcast_S_S128 x (ix1 k) = x ix0 := fun x => by pointwise []
  rw [b, b, (keyS_words s).1, (keyS_words s).2] at h
  have g : (hi128 (ix1 k), lo128 (ix1 k)) = (0#32, BitVec.ofNat 32 k.val) := by rw [(lo128_apply k).1, (lo128_apply k).2]
  have g1 : hi128 (ix1 k) = 0#32 := congrArg Prod.fst g
  have g2 : lo128 (ix1 k) = BitVec.ofNat 32 k.val := congrArg Prod.snd g
  change _ = tf _ _ (hi128 (ix1 k)) (lo128 (ix1 k)) at h
  rw [g1, g2] at h
  have q := Cert.KernelIdeal.Hand.at2_vtf (keyS (s ix0)).1 (keyS (s ix0)).2 (ix2 0 k)
  have l : Cert.KernelIdeal.Hand.lane (ix2 0 k) = BitVec.ofNat 32 k.val := by pointwise [Cert.KernelIdeal.Hand.lane]
  rw [l] at q
  have e := h.trans q.symm
  have h1 := congrArg Prod.fst e
  have h2 := congrArg Prod.snd e
  show IntOp.xori ((rwordsS s).1 (ix1 k)) ((rwordsS s).2 (ix1 k)) = IntOp.xori _ _
  exact congrArg₂ IntOp.xori h1 h2

/-- The component drawn is numbered as the kernel's. -/
theorem rindex_eq (s : IVec S_ 32) (w : FVec Ideal S1024 .f32) :
    rindex s w = fun _ => BitVec.ofNat 32 (draw (unitS (F := Ideal) (wordI (s ix0))) (fun n => w (ix1 n))) := by
  have e : (fun n => sums (shares w) (ix1 n)) = cum (share (fun n => w (ix1 n))) := by
    funext n
    rw [sums_apply]
    congr 1
    funext i
    exact shares_apply w i
  funext i
  rw [show i = ix0 from funext fun a => a.elim0]
  unfold rindex
  rw [counted_apply, thresh_apply, last_apply, wordI_eq, e, show sums (shares w) (ix1 1023) = cum (share (fun n => w (ix1 n))) 1023 from congrFun e 1023]
  rfl

/-- The normals are the kernel's. -/
theorem rnormals_apply (s : IVec S_ 32) (k : Fin 128) : rnormals (F := Ideal) (rwordsS s) (ix1 k) = normals (F := Ideal) (wordsS (s ix0)) (ix2 0 k) := by
  have u := runiform_apply (rwordsS s).1 (rwordsS s).2 (wordsS (s ix0)) k (wordsS_eq s k)
  have l := rlogw_apply _ _ k u
  unfold rnormals normals
  have c : rcenter (subf (rlogw (runiform (F := Ideal) (rwordsS s).1 (rwordsS s).2)) (rlit 0x40200000#32)) (ix1 k) = center (wc (uniform (wordsS (s ix0)))) (ix2 0 k) := by
    refine rcenter_apply _ _ k ?_
    pointwise [wc, rlit, lit]
    rw [l]
  have t : rtail (subf (Host.sqrt (rlogw (runiform (F := Ideal) (rwordsS s).1 (rwordsS s).2))) (rlit 0x40400000#32)) (ix1 k) = tail (wt (uniform (wordsS (s ix0)))) (ix2 0 k) := by
    refine rtail_apply _ _ k ?_
    pointwise [wt, rlit, lit]
    rw [l]
  unfold rlit at c t
  pointwise [rlit, lit]
  rw [u, l, c, t]

end Cert.ReferenceIdeal.Hand

end
-- ==== Proof.lean ====
/-
  The claim: the kernel and the reference each run to the end from every argument the assumption admits, leave their arguments
  and their counters as they found them, and end with the same sample, exactly, over the extended reals.
-/
module

public import proofs.«01_k».proof.Defs
public import proofs.«01_k».proof.Proof.Value
public import proofs.«01_k».proof.Proof.RefValue
public import Idealize.ShloMosaic.Adequacy
public import Idealize.ShloMosaic.Init

@[expose] public section

set_option maxRecDepth 16384

noncomputable section

namespace Cert.Proof

open Idealize.ShloMosaic Idealize.SL.Sem

/-- The assumption says that no weight is negative. -/
theorem weights_of {m} (h : Cert.Pre_KernelIdeal m) (c : Dev Cert.KernelIdeal.nD) (n : Fin 1024) :
    0 ≤ Cert.KernelIdeal.Hand.argWeights m c n :=
  Cert.Pre_positive_definite.Hand.weights _ _ _ _ _ (h c).1 n

/-- The kernel runs and leaves its arguments and counters unchanged. -/
theorem kernel_frame : Cert.quiescent_KernelIdeal := fun m g h =>
  (θ_run _ _ _).mono (fun _ r => ⟨fun c => (r.1 c).2, r.2⟩)
    (Cert.KernelIdeal.Hand.run m g (Cert.KernelIdeal.Hand.picked_chk m (weights_of h)))

/-- So does the reference. -/
theorem reference_frame : Cert.quiescent_ReferenceIdeal := fun m g _ =>
  (θ_run _ _ _).mono (fun _ r => ⟨fun c => (r.1 c).2, r.2⟩) (Cert.ReferenceIdeal.Hand.run m g)

section
open Cert.Count Cert.Chol
open Cert.KernelIdeal.Hand (argWeights argMeans argCovs seedOf picked resultOf normals wordsS wordI unitS)

variable {m : (ℓ : Loc Cert.KernelIdeal.nD Cert.KernelIdeal.τ Cert.KernelIdeal.sig) → Buf (Elt Ideal) ℓ}

/-- The factors the assumption speaks of. -/
def factor (m : (ℓ : Loc Cert.KernelIdeal.nD Cert.KernelIdeal.τ Cert.KernelIdeal.sig) → Buf (Elt Ideal) ℓ) (c : Dev Cert.KernelIdeal.nD) (n : Fin 1024) (i k : Fin 128) : EReal :=
  (m ((c.tc : Thread Cert.KernelIdeal.nD Cert.KernelIdeal.τ).loc Cert.KernelIdeal.main_arg4)) (ix3 n i k)
/-- The same as reals. -/
def real (m : (ℓ : Loc Cert.KernelIdeal.nD Cert.KernelIdeal.τ Cert.KernelIdeal.sig) → Buf (Elt Ideal) ℓ) (c : Dev Cert.KernelIdeal.nD) (n : Fin 1024) (i k : Fin 128) : ℝ := (factor m c n i k).toReal

/-- Every entry of an assumed factor is a real number. -/
theorem factor_eq (h : Cert.Pre_KernelIdeal m) (c : Dev Cert.KernelIdeal.nD) (n : Fin 1024) (i k : Fin 128) : factor m c n i k = ((real m c n i k : ℝ) : EReal) := by
  have f := Cert.Pre_positive_definite.Hand.finite _ _ _ _ _ (h c).2.1 n i k
  exact (EReal.coe_toReal f.1 f.2).symm

/-- Each factor is lower triangular with a positive diagonal. -/
theorem factor_tri (h : Cert.Pre_KernelIdeal m) (c : Dev Cert.KernelIdeal.nD) (n : Fin 1024) : Tri (real m c n) where
  zero i j l := by
    have z : factor m c n i j = 0 := Cert.Pre_positive_definite.Hand.lower _ _ _ _ _ (h c).2.2.1 n i j l
    unfold real
    rw [z, EReal.toReal_zero]
  pos i := by
    have z : 0 < factor m c n i i := Cert.Pre_positive_definite.Hand.diagonal _ _ _ _ _ (h c).2.2.2.1 n i
    rw [factor_eq h] at z
    exact EReal.coe_pos.1 z

/-- Each covariance is the product of its factor with the factor's transpose. -/
theorem covs_eq (h : Cert.Pre_KernelIdeal m) (c : Dev Cert.KernelIdeal.nD) (n : Fin 1024) (i j : Fin 128) :
    argCovs m c n i j = ((∑ k, real m c n i k * real m c n j k : ℝ) : EReal) := by
  have p : argCovs m c n i j = ∑ k : Fin 128, factor m c n i k * factor m c n j k := Cert.Pre_positive_definite.Hand.product _ _ _ _ _ (h c).2.2.2.2 n i j
  rw [p, coe_sum]
  refine Finset.sum_congr rfl fun k _ => ?_
  rw [factor_eq h, factor_eq h, EReal.coe_mul]

/-- The reference's sample, from the same arguments, is the kernel's. -/
theorem same (h : Cert.Pre_KernelIdeal m) (m' : (ℓ : Loc Cert.ReferenceIdeal.nD Cert.ReferenceIdeal.τ Cert.ReferenceIdeal.sig) → Buf (Elt Ideal) ℓ)
    (c : Dev Cert.KernelIdeal.nD) (hk : Cert.KernelIdeal.k0_chk1 (picked m c))
    (e0 : ∀ n j, (Cert.ReferenceIdeal.Hand.argMean m' c (ix2 n j) : EReal) = argMeans m c n j)
    (e1 : ∀ n i j, (Cert.ReferenceIdeal.Hand.argCov m' c (ix3 n i j) : EReal) = argCovs m c n i j)
    (e2 : ∀ n, (Cert.ReferenceIdeal.Hand.argWts m' c (ix1 n) : EReal) = argWeights m c n)
    (e3 : Cert.ReferenceIdeal.Hand.argSeed m' c ix0 = seedOf m c) (j : Fin 128) :
    ((StableHlo.after Cert.ReferenceIdeal.Gen.hostOps0_11 (StableHlo.after Cert.ReferenceIdeal.Value.condOps (Cert.ReferenceIdeal.Value.atK m' 128 c))
      (Proc.devRef .tc Cert.ReferenceIdeal.main_v194)) : FVec Ideal Cert.ReferenceIdeal.S128 .f32) (ix1 j)
      = (resultOf m c hk : FVec Ideal Cert.KernelIdeal.S128 .f32) (ix1 j) := by
  have u := Cert.KernelIdeal.Hand.unit_apply (wordI (seedOf m c))
  have lt := draw_lt (unitS (F := Ideal) (wordI (seedOf m c))) (argWeights m c) (weights_of h c) u.1 u.2
  obtain ⟨n, hn⟩ : ∃ n : Fin 1024, n.val = draw (unitS (F := Ideal) (wordI (seedOf m c))) (argWeights m c) := ⟨⟨_, lt⟩, rfl⟩
  have pk := Cert.KernelIdeal.Hand.picked_eq m (weights_of h) c
  rw [← hn] at pk
  have ri : Cert.ReferenceIdeal.Hand.rindex (Cert.ReferenceIdeal.Hand.argSeed m' c) (Cert.ReferenceIdeal.Hand.argWts m' c) = fun _ => BitVec.ofNat 32 n.val := by
    rw [Cert.ReferenceIdeal.Hand.rindex_eq, e3, hn]
    rw [show (fun n => Cert.ReferenceIdeal.Hand.argWts m' c (ix1 n)) = argWeights m c from funext e2]
  have p := Cert.ReferenceIdeal.Hand.entry_v178 m' c
  have a := Cert.ReferenceIdeal.Hand.entry_v192_0 m' c
  rw [ri] at p a
  refine (Cert.ReferenceIdeal.Hand.sample_value m' c (factor_tri h c n) _ _ _ p (Cert.ReferenceIdeal.Hand.entry_v170 m' c) a ?_ ?_
    (Cert.ReferenceIdeal.Hand.entry_v192_3 m' c) ?_ j).trans ?_
  · intro i j
    rw [Cert.ReferenceIdeal.Hand.covOf_apply, e1, covs_eq h]
  · intro i
    rw [Cert.ReferenceIdeal.Hand.entry_v192_1]
    pointwise []
  · intro i k
    rw [Cert.ReferenceIdeal.Hand.entry_v192_4]
    pointwise []
  · refine Eq.trans ?_ (Cert.KernelIdeal.Hand.result_value m c n pk hk (real m c n) (factor_tri h c n) (covs_eq h c n) j).symm
    rw [Cert.ReferenceIdeal.Hand.meanOf_apply, e0]
    congr 1
    refine Finset.sum_congr rfl fun k _ => ?_
    rw [Cert.ReferenceIdeal.Hand.rnormals_apply, e3]

end

/-- From every argument the assumption admits the two end with the same sample. -/
theorem algebraic : Cert.algebraic_KernelIdeal_ReferenceIdeal := fun m g m' g' h e => by
  refine ⟨fun c => Cert.KernelIdeal.Hand.resultOf m c (Cert.KernelIdeal.Hand.picked_chk m (weights_of h) c),
    (θ_run _ _ _).mono (fun _ r => r.1) (Cert.KernelIdeal.Hand.run m g (Cert.KernelIdeal.Hand.picked_chk m (weights_of h))),
    (θ_run _ _ _).mono (fun _ r c => ⟨?_, (r.1 c).2⟩) (Cert.ReferenceIdeal.Hand.run m' g')⟩
  refine (r.1 c).1.trans ?_
  have d : ∀ i : Cert.ReferenceIdeal.S128.Idx, i = ix1 (i 0) := fun i => by
    funext a
    fin_cases a
    rfl
  refine funext fun i => ?_
  rw [d i]
  refine same h m' c _ (fun n j => ?_) (fun n i j => ?_) (fun n => ?_) ?_ _
  · exact congrFun (e c).1 (ix2 n j)
  · exact congrFun (e c).2.1 (ix3 n i j)
  · exact congrFun (e c).2.2.1 (ix1 n)
  · rw [Cert.KernelIdeal.Hand.seedOf_eq]
    refine (congrFun (e c).2.2.2.1 ix0).trans (congrArg _ ?_)
    exact funext fun a => a.elim0

/-- Everything claimed. -/
theorem claim : Cert.Claim :=
  ⟨Cert.KernelIdeal.Gen.facts, Cert.ReferenceIdeal.Gen.facts, Cert.Pre_positive_definite.Hand.facts,
    kernel_frame, reference_frame, algebraic⟩

end Cert.Proof

end
